-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S3x256x4096 : Shape := ⟨3, ![3, 256, 4096]⟩
abbrev S3x2 : Shape := ⟨2, ![3, 2]⟩
abbrev S8x128 : Shape := ⟨2, ![8, 128]⟩
abbrev S16x8x128 : Shape := ⟨3, ![16, 8, 128]⟩
abbrev S16 : Shape := ⟨1, ![16]⟩
abbrev S_ : Shape := ⟨0, ![]⟩
abbrev S1x1 : Shape := ⟨2, ![1, 1]⟩
abbrev S1x128x4096 : Shape := ⟨3, ![1, 128, 4096]⟩
abbrev S128x4096 : Shape := ⟨2, ![128, 4096]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩
abbrev S1x256x4096 : Shape := ⟨3, ![1, 256, 4096]⟩
abbrev S128x128 : Shape := ⟨2, ![128, 128]⟩
abbrev S1x128x128 : Shape := ⟨3, ![1, 128, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x128, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S4096x128, .f32⟩
  | .local _ .vmem, ⟨3, _⟩ => ⟨S3x256x4096, .f32⟩
  | .local _ .vmem, ⟨4, _⟩ => ⟨S3x256x4096, .f32⟩
  | .local _ .vmem, ⟨5, _⟩ => ⟨S8x128, .f32⟩
  | .local _ .vmem, ⟨6, _⟩ => ⟨S16x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 13 59 bufScoped semScoped dmaSemScoped tileCredit tileCredit_eq_zero tileCredit_pos).withBarriers [(0, 12)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch8 : Ref sig .tc := ⟨.vmem, 5, rfl⟩
abbrev cc0_scratch9 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 12

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v30 : BitVec 32 := Scalar.muli v24 c1_i32_24
  let v31 : BitVec 32 := Scalar.addi c0_i32_25 v30
  v31.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v39 : BitVec 32 := Scalar.muli v13 c1_i32_35
  let v40 : BitVec 32 := Scalar.addi c0_i32_36 v39
  v40.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_46 : BitVec 32 := 1#32
  let v48 : BitVec 32 := Scalar.muli v24 c1_i32_46
  let v49 : BitVec 32 := Scalar.addi c0_i32_47 v48
  v49.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_56 : BitVec 32 := 1#32
  let v57 : BitVec 32 := Scalar.muli v13 c1_i32_56
  let v58 : BitVec 32 := Scalar.addi c0_i32_57 v57
  v58.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v71 : BitVec 32 := Scalar.muli v2 c256_i32
  let v72 : Index := Scalar.indexCast v71
  let c0_65 : Index := 0#32
  ![v72.toNat, 0]
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_95 : BitVec 32 := 1#32
  let v93 : BitVec 32 := Scalar.muli v24 c1_i32_95
  let v94 : BitVec 32 := Scalar.addi c0_i32_96 v93
  v94.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_107 : BitVec 32 := 1#32
  let v103 : BitVec 32 := Scalar.muli v13 c1_i32_107
  let v104 : BitVec 32 := Scalar.addi c0_i32_108 v103
  v104.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_141 : BitVec 32 := 1#32
  let v127 : BitVec 32 := Scalar.muli v24 c1_i32_141
  let v128 : BitVec 32 := Scalar.addi c0_i32_142 v127
  v128.toNat
def k0_dev10 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_153 : BitVec 32 := 1#32
  let v137 : BitVec 32 := Scalar.muli v13 c1_i32_153
  let v138 : BitVec 32 := Scalar.addi c0_i32_154 v137
  v138.toNat
def k0_off2 (d0 : Dev nD) (c1_i32_161 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v149 : BitVec 32 := Scalar.subi v2 c1_i32_161
  let c16_i32_162 : BitVec 32 := 16#32
  let c0_i32_163 : BitVec 32 := 0#32
  let v150 : BitVec 1 := Scalar.cmpi .eq c16_i32_162 c0_i32_163
  let c1_i32_164 : BitVec 32 := 1#32
  let v151 : BitVec 32 := Scalar.select v150 c1_i32_164 c16_i32_162
  let v152 : BitVec 32 := Scalar.remsi v149 v151
  let c0_i32_166 : BitVec 32 := 0#32
  let v154 : BitVec 1 := Scalar.cmpi .slt v152 c0_i32_166
  let c0_i32_167 : BitVec 32 := 0#32
  let v155 : BitVec 1 := Scalar.cmpi .slt v151 c0_i32_167
  let v156 : BitVec 1 := Scalar.xori v154 v155
  let c0_i32_165 : BitVec 32 := 0#32
  let v153 : BitVec 1 := Scalar.cmpi .ne v152 c0_i32_165
  let v157 : BitVec 1 := Scalar.andi v156 v153
  let v158 : BitVec 32 := Scalar.addi v152 v151
  let v159 : BitVec 32 := Scalar.select v157 v158 v152
  let c256_i32_171 : BitVec 32 := 256#32
  let v163 : BitVec 32 := Scalar.muli v159 c256_i32_171
  let v164 : Index := Scalar.indexCast v163
  let c0_172 : Index := 0#32
  ![v164.toNat, 0]
def k0_off3 (d0 : Dev nD) (c1_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v174 : BitVec 32 := Scalar.addi v2 c1_i32_177
  let c16_i32_178 : BitVec 32 := 16#32
  let c0_i32_179 : BitVec 32 := 0#32
  let v175 : BitVec 1 := Scalar.cmpi .eq c16_i32_178 c0_i32_179
  let c1_i32_180 : BitVec 32 := 1#32
  let v176 : BitVec 32 := Scalar.select v175 c1_i32_180 c16_i32_178
  let v177 : BitVec 32 := Scalar.remsi v174 v176
  let c0_i32_182 : BitVec 32 := 0#32
  let v179 : BitVec 1 := Scalar.cmpi .slt v177 c0_i32_182
  let c0_i32_183 : BitVec 32 := 0#32
  let v180 : BitVec 1 := Scalar.cmpi .slt v176 c0_i32_183
  let v181 : BitVec 1 := Scalar.xori v179 v180
  let c0_i32_181 : BitVec 32 := 0#32
  let v178 : BitVec 1 := Scalar.cmpi .ne v177 c0_i32_181
  let v182 : BitVec 1 := Scalar.andi v181 v178
  let v183 : BitVec 32 := Scalar.addi v177 v176
  let v184 : BitVec 32 := Scalar.select v182 v183 v177
  let c256_i32_187 : BitVec 32 := 256#32
  let v188 : BitVec 32 := Scalar.muli v184 c256_i32_187
  let v189 : Index := Scalar.indexCast v188
  let c0_188 : Index := 0#32
  ![v189.toNat, 0]
def k0_dev11 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_260 : BitVec 32 := 1#32
  let v233 : BitVec 32 := Scalar.muli v24 c1_i32_260
  let v234 : BitVec 32 := Scalar.addi c0_i32_261 v233
  v234.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_272 : BitVec 32 := 1#32
  let v243 : BitVec 32 := Scalar.muli v13 c1_i32_272
  let v244 : BitVec 32 := Scalar.addi c0_i32_273 v243
  v244.toNat
def k0_dev13 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_308 : BitVec 32 := 1#32
  let v269 : BitVec 32 := Scalar.muli v24 c1_i32_308
  let v270 : BitVec 32 := Scalar.addi c0_i32_309 v269
  v270.toNat
def k0_dev14 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_320 : BitVec 32 := 1#32
  let v279 : BitVec 32 := Scalar.muli v13 c1_i32_320
  let v280 : BitVec 32 := Scalar.addi c0_i32_321 v279
  v280.toNat
def k0_dev15 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_371 : BitVec 32 := 1#32
  let v347 : BitVec 32 := Scalar.muli v13 c1_i32_371
  let v348 : BitVec 32 := Scalar.addi c0_i32_372 v347
  v348.toNat
def k0_dev16 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_387 : BitVec 32 := 1#32
  let v357 : BitVec 32 := Scalar.muli v24 c1_i32_387
  let v358 : BitVec 32 := Scalar.addi c0_i32_388 v357
  v358.toNat
def k0_dev17 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_403 : BitVec 32 := 1#32
  let v367 : BitVec 32 := Scalar.muli v13 c1_i32_403
  let v368 : BitVec 32 := Scalar.addi c0_i32_404 v367
  v368.toNat
def k0_dev18 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_419 : BitVec 32 := 1#32
  let v377 : BitVec 32 := Scalar.muli v24 c1_i32_419
  let v378 : BitVec 32 := Scalar.addi c0_i32_420 v377
  v378.toNat
def k0_dev19 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_459 : BitVec 32 := 1#32
  let v399 : BitVec 32 := Scalar.muli v24 c1_i32_459
  let v400 : BitVec 32 := Scalar.addi c0_i32_460 v399
  v400.toNat
def k0_dev20 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_471 : BitVec 32 := 1#32
  let v409 : BitVec 32 := Scalar.muli v13 c1_i32_471
  let v410 : BitVec 32 := Scalar.addi c0_i32_472 v409
  v410.toNat
def k0_dev21 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_515 : BitVec 32 := 1#32
  let v439 : BitVec 32 := Scalar.muli v24 c1_i32_515
  let v440 : BitVec 32 := Scalar.addi c0_i32_516 v439
  v440.toNat
def k0_dev22 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_527 : BitVec 32 := 1#32
  let v449 : BitVec 32 := Scalar.muli v13 c1_i32_527
  let v450 : BitVec 32 := Scalar.addi c0_i32_528 v449
  v450.toNat
def k0_dev23 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_578 : BitVec 32 := 1#32
  let v517 : BitVec 32 := Scalar.muli v13 c1_i32_578
  let v518 : BitVec 32 := Scalar.addi c0_i32_579 v517
  v518.toNat
def k0_dev24 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_594 : BitVec 32 := 1#32
  let v527 : BitVec 32 := Scalar.muli v24 c1_i32_594
  let v528 : BitVec 32 := Scalar.addi c0_i32_595 v527
  v528.toNat
def k0_dev25 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_610 : BitVec 32 := 1#32
  let v537 : BitVec 32 := Scalar.muli v13 c1_i32_610
  let v538 : BitVec 32 := Scalar.addi c0_i32_611 v537
  v538.toNat
def k0_dev26 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_626 : BitVec 32 := 1#32
  let v547 : BitVec 32 := Scalar.muli v24 c1_i32_626
  let v548 : BitVec 32 := Scalar.addi c0_i32_627 v547
  v548.toNat
def k0_dev27 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_666 : BitVec 32 := 1#32
  let v569 : BitVec 32 := Scalar.muli v24 c1_i32_666
  let v570 : BitVec 32 := Scalar.addi c0_i32_667 v569
  v570.toNat
def k0_dev28 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_678 : BitVec 32 := 1#32
  let v579 : BitVec 32 := Scalar.muli v13 c1_i32_678
  let v580 : BitVec 32 := Scalar.addi c0_i32_679 v579
  v580.toNat
def k0_dev29 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_722 : BitVec 32 := 1#32
  let v609 : BitVec 32 := Scalar.muli v24 c1_i32_722
  let v610 : BitVec 32 := Scalar.addi c0_i32_723 v609
  v610.toNat
def k0_dev30 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_734 : BitVec 32 := 1#32
  let v619 : BitVec 32 := Scalar.muli v13 c1_i32_734
  let v620 : BitVec 32 := Scalar.addi c0_i32_735 v619
  v620.toNat
def k0_dev31 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_785 : BitVec 32 := 1#32
  let v687 : BitVec 32 := Scalar.muli v13 c1_i32_785
  let v688 : BitVec 32 := Scalar.addi c0_i32_786 v687
  v688.toNat
def k0_dev32 (d0 : Dev nD) : Nat :=
  let c0_i32_802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_801 : BitVec 32 := 1#32
  let v697 : BitVec 32 := Scalar.muli v24 c1_i32_801
  let v698 : BitVec 32 := Scalar.addi c0_i32_802 v697
  v698.toNat
def k0_dev33 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_817 : BitVec 32 := 1#32
  let v707 : BitVec 32 := Scalar.muli v13 c1_i32_817
  let v708 : BitVec 32 := Scalar.addi c0_i32_818 v707
  v708.toNat
def k0_dev34 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_833 : BitVec 32 := 1#32
  let v717 : BitVec 32 := Scalar.muli v24 c1_i32_833
  let v718 : BitVec 32 := Scalar.addi c0_i32_834 v717
  v718.toNat
def k0_dev35 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_873 : BitVec 32 := 1#32
  let v739 : BitVec 32 := Scalar.muli v24 c1_i32_873
  let v740 : BitVec 32 := Scalar.addi c0_i32_874 v739
  v740.toNat
def k0_dev36 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_885 : BitVec 32 := 1#32
  let v749 : BitVec 32 := Scalar.muli v13 c1_i32_885
  let v750 : BitVec 32 := Scalar.addi c0_i32_886 v749
  v750.toNat
def k0_dev37 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_929 : BitVec 32 := 1#32
  let v779 : BitVec 32 := Scalar.muli v24 c1_i32_929
  let v780 : BitVec 32 := Scalar.addi c0_i32_930 v779
  v780.toNat
def k0_dev38 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_941 : BitVec 32 := 1#32
  let v789 : BitVec 32 := Scalar.muli v13 c1_i32_941
  let v790 : BitVec 32 := Scalar.addi c0_i32_942 v789
  v790.toNat
def k0_dev39 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_992 : BitVec 32 := 1#32
  let v857 : BitVec 32 := Scalar.muli v13 c1_i32_992
  let v858 : BitVec 32 := Scalar.addi c0_i32_993 v857
  v858.toNat
def k0_dev40 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1008 : BitVec 32 := 1#32
  let v867 : BitVec 32 := Scalar.muli v24 c1_i32_1008
  let v868 : BitVec 32 := Scalar.addi c0_i32_1009 v867
  v868.toNat
def k0_dev41 (d0 : Dev nD) : Nat :=
  let c0_i32_1025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1024 : BitVec 32 := 1#32
  let v877 : BitVec 32 := Scalar.muli v13 c1_i32_1024
  let v878 : BitVec 32 := Scalar.addi c0_i32_1025 v877
  v878.toNat
def k0_dev42 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1040 : BitVec 32 := 1#32
  let v887 : BitVec 32 := Scalar.muli v24 c1_i32_1040
  let v888 : BitVec 32 := Scalar.addi c0_i32_1041 v887
  v888.toNat
def k0_dev43 (d0 : Dev nD) : Nat :=
  let c0_i32_1081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1080 : BitVec 32 := 1#32
  let v909 : BitVec 32 := Scalar.muli v24 c1_i32_1080
  let v910 : BitVec 32 := Scalar.addi c0_i32_1081 v909
  v910.toNat
def k0_dev44 (d0 : Dev nD) : Nat :=
  let c0_i32_1093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1092 : BitVec 32 := 1#32
  let v919 : BitVec 32 := Scalar.muli v13 c1_i32_1092
  let v920 : BitVec 32 := Scalar.addi c0_i32_1093 v919
  v920.toNat
def k0_dev45 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1136 : BitVec 32 := 1#32
  let v949 : BitVec 32 := Scalar.muli v24 c1_i32_1136
  let v950 : BitVec 32 := Scalar.addi c0_i32_1137 v949
  v950.toNat
def k0_dev46 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1148 : BitVec 32 := 1#32
  let v959 : BitVec 32 := Scalar.muli v13 c1_i32_1148
  let v960 : BitVec 32 := Scalar.addi c0_i32_1149 v959
  v960.toNat
def k0_dev47 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1199 : BitVec 32 := 1#32
  let v1027 : BitVec 32 := Scalar.muli v13 c1_i32_1199
  let v1028 : BitVec 32 := Scalar.addi c0_i32_1200 v1027
  v1028.toNat
def k0_dev48 (d0 : Dev nD) : Nat :=
  let c0_i32_1238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1237 : BitVec 32 := 1#32
  let v1049 : BitVec 32 := Scalar.muli v24 c1_i32_1237
  let v1050 : BitVec 32 := Scalar.addi c0_i32_1238 v1049
  v1050.toNat
def k0_dev49 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1273 : BitVec 32 := 1#32
  let v1069 : BitVec 32 := Scalar.muli v24 c1_i32_1273
  let v1070 : BitVec 32 := Scalar.addi c0_i32_1274 v1069
  v1070.toNat
def k0_dev50 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1313 : BitVec 32 := 1#32
  let v1097 : BitVec 32 := Scalar.muli v13 c1_i32_1313
  let v1098 : BitVec 32 := Scalar.addi c0_i32_1314 v1097
  v1098.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v1181 : BitVec 32 := Scalar.addi v2 c8_i32
  let c16_i32_1394 : BitVec 32 := 16#32
  let c0_i32_1395 : BitVec 32 := 0#32
  let v1182 : BitVec 1 := Scalar.cmpi .eq c16_i32_1394 c0_i32_1395
  let c1_i32_1396 : BitVec 32 := 1#32
  let v1183 : BitVec 32 := Scalar.select v1182 c1_i32_1396 c16_i32_1394
  let v1184 : BitVec 32 := Scalar.remsi v1181 v1183
  let c0_i32_1398 : BitVec 32 := 0#32
  let v1186 : BitVec 1 := Scalar.cmpi .slt v1184 c0_i32_1398
  let c0_i32_1399 : BitVec 32 := 0#32
  let v1187 : BitVec 1 := Scalar.cmpi .slt v1183 c0_i32_1399
  let v1188 : BitVec 1 := Scalar.xori v1186 v1187
  let c0_i32_1397 : BitVec 32 := 0#32
  let v1185 : BitVec 1 := Scalar.cmpi .ne v1184 c0_i32_1397
  let v1189 : BitVec 1 := Scalar.andi v1188 v1185
  let v1190 : BitVec 32 := Scalar.addi v1184 v1183
  let v1191 : BitVec 32 := Scalar.select v1189 v1190 v1184
  let c256_i32_1418 : BitVec 32 := 256#32
  let v1205 : BitVec 32 := Scalar.muli v1191 c256_i32_1418
  let v1206 : Index := Scalar.indexCast v1205
  let c0_1419 : Index := 0#32
  ![v1206.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v1181 : BitVec 32 := Scalar.addi v2 c8_i32
  let c16_i32_1394 : BitVec 32 := 16#32
  let c0_i32_1395 : BitVec 32 := 0#32
  let v1182 : BitVec 1 := Scalar.cmpi .eq c16_i32_1394 c0_i32_1395
  let c1_i32_1396 : BitVec 32 := 1#32
  let v1183 : BitVec 32 := Scalar.select v1182 c1_i32_1396 c16_i32_1394
  let v1184 : BitVec 32 := Scalar.remsi v1181 v1183
  let c0_i32_1398 : BitVec 32 := 0#32
  let v1186 : BitVec 1 := Scalar.cmpi .slt v1184 c0_i32_1398
  let c0_i32_1399 : BitVec 32 := 0#32
  let v1187 : BitVec 1 := Scalar.cmpi .slt v1183 c0_i32_1399
  let v1188 : BitVec 1 := Scalar.xori v1186 v1187
  let c0_i32_1397 : BitVec 32 := 0#32
  let v1185 : BitVec 1 := Scalar.cmpi .ne v1184 c0_i32_1397
  let v1189 : BitVec 1 := Scalar.andi v1188 v1185
  let v1190 : BitVec 32 := Scalar.addi v1184 v1183
  let v1191 : BitVec 32 := Scalar.select v1189 v1190 v1184
  let c256_i32_1437 : BitVec 32 := 256#32
  let v1221 : BitVec 32 := Scalar.muli v1191 c256_i32_1437
  let c128_i32_1438 : BitVec 32 := 128#32
  let v1222 : BitVec 32 := Scalar.addi v1221 c128_i32_1438
  let v1223 : Index := Scalar.indexCast v1222
  let c0_1439 : Index := 0#32
  ![v1223.toNat, 0]
def k0_dev51 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1466 : BitVec 32 := 1#32
  let v1253 : BitVec 32 := Scalar.addi v2 c1_i32_1466
  let c16_i32_1467 : BitVec 32 := 16#32
  let c0_i32_1468 : BitVec 32 := 0#32
  let v1254 : BitVec 1 := Scalar.cmpi .eq c16_i32_1467 c0_i32_1468
  let c1_i32_1469 : BitVec 32 := 1#32
  let v1255 : BitVec 32 := Scalar.select v1254 c1_i32_1469 c16_i32_1467
  let v1256 : BitVec 32 := Scalar.remsi v1253 v1255
  let c0_i32_1471 : BitVec 32 := 0#32
  let v1258 : BitVec 1 := Scalar.cmpi .slt v1256 c0_i32_1471
  let c0_i32_1472 : BitVec 32 := 0#32
  let v1259 : BitVec 1 := Scalar.cmpi .slt v1255 c0_i32_1472
  let v1260 : BitVec 1 := Scalar.xori v1258 v1259
  let c0_i32_1470 : BitVec 32 := 0#32
  let v1257 : BitVec 1 := Scalar.cmpi .ne v1256 c0_i32_1470
  let v1261 : BitVec 1 := Scalar.andi v1260 v1257
  let v1262 : BitVec 32 := Scalar.addi v1256 v1255
  let v1263 : BitVec 32 := Scalar.select v1261 v1262 v1256
  let c1_i32_1475 : BitVec 32 := 1#32
  let v1264 : BitVec 32 := Scalar.muli v1263 c1_i32_1475
  let v1265 : BitVec 32 := Scalar.addi c0_i32_1476 v1264
  v1265.toNat
def k0_dev52 (d0 : Dev nD) : Nat :=
  let c0_i32_1489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1479 : BitVec 32 := 2#32
  let v1272 : BitVec 32 := Scalar.addi v2 c2_i32_1479
  let c16_i32_1480 : BitVec 32 := 16#32
  let c0_i32_1481 : BitVec 32 := 0#32
  let v1273 : BitVec 1 := Scalar.cmpi .eq c16_i32_1480 c0_i32_1481
  let c1_i32_1482 : BitVec 32 := 1#32
  let v1274 : BitVec 32 := Scalar.select v1273 c1_i32_1482 c16_i32_1480
  let v1275 : BitVec 32 := Scalar.remsi v1272 v1274
  let c0_i32_1484 : BitVec 32 := 0#32
  let v1277 : BitVec 1 := Scalar.cmpi .slt v1275 c0_i32_1484
  let c0_i32_1485 : BitVec 32 := 0#32
  let v1278 : BitVec 1 := Scalar.cmpi .slt v1274 c0_i32_1485
  let v1279 : BitVec 1 := Scalar.xori v1277 v1278
  let c0_i32_1483 : BitVec 32 := 0#32
  let v1276 : BitVec 1 := Scalar.cmpi .ne v1275 c0_i32_1483
  let v1280 : BitVec 1 := Scalar.andi v1279 v1276
  let v1281 : BitVec 32 := Scalar.addi v1275 v1274
  let v1282 : BitVec 32 := Scalar.select v1280 v1281 v1275
  let c1_i32_1488 : BitVec 32 := 1#32
  let v1283 : BitVec 32 := Scalar.muli v1282 c1_i32_1488
  let v1284 : BitVec 32 := Scalar.addi c0_i32_1489 v1283
  v1284.toNat
def k0_dev53 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1492 : BitVec 32 := 3#32
  let v1291 : BitVec 32 := Scalar.addi v2 c3_i32_1492
  let c16_i32_1493 : BitVec 32 := 16#32
  let c0_i32_1494 : BitVec 32 := 0#32
  let v1292 : BitVec 1 := Scalar.cmpi .eq c16_i32_1493 c0_i32_1494
  let c1_i32_1495 : BitVec 32 := 1#32
  let v1293 : BitVec 32 := Scalar.select v1292 c1_i32_1495 c16_i32_1493
  let v1294 : BitVec 32 := Scalar.remsi v1291 v1293
  let c0_i32_1497 : BitVec 32 := 0#32
  let v1296 : BitVec 1 := Scalar.cmpi .slt v1294 c0_i32_1497
  let c0_i32_1498 : BitVec 32 := 0#32
  let v1297 : BitVec 1 := Scalar.cmpi .slt v1293 c0_i32_1498
  let v1298 : BitVec 1 := Scalar.xori v1296 v1297
  let c0_i32_1496 : BitVec 32 := 0#32
  let v1295 : BitVec 1 := Scalar.cmpi .ne v1294 c0_i32_1496
  let v1299 : BitVec 1 := Scalar.andi v1298 v1295
  let v1300 : BitVec 32 := Scalar.addi v1294 v1293
  let v1301 : BitVec 32 := Scalar.select v1299 v1300 v1294
  let c1_i32_1501 : BitVec 32 := 1#32
  let v1302 : BitVec 32 := Scalar.muli v1301 c1_i32_1501
  let v1303 : BitVec 32 := Scalar.addi c0_i32_1502 v1302
  v1303.toNat
def k0_dev54 (d0 : Dev nD) : Nat :=
  let c0_i32_1515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1505 : BitVec 32 := 4#32
  let v1310 : BitVec 32 := Scalar.addi v2 c4_i32_1505
  let c16_i32_1506 : BitVec 32 := 16#32
  let c0_i32_1507 : BitVec 32 := 0#32
  let v1311 : BitVec 1 := Scalar.cmpi .eq c16_i32_1506 c0_i32_1507
  let c1_i32_1508 : BitVec 32 := 1#32
  let v1312 : BitVec 32 := Scalar.select v1311 c1_i32_1508 c16_i32_1506
  let v1313 : BitVec 32 := Scalar.remsi v1310 v1312
  let c0_i32_1510 : BitVec 32 := 0#32
  let v1315 : BitVec 1 := Scalar.cmpi .slt v1313 c0_i32_1510
  let c0_i32_1511 : BitVec 32 := 0#32
  let v1316 : BitVec 1 := Scalar.cmpi .slt v1312 c0_i32_1511
  let v1317 : BitVec 1 := Scalar.xori v1315 v1316
  let c0_i32_1509 : BitVec 32 := 0#32
  let v1314 : BitVec 1 := Scalar.cmpi .ne v1313 c0_i32_1509
  let v1318 : BitVec 1 := Scalar.andi v1317 v1314
  let v1319 : BitVec 32 := Scalar.addi v1313 v1312
  let v1320 : BitVec 32 := Scalar.select v1318 v1319 v1313
  let c1_i32_1514 : BitVec 32 := 1#32
  let v1321 : BitVec 32 := Scalar.muli v1320 c1_i32_1514
  let v1322 : BitVec 32 := Scalar.addi c0_i32_1515 v1321
  v1322.toNat
def k0_dev55 (d0 : Dev nD) : Nat :=
  let c0_i32_1528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1518 : BitVec 32 := 5#32
  let v1329 : BitVec 32 := Scalar.addi v2 c5_i32_1518
  let c16_i32_1519 : BitVec 32 := 16#32
  let c0_i32_1520 : BitVec 32 := 0#32
  let v1330 : BitVec 1 := Scalar.cmpi .eq c16_i32_1519 c0_i32_1520
  let c1_i32_1521 : BitVec 32 := 1#32
  let v1331 : BitVec 32 := Scalar.select v1330 c1_i32_1521 c16_i32_1519
  let v1332 : BitVec 32 := Scalar.remsi v1329 v1331
  let c0_i32_1523 : BitVec 32 := 0#32
  let v1334 : BitVec 1 := Scalar.cmpi .slt v1332 c0_i32_1523
  let c0_i32_1524 : BitVec 32 := 0#32
  let v1335 : BitVec 1 := Scalar.cmpi .slt v1331 c0_i32_1524
  let v1336 : BitVec 1 := Scalar.xori v1334 v1335
  let c0_i32_1522 : BitVec 32 := 0#32
  let v1333 : BitVec 1 := Scalar.cmpi .ne v1332 c0_i32_1522
  let v1337 : BitVec 1 := Scalar.andi v1336 v1333
  let v1338 : BitVec 32 := Scalar.addi v1332 v1331
  let v1339 : BitVec 32 := Scalar.select v1337 v1338 v1332
  let c1_i32_1527 : BitVec 32 := 1#32
  let v1340 : BitVec 32 := Scalar.muli v1339 c1_i32_1527
  let v1341 : BitVec 32 := Scalar.addi c0_i32_1528 v1340
  v1341.toNat
def k0_dev56 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1531 : BitVec 32 := 6#32
  let v1348 : BitVec 32 := Scalar.addi v2 c6_i32_1531
  let c16_i32_1532 : BitVec 32 := 16#32
  let c0_i32_1533 : BitVec 32 := 0#32
  let v1349 : BitVec 1 := Scalar.cmpi .eq c16_i32_1532 c0_i32_1533
  let c1_i32_1534 : BitVec 32 := 1#32
  let v1350 : BitVec 32 := Scalar.select v1349 c1_i32_1534 c16_i32_1532
  let v1351 : BitVec 32 := Scalar.remsi v1348 v1350
  let c0_i32_1536 : BitVec 32 := 0#32
  let v1353 : BitVec 1 := Scalar.cmpi .slt v1351 c0_i32_1536
  let c0_i32_1537 : BitVec 32 := 0#32
  let v1354 : BitVec 1 := Scalar.cmpi .slt v1350 c0_i32_1537
  let v1355 : BitVec 1 := Scalar.xori v1353 v1354
  let c0_i32_1535 : BitVec 32 := 0#32
  let v1352 : BitVec 1 := Scalar.cmpi .ne v1351 c0_i32_1535
  let v1356 : BitVec 1 := Scalar.andi v1355 v1352
  let v1357 : BitVec 32 := Scalar.addi v1351 v1350
  let v1358 : BitVec 32 := Scalar.select v1356 v1357 v1351
  let c1_i32_1540 : BitVec 32 := 1#32
  let v1359 : BitVec 32 := Scalar.muli v1358 c1_i32_1540
  let v1360 : BitVec 32 := Scalar.addi c0_i32_1541 v1359
  v1360.toNat
def k0_dev57 (d0 : Dev nD) : Nat :=
  let c0_i32_1554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1544 : BitVec 32 := 7#32
  let v1367 : BitVec 32 := Scalar.addi v2 c7_i32_1544
  let c16_i32_1545 : BitVec 32 := 16#32
  let c0_i32_1546 : BitVec 32 := 0#32
  let v1368 : BitVec 1 := Scalar.cmpi .eq c16_i32_1545 c0_i32_1546
  let c1_i32_1547 : BitVec 32 := 1#32
  let v1369 : BitVec 32 := Scalar.select v1368 c1_i32_1547 c16_i32_1545
  let v1370 : BitVec 32 := Scalar.remsi v1367 v1369
  let c0_i32_1549 : BitVec 32 := 0#32
  let v1372 : BitVec 1 := Scalar.cmpi .slt v1370 c0_i32_1549
  let c0_i32_1550 : BitVec 32 := 0#32
  let v1373 : BitVec 1 := Scalar.cmpi .slt v1369 c0_i32_1550
  let v1374 : BitVec 1 := Scalar.xori v1372 v1373
  let c0_i32_1548 : BitVec 32 := 0#32
  let v1371 : BitVec 1 := Scalar.cmpi .ne v1370 c0_i32_1548
  let v1375 : BitVec 1 := Scalar.andi v1374 v1371
  let v1376 : BitVec 32 := Scalar.addi v1370 v1369
  let v1377 : BitVec 32 := Scalar.select v1375 v1376 v1370
  let c1_i32_1553 : BitVec 32 := 1#32
  let v1378 : BitVec 32 := Scalar.muli v1377 c1_i32_1553
  let v1379 : BitVec 32 := Scalar.addi c0_i32_1554 v1378
  v1379.toNat
def k0_dev58 (d0 : Dev nD) : Nat :=
  let c0_i32_1568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1557 : BitVec 32 := 8#32
  let v1386 : BitVec 32 := Scalar.addi v2 c8_i32_1557
  let c16_i32_1558 : BitVec 32 := 16#32
  let c0_i32_1559 : BitVec 32 := 0#32
  let v1387 : BitVec 1 := Scalar.cmpi .eq c16_i32_1558 c0_i32_1559
  let c1_i32_1560 : BitVec 32 := 1#32
  let v1388 : BitVec 32 := Scalar.select v1387 c1_i32_1560 c16_i32_1558
  let v1389 : BitVec 32 := Scalar.remsi v1386 v1388
  let c0_i32_1562 : BitVec 32 := 0#32
  let v1391 : BitVec 1 := Scalar.cmpi .slt v1389 c0_i32_1562
  let c0_i32_1563 : BitVec 32 := 0#32
  let v1392 : BitVec 1 := Scalar.cmpi .slt v1388 c0_i32_1563
  let v1393 : BitVec 1 := Scalar.xori v1391 v1392
  let c0_i32_1561 : BitVec 32 := 0#32
  let v1390 : BitVec 1 := Scalar.cmpi .ne v1389 c0_i32_1561
  let v1394 : BitVec 1 := Scalar.andi v1393 v1390
  let v1395 : BitVec 32 := Scalar.addi v1389 v1388
  let v1396 : BitVec 32 := Scalar.select v1394 v1395 v1389
  let c1_i32_1567 : BitVec 32 := 1#32
  let v1397 : BitVec 32 := Scalar.muli v1396 c1_i32_1567
  let v1398 : BitVec 32 := Scalar.addi c0_i32_1568 v1397
  v1398.toNat
def k0_dev59 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1571 : BitVec 32 := 9#32
  let v1405 : BitVec 32 := Scalar.addi v2 c9_i32_1571
  let c16_i32_1572 : BitVec 32 := 16#32
  let c0_i32_1573 : BitVec 32 := 0#32
  let v1406 : BitVec 1 := Scalar.cmpi .eq c16_i32_1572 c0_i32_1573
  let c1_i32_1574 : BitVec 32 := 1#32
  let v1407 : BitVec 32 := Scalar.select v1406 c1_i32_1574 c16_i32_1572
  let v1408 : BitVec 32 := Scalar.remsi v1405 v1407
  let c0_i32_1576 : BitVec 32 := 0#32
  let v1410 : BitVec 1 := Scalar.cmpi .slt v1408 c0_i32_1576
  let c0_i32_1577 : BitVec 32 := 0#32
  let v1411 : BitVec 1 := Scalar.cmpi .slt v1407 c0_i32_1577
  let v1412 : BitVec 1 := Scalar.xori v1410 v1411
  let c0_i32_1575 : BitVec 32 := 0#32
  let v1409 : BitVec 1 := Scalar.cmpi .ne v1408 c0_i32_1575
  let v1413 : BitVec 1 := Scalar.andi v1412 v1409
  let v1414 : BitVec 32 := Scalar.addi v1408 v1407
  let v1415 : BitVec 32 := Scalar.select v1413 v1414 v1408
  let c1_i32_1581 : BitVec 32 := 1#32
  let v1416 : BitVec 32 := Scalar.muli v1415 c1_i32_1581
  let v1417 : BitVec 32 := Scalar.addi c0_i32_1582 v1416
  v1417.toNat
def k0_dev60 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1585 : BitVec 32 := 10#32
  let v1424 : BitVec 32 := Scalar.addi v2 c10_i32_1585
  let c16_i32_1586 : BitVec 32 := 16#32
  let c0_i32_1587 : BitVec 32 := 0#32
  let v1425 : BitVec 1 := Scalar.cmpi .eq c16_i32_1586 c0_i32_1587
  let c1_i32_1588 : BitVec 32 := 1#32
  let v1426 : BitVec 32 := Scalar.select v1425 c1_i32_1588 c16_i32_1586
  let v1427 : BitVec 32 := Scalar.remsi v1424 v1426
  let c0_i32_1590 : BitVec 32 := 0#32
  let v1429 : BitVec 1 := Scalar.cmpi .slt v1427 c0_i32_1590
  let c0_i32_1591 : BitVec 32 := 0#32
  let v1430 : BitVec 1 := Scalar.cmpi .slt v1426 c0_i32_1591
  let v1431 : BitVec 1 := Scalar.xori v1429 v1430
  let c0_i32_1589 : BitVec 32 := 0#32
  let v1428 : BitVec 1 := Scalar.cmpi .ne v1427 c0_i32_1589
  let v1432 : BitVec 1 := Scalar.andi v1431 v1428
  let v1433 : BitVec 32 := Scalar.addi v1427 v1426
  let v1434 : BitVec 32 := Scalar.select v1432 v1433 v1427
  let c1_i32_1595 : BitVec 32 := 1#32
  let v1435 : BitVec 32 := Scalar.muli v1434 c1_i32_1595
  let v1436 : BitVec 32 := Scalar.addi c0_i32_1596 v1435
  v1436.toNat
def k0_dev61 (d0 : Dev nD) : Nat :=
  let c0_i32_1610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1599 : BitVec 32 := 11#32
  let v1443 : BitVec 32 := Scalar.addi v2 c11_i32_1599
  let c16_i32_1600 : BitVec 32 := 16#32
  let c0_i32_1601 : BitVec 32 := 0#32
  let v1444 : BitVec 1 := Scalar.cmpi .eq c16_i32_1600 c0_i32_1601
  let c1_i32_1602 : BitVec 32 := 1#32
  let v1445 : BitVec 32 := Scalar.select v1444 c1_i32_1602 c16_i32_1600
  let v1446 : BitVec 32 := Scalar.remsi v1443 v1445
  let c0_i32_1604 : BitVec 32 := 0#32
  let v1448 : BitVec 1 := Scalar.cmpi .slt v1446 c0_i32_1604
  let c0_i32_1605 : BitVec 32 := 0#32
  let v1449 : BitVec 1 := Scalar.cmpi .slt v1445 c0_i32_1605
  let v1450 : BitVec 1 := Scalar.xori v1448 v1449
  let c0_i32_1603 : BitVec 32 := 0#32
  let v1447 : BitVec 1 := Scalar.cmpi .ne v1446 c0_i32_1603
  let v1451 : BitVec 1 := Scalar.andi v1450 v1447
  let v1452 : BitVec 32 := Scalar.addi v1446 v1445
  let v1453 : BitVec 32 := Scalar.select v1451 v1452 v1446
  let c1_i32_1609 : BitVec 32 := 1#32
  let v1454 : BitVec 32 := Scalar.muli v1453 c1_i32_1609
  let v1455 : BitVec 32 := Scalar.addi c0_i32_1610 v1454
  v1455.toNat
def k0_dev62 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1613 : BitVec 32 := 12#32
  let v1462 : BitVec 32 := Scalar.addi v2 c12_i32_1613
  let c16_i32_1614 : BitVec 32 := 16#32
  let c0_i32_1615 : BitVec 32 := 0#32
  let v1463 : BitVec 1 := Scalar.cmpi .eq c16_i32_1614 c0_i32_1615
  let c1_i32_1616 : BitVec 32 := 1#32
  let v1464 : BitVec 32 := Scalar.select v1463 c1_i32_1616 c16_i32_1614
  let v1465 : BitVec 32 := Scalar.remsi v1462 v1464
  let c0_i32_1618 : BitVec 32 := 0#32
  let v1467 : BitVec 1 := Scalar.cmpi .slt v1465 c0_i32_1618
  let c0_i32_1619 : BitVec 32 := 0#32
  let v1468 : BitVec 1 := Scalar.cmpi .slt v1464 c0_i32_1619
  let v1469 : BitVec 1 := Scalar.xori v1467 v1468
  let c0_i32_1617 : BitVec 32 := 0#32
  let v1466 : BitVec 1 := Scalar.cmpi .ne v1465 c0_i32_1617
  let v1470 : BitVec 1 := Scalar.andi v1469 v1466
  let v1471 : BitVec 32 := Scalar.addi v1465 v1464
  let v1472 : BitVec 32 := Scalar.select v1470 v1471 v1465
  let c1_i32_1623 : BitVec 32 := 1#32
  let v1473 : BitVec 32 := Scalar.muli v1472 c1_i32_1623
  let v1474 : BitVec 32 := Scalar.addi c0_i32_1624 v1473
  v1474.toNat
def k0_dev63 (d0 : Dev nD) : Nat :=
  let c0_i32_1638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1627 : BitVec 32 := 13#32
  let v1481 : BitVec 32 := Scalar.addi v2 c13_i32_1627
  let c16_i32_1628 : BitVec 32 := 16#32
  let c0_i32_1629 : BitVec 32 := 0#32
  let v1482 : BitVec 1 := Scalar.cmpi .eq c16_i32_1628 c0_i32_1629
  let c1_i32_1630 : BitVec 32 := 1#32
  let v1483 : BitVec 32 := Scalar.select v1482 c1_i32_1630 c16_i32_1628
  let v1484 : BitVec 32 := Scalar.remsi v1481 v1483
  let c0_i32_1632 : BitVec 32 := 0#32
  let v1486 : BitVec 1 := Scalar.cmpi .slt v1484 c0_i32_1632
  let c0_i32_1633 : BitVec 32 := 0#32
  let v1487 : BitVec 1 := Scalar.cmpi .slt v1483 c0_i32_1633
  let v1488 : BitVec 1 := Scalar.xori v1486 v1487
  let c0_i32_1631 : BitVec 32 := 0#32
  let v1485 : BitVec 1 := Scalar.cmpi .ne v1484 c0_i32_1631
  let v1489 : BitVec 1 := Scalar.andi v1488 v1485
  let v1490 : BitVec 32 := Scalar.addi v1484 v1483
  let v1491 : BitVec 32 := Scalar.select v1489 v1490 v1484
  let c1_i32_1637 : BitVec 32 := 1#32
  let v1492 : BitVec 32 := Scalar.muli v1491 c1_i32_1637
  let v1493 : BitVec 32 := Scalar.addi c0_i32_1638 v1492
  v1493.toNat
def k0_dev64 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1641 : BitVec 32 := 14#32
  let v1500 : BitVec 32 := Scalar.addi v2 c14_i32_1641
  let c16_i32_1642 : BitVec 32 := 16#32
  let c0_i32_1643 : BitVec 32 := 0#32
  let v1501 : BitVec 1 := Scalar.cmpi .eq c16_i32_1642 c0_i32_1643
  let c1_i32_1644 : BitVec 32 := 1#32
  let v1502 : BitVec 32 := Scalar.select v1501 c1_i32_1644 c16_i32_1642
  let v1503 : BitVec 32 := Scalar.remsi v1500 v1502
  let c0_i32_1646 : BitVec 32 := 0#32
  let v1505 : BitVec 1 := Scalar.cmpi .slt v1503 c0_i32_1646
  let c0_i32_1647 : BitVec 32 := 0#32
  let v1506 : BitVec 1 := Scalar.cmpi .slt v1502 c0_i32_1647
  let v1507 : BitVec 1 := Scalar.xori v1505 v1506
  let c0_i32_1645 : BitVec 32 := 0#32
  let v1504 : BitVec 1 := Scalar.cmpi .ne v1503 c0_i32_1645
  let v1508 : BitVec 1 := Scalar.andi v1507 v1504
  let v1509 : BitVec 32 := Scalar.addi v1503 v1502
  let v1510 : BitVec 32 := Scalar.select v1508 v1509 v1503
  let c1_i32_1651 : BitVec 32 := 1#32
  let v1511 : BitVec 32 := Scalar.muli v1510 c1_i32_1651
  let v1512 : BitVec 32 := Scalar.addi c0_i32_1652 v1511
  v1512.toNat
def k0_dev65 (d0 : Dev nD) : Nat :=
  let c0_i32_1666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1655 : BitVec 32 := 15#32
  let v1519 : BitVec 32 := Scalar.addi v2 c15_i32_1655
  let c16_i32_1656 : BitVec 32 := 16#32
  let c0_i32_1657 : BitVec 32 := 0#32
  let v1520 : BitVec 1 := Scalar.cmpi .eq c16_i32_1656 c0_i32_1657
  let c1_i32_1658 : BitVec 32 := 1#32
  let v1521 : BitVec 32 := Scalar.select v1520 c1_i32_1658 c16_i32_1656
  let v1522 : BitVec 32 := Scalar.remsi v1519 v1521
  let c0_i32_1660 : BitVec 32 := 0#32
  let v1524 : BitVec 1 := Scalar.cmpi .slt v1522 c0_i32_1660
  let c0_i32_1661 : BitVec 32 := 0#32
  let v1525 : BitVec 1 := Scalar.cmpi .slt v1521 c0_i32_1661
  let v1526 : BitVec 1 := Scalar.xori v1524 v1525
  let c0_i32_1659 : BitVec 32 := 0#32
  let v1523 : BitVec 1 := Scalar.cmpi .ne v1522 c0_i32_1659
  let v1527 : BitVec 1 := Scalar.andi v1526 v1523
  let v1528 : BitVec 32 := Scalar.addi v1522 v1521
  let v1529 : BitVec 32 := Scalar.select v1527 v1528 v1522
  let c1_i32_1665 : BitVec 32 := 1#32
  let v1530 : BitVec 32 := Scalar.muli v1529 c1_i32_1665
  let v1531 : BitVec 32 := Scalar.addi c0_i32_1666 v1530
  v1531.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Blocks.lean ====
/-
The kernel's body, block by block.

The printed body is one long list of operations.  Here the same list is written as a sequence of blocks over the
hop number: the ring transfers, the credits, the two block products of a hop, the exchange of the maxima and the
final rescaling.  `body_eq_blocks` states that the printed body is that sequence, so that everything after this
file is proved once for an arbitrary hop, direction and half.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.Sem

variable {F : FTy → Type} [FloatOps F]

/-- Programs of the kernel's core. -/
abbrev PG (F : FTy → Type) [FloatOps F] (α : Type) : Type 1 := Prog (TpuEff nD τ sig (Elt F) Λ₀ .tc) α

/-! ## Buffers -/

/-- The staged block of `x`, the staged block of `w_mat`, and the staged result. -/
abbrev xM : Memref sig .tc .vmem S256x4096 .f32 := Memref.whole cc0_stg0_0
abbrev wM : Memref sig .tc .vmem S4096x128 .f32 := Memref.whole cc0_stg1_0
abbrev oM : Memref sig .tc .vmem S4096x128 .f32 := Memref.whole cc0_stg2_0
/-- The source of the maxima's exchange, and its sixteen landing slots. -/
abbrev asM : Memref sig .tc .vmem S8x128 .f32 := Memref.whole cc0_scratch8
abbrev aaM : Memref sig .tc .vmem S16x8x128 .f32 := Memref.whole cc0_scratch9

/-- The ring buffer of a direction (`false`: towards the next device, `true`: towards the one before). -/
def bufR : Bool → Ref sig .tc | false => cc0_scratch0 | true => cc0_scratch1
def bufM : Bool → Memref sig .tc .vmem S3x256x4096 .f32
  | false => Memref.whole cc0_scratch0 | true => Memref.whole cc0_scratch1

/-- The slot a hop reads: hops go round three slots. -/
def kf (h : ℕ) : Fin 3 := ⟨h % 3, Nat.mod_lt _ (by decide)⟩

theorem inb_half (k : Fin 3) (j : Fin 2) :
    ∀ a, (![k.val, 128 * j.val, 0] : Fin 3 → Nat) a + S1x128x4096.size a ≤ S3x256x4096.size a := by
  revert k j; decide
theorem inb_slot (k : Fin 3) :
    ∀ a, (![k.val, 0, 0] : Fin 3 → Nat) a + S1x256x4096.size a ≤ S3x256x4096.size a := by
  revert k; decide
theorem inb_xhalf (j : Fin 2) :
    ∀ a, (![128 * j.val, 0] : Fin 2 → Nat) a + S128x4096.size a ≤ S256x4096.size a := by
  revert j; decide
theorem inb_sem (k : Fin 3) (j : Fin 2) :
    ∀ a, (![k.val, j.val] : Fin 2 → Nat) a + S1x1.size a ≤ S3x2.size a := by
  revert k j; decide
theorem inb_asem (o : Fin 16) :
    ∀ a, (![o.val] : Fin 1 → Nat) a + S1.size a ≤ S16.size a := by
  revert o; decide
theorem inb_aslot (o : Fin 16) :
    ∀ a, (![o.val, 0, 0] : Fin 3 → Nat) a + S1x8x128.size a ≤ S16x8x128.size a := by
  revert o; decide
theorem inb_acell (o : Fin 16) :
    ∀ a, (![o.val, 0, 0] : Fin 3 → Nat) a + S1x1x1.size a ≤ S16x8x128.size a := by
  revert o; decide

/-- Half `j` (128 rows) of slot `k` of a ring buffer. -/
def halfM (d : Bool) (k : Fin 3) (j : Fin 2) : Memref sig .tc .vmem S128x4096 .f32 :=
  ((bufM d).slice (Rect.unit (s := S3x256x4096) ![k.val, 128 * j.val, 0] S1x128x4096.size (inb_half k j))
    (fun _ => rfl)).squeeze S128x4096 squeezes_S1x128x4096_S128x4096
/-- Half `j` of the staged block of `x`. -/
def xhalfM (j : Fin 2) : Memref sig .tc .vmem S128x4096 .f32 :=
  xM.slice (Rect.unit (s := S256x4096) ![128 * j.val, 0] S128x4096.size (inb_xhalf j)) (fun _ => rfl)
/-- What hop `h` sends from: the staged block at hop 0, the slot the hop before landed in afterwards. -/
def srcM (d : Bool) (h : ℕ) (j : Fin 2) : Memref sig .tc .vmem S128x4096 .f32 :=
  match h with | 0 => xhalfM j | h + 1 => halfM d (kf (h + 1)) j
/-- One landing slot of the maxima's exchange. -/
def aslotM (o : Fin 16) : Memref sig .tc .vmem S8x128 .f32 :=
  (aaM.slice (Rect.unit (s := S16x8x128) ![o.val, 0, 0] S1x8x128.size (inb_aslot o)) (fun _ => rfl)).squeeze
    S8x128 squeezes_S1x8x128_S8x128

theorem halfM_exact (d : Bool) (k : Fin 3) (j : Fin 2) : (halfM d k j).view.WordExact := View.wordExact_bits rfl
theorem srcM_exact (d : Bool) (h : ℕ) (j : Fin 2) : (srcM d h j).view.WordExact := View.wordExact_bits rfl
theorem aslotM_exact (o : Fin 16) : (aslotM o).view.WordExact := View.wordExact_bits rfl
theorem asM_exact : asM.view.WordExact := View.wordExact_bits rfl

/-! ## Semaphores -/

/-- The send, receive and credit semaphores of a direction. -/
def sndA : Bool → DmaSems sig S3x2 | false => cc0_scratch2 | true => cc0_scratch4
def rcvA : Bool → DmaSems sig S3x2 | false => cc0_scratch3 | true => cc0_scratch5
def crdA : Bool → Sems sig S3x2 | false => cc0_scratch6 | true => cc0_scratch7

def sndS (d : Bool) (k : Fin 3) (j : Fin 2) : DmaSem sig :=
  (((sndA d).slice (Rect.unit (s := S3x2) ![k.val, j.val] S1x1.size (inb_sem k j))).squeeze S_ squeezes_S1x1_S_).sem
def rcvS (d : Bool) (k : Fin 3) (j : Fin 2) : DmaSem sig :=
  (((rcvA d).slice (Rect.unit (s := S3x2) ![k.val, j.val] S1x1.size (inb_sem k j))).squeeze S_ squeezes_S1x1_S_).sem
def crdS (d : Bool) (k : Fin 3) (j : Fin 2) : Sem sig :=
  (((crdA d).slice (Rect.unit (s := S3x2) ![k.val, j.val] S1x1.size (inb_sem k j))).squeeze S_ squeezes_S1x1_S_).sem
def asndS (o : Fin 16) : DmaSem sig :=
  ((cc0_scratch10.slice (Rect.unit (s := S16) ![o.val] S1.size (inb_asem o))).squeeze S_ squeezes_S1_S_).sem
def arcvS (o : Fin 16) : DmaSem sig :=
  ((cc0_scratch11.slice (Rect.unit (s := S16) ![o.val] S1.size (inb_asem o))).squeeze S_ squeezes_S1_S_).sem
def barS : Sem sig := (SemArray.scalar (sig.barrier 0 rfl) : Sems sig S_).sem

/-! ## The devices the body addresses, by the order of the operations that address them -/

/-- The device the `n`-th remote operation of the body addresses, as the kernel computes it. -/
def devAt (c : Dev nD) : ℕ → Dev nD
  | 1 => ⟨k0_dev1 c, k0_dev1_lt c⟩
  | 2 => ⟨k0_dev2 c, k0_dev2_lt c⟩
  | 3 => ⟨k0_dev3 c, k0_dev3_lt c⟩
  | 4 => ⟨k0_dev4 c, k0_dev4_lt c⟩
  | 5 => ⟨k0_dev5 c, k0_dev5_lt c⟩
  | 6 => ⟨k0_dev6 c, k0_dev6_lt c⟩
  | 7 => ⟨k0_dev7 c, k0_dev7_lt c⟩
  | 8 => ⟨k0_dev8 c, k0_dev8_lt c⟩
  | 9 => ⟨k0_dev9 c, k0_dev9_lt c⟩
  | 10 => ⟨k0_dev10 c, k0_dev10_lt c⟩
  | 11 => ⟨k0_dev11 c, k0_dev11_lt c⟩
  | 12 => ⟨k0_dev12 c, k0_dev12_lt c⟩
  | 13 => ⟨k0_dev13 c, k0_dev13_lt c⟩
  | 14 => ⟨k0_dev14 c, k0_dev14_lt c⟩
  | 15 => ⟨k0_dev15 c, k0_dev15_lt c⟩
  | 16 => ⟨k0_dev16 c, k0_dev16_lt c⟩
  | 17 => ⟨k0_dev17 c, k0_dev17_lt c⟩
  | 18 => ⟨k0_dev18 c, k0_dev18_lt c⟩
  | 19 => ⟨k0_dev19 c, k0_dev19_lt c⟩
  | 20 => ⟨k0_dev20 c, k0_dev20_lt c⟩
  | 21 => ⟨k0_dev21 c, k0_dev21_lt c⟩
  | 22 => ⟨k0_dev22 c, k0_dev22_lt c⟩
  | 23 => ⟨k0_dev23 c, k0_dev23_lt c⟩
  | 24 => ⟨k0_dev24 c, k0_dev24_lt c⟩
  | 25 => ⟨k0_dev25 c, k0_dev25_lt c⟩
  | 26 => ⟨k0_dev26 c, k0_dev26_lt c⟩
  | 27 => ⟨k0_dev27 c, k0_dev27_lt c⟩
  | 28 => ⟨k0_dev28 c, k0_dev28_lt c⟩
  | 29 => ⟨k0_dev29 c, k0_dev29_lt c⟩
  | 30 => ⟨k0_dev30 c, k0_dev30_lt c⟩
  | 31 => ⟨k0_dev31 c, k0_dev31_lt c⟩
  | 32 => ⟨k0_dev32 c, k0_dev32_lt c⟩
  | 33 => ⟨k0_dev33 c, k0_dev33_lt c⟩
  | 34 => ⟨k0_dev34 c, k0_dev34_lt c⟩
  | 35 => ⟨k0_dev35 c, k0_dev35_lt c⟩
  | 36 => ⟨k0_dev36 c, k0_dev36_lt c⟩
  | 37 => ⟨k0_dev37 c, k0_dev37_lt c⟩
  | 38 => ⟨k0_dev38 c, k0_dev38_lt c⟩
  | 39 => ⟨k0_dev39 c, k0_dev39_lt c⟩
  | 40 => ⟨k0_dev40 c, k0_dev40_lt c⟩
  | 41 => ⟨k0_dev41 c, k0_dev41_lt c⟩
  | 42 => ⟨k0_dev42 c, k0_dev42_lt c⟩
  | 43 => ⟨k0_dev43 c, k0_dev43_lt c⟩
  | 44 => ⟨k0_dev44 c, k0_dev44_lt c⟩
  | 45 => ⟨k0_dev45 c, k0_dev45_lt c⟩
  | 46 => ⟨k0_dev46 c, k0_dev46_lt c⟩
  | 47 => ⟨k0_dev47 c, k0_dev47_lt c⟩
  | 48 => ⟨k0_dev48 c, k0_dev48_lt c⟩
  | 49 => ⟨k0_dev49 c, k0_dev49_lt c⟩
  | 50 => ⟨k0_dev50 c, k0_dev50_lt c⟩
  | 51 => ⟨k0_dev51 c, k0_dev51_lt c⟩
  | 52 => ⟨k0_dev52 c, k0_dev52_lt c⟩
  | 53 => ⟨k0_dev53 c, k0_dev53_lt c⟩
  | 54 => ⟨k0_dev54 c, k0_dev54_lt c⟩
  | 55 => ⟨k0_dev55 c, k0_dev55_lt c⟩
  | 56 => ⟨k0_dev56 c, k0_dev56_lt c⟩
  | 57 => ⟨k0_dev57 c, k0_dev57_lt c⟩
  | 58 => ⟨k0_dev58 c, k0_dev58_lt c⟩
  | 59 => ⟨k0_dev59 c, k0_dev59_lt c⟩
  | 60 => ⟨k0_dev60 c, k0_dev60_lt c⟩
  | 61 => ⟨k0_dev61 c, k0_dev61_lt c⟩
  | 62 => ⟨k0_dev62 c, k0_dev62_lt c⟩
  | 63 => ⟨k0_dev63 c, k0_dev63_lt c⟩
  | 64 => ⟨k0_dev64 c, k0_dev64_lt c⟩
  | 65 => ⟨k0_dev65 c, k0_dev65_lt c⟩
  | _ => c

/-- The place, among the body's remote operations, of the transfer of hop `h`. -/
def sendNo (h : ℕ) (d : Bool) (j : Fin 2) : ℕ :=
  match h with
  | 0 => 3 + 2 * j.val + d.toNat
  | 1 => 7 + 2 * j.val + d.toNat
  | 7 => 49 + j.val
  | h => 8 * h - 5 + 2 * j.val + d.toNat
/-- The place, among the body's remote operations, of the credit for hop `h`. -/
def creditNo (h : ℕ) (d : Bool) (j : Fin 2) : ℕ :=
  match h with
  | 7 => 47 + j.val
  | h => 8 * h - 9 + 2 * j.val + d.toNat

/-- The number of hops of a direction's half: eight where the far block's half travels that way, else seven. -/
def nh (d : Bool) (j : Fin 2) : ℕ :=
  match d, j with
  | false, 0 => 8 | false, 1 => 7 | true, 0 => 7 | true, 1 => 8

/-! ## Single operations -/

/-- The transfer of hop `h` to device `n`. -/
def sendP (n : Dev nD) (d : Bool) (h : ℕ) (j : Fin 2) : PG F PUnit :=
  Prog.lift (.enqueueDma (srcM d h j) (.remote (Dev.tc n) (halfM d (kf (h + 1)) j) (.dma (sndS d (kf h) j)))
    (.dma (rcvS d (kf (h + 1)) j)) (srcM_exact d h j) (halfM_exact d _ j) ⟨⟨rfl, Or.inl rfl⟩, trivial⟩)
/-- The wait for the landing of hop `h`. -/
def waitRecvP (d : Bool) (h : ℕ) (j : Fin 2) : PG F PUnit :=
  Prog.lift (.waitDma2 (rcvS d (kf (h + 1)) j) (srcM d h j) (halfM d (kf (h + 1)) j) (srcM_exact d h j) (halfM_exact d _ j))
/-- The wait for the source of hop `h` to be free again. -/
def waitSendP (d : Bool) (h : ℕ) (j : Fin 2) : PG F PUnit :=
  Prog.lift (.waitDma2 (sndS d (kf h) j) (halfM d (kf (h + 1)) j) (srcM d h j) (halfM_exact d _ j) (srcM_exact d h j))
/-- The wait for the credit of hop `h`, where the hop exists and needs one. -/
def waitCreditP (d : Bool) (h : ℕ) (j : Fin 2) : PG F PUnit :=
  if 3 ≤ h ∧ h < nh d j then semWaitWord (crdS d (kf (h + 1)) j) 1#32 else pure ⟨⟩
/-- The credit for hop `h`, where the hop exists and needs one. -/
def creditP (c : Dev nD) (d : Bool) (h : ℕ) (j : Fin 2) : PG F PUnit :=
  if 3 ≤ h ∧ h < nh d j then semSignalWord (devAt c (creditNo h d j)) (crdS d (kf (h + 1)) j) 1#32 else pure ⟨⟩
/-- The transfer of hop `h`, where the hop exists. -/
def hopP (c : Dev nD) (d : Bool) (h : ℕ) (j : Fin 2) : PG F PUnit :=
  if h < nh d j then sendP (devAt c (sendNo h d j)) d h j else pure ⟨⟩

/-! ## The block products -/

/-- The largest magnitude of a product of 256 rows. -/
def amax256 (y : FVec F S256x128 .f32) : F .f32 :=
  extractAt ![0, 0, 0] (shapeCast S1x1x1 (multiReduction .maximumf [1, 2] S1
    (shapeCast S1x256x128 (absf y) shapeCasts_S256x128_S1x256x128) 0xFF800000#32 reduces_S1x256x128_S1 (.inl rfl) rfl)
    shapeCasts_S1_S1x1x1) inpos_S1x1x1_p0_0_0
/-- The largest magnitude of a product of 128 rows. -/
def amax128 (y : FVec F S128x128 .f32) : F .f32 :=
  extractAt ![0, 0, 0] (shapeCast S1x1x1 (multiReduction .maximumf [1, 2] S1
    (shapeCast S1x128x128 (absf y) shapeCasts_S128x128_S1x128x128) 0xFF800000#32 reduces_S1x128x128_S1 (.inl rfl) rfl)
    shapeCasts_S1_S1x1x1) inpos_S1x1x1_p0_0_0

/-- The row offset of the block a hop brings in. -/
def offOf (c : Dev nD) (d : Bool) (r : Fin 7) : Fin 2 → Nat :=
  match d with
  | false => k0_off2 c (BitVec.ofNat 32 (1 + r.val))
  | true => k0_off3 c (BitVec.ofNat 32 (1 + r.val))
theorem offOf_inb (c : Dev nD) (d : Bool) (r : Fin 7) : ∀ a, offOf c d r a + S256x128.size a ≤ S4096x128.size a := by
  cases d
  · exact k0_off2_inb c r
  · exact k0_off3_inb c r

/-- The product of the device's own block, stored into the result. -/
def dotOwnP (c : Dev nD) : PG F (F .f32) := do
  let v ← Prog.lift (.load xM (Rect.unit (s := S256x4096) ![0, 0] S256x4096.size inb_S256x4096_S256x4096_0_0).toLoadRect (View.loadsAt_vmem h_S256x4096))
  let w ← Prog.lift (.load wM (Rect.unit (s := S4096x128) ![0, 0] S4096x128.size inb_S4096x128_S4096x128_0_0).toLoadRect (View.loadsAt_vmem h_S4096x128))
  let _ ← Prog.lift (.load oM (Rect.unit (s := S4096x128) (k0_off1 c) S256x128.size (k0_off1_inb c)).toLoadRect (View.loadsAt_vmem h_S256x128))
  Prog.lift (.store oM (Rect.unit (s := S4096x128) (k0_off1 c) S256x128.size (k0_off1_inb c)) (k0_pay2 v w) Finset.univ (View.stores_vmem_bits_univ h_S256x128 rfl) (.inl rfl))
  pure (amax256 (k0_pay2 v w))
/-- The product of the block in slot `k`, stored into the result; the running maximum goes on. -/
def dotP (c : Dev nD) (d : Bool) (r : Fin 7) (acc : F .f32) : PG F (F .f32) := do
  let v ← Prog.lift (.load (bufM d) (Rect.unit (s := S3x256x4096) ![(kf (r.val + 1)).val, 0, 0] S1x256x4096.size (inb_slot (kf (r.val + 1)))).toLoadRect (View.loadsAt_vmem h_S1x256x4096))
  let w ← Prog.lift (.load wM (Rect.unit (s := S4096x128) ![0, 0] S4096x128.size inb_S4096x128_S4096x128_0_0).toLoadRect (View.loadsAt_vmem h_S4096x128))
  let _ ← Prog.lift (.load oM (Rect.unit (s := S4096x128) (offOf c d r) S256x128.size (offOf_inb c d r)).toLoadRect (View.loadsAt_vmem h_S256x128))
  Prog.lift (.store oM (Rect.unit (s := S4096x128) (offOf c d r) S256x128.size (offOf_inb c d r)) (k0_pay9 v w) Finset.univ (View.stores_vmem_bits_univ h_S256x128 rfl) (.inl rfl))
  pure (Scalar.maximumf acc (amax256 (k0_pay9 v w)))
/-- The far block's half that direction `d` brings. -/
def farJ : Bool → Fin 2 | false => 0 | true => 1
def farOff (c : Dev nD) (d : Bool) : Fin 2 → Nat := match d with | false => k0_off4 c | true => k0_off5 c
theorem farOff_inb (c : Dev nD) (d : Bool) : ∀ a, farOff c d a + S128x128.size a ≤ S4096x128.size a := by
  cases d
  · exact k0_off4_inb c
  · exact k0_off5_inb c
theorem inb_far (d : Bool) :
    ∀ a, (![(kf 8).val, 128 * (farJ d).val, 0] : Fin 3 → Nat) a + S1x128x4096.size a ≤ S3x256x4096.size a := by
  revert d; decide
/-- The product of the far block's half, stored into the result. -/
def dotFarP (c : Dev nD) (d : Bool) : PG F (F .f32) := do
  let v ← Prog.lift (.load (bufM d) (Rect.unit (s := S3x256x4096) ![(kf 8).val, 128 * (farJ d).val, 0] S1x128x4096.size (inb_far d)).toLoadRect (View.loadsAt_vmem h_S1x128x4096))
  let w ← Prog.lift (.load wM (Rect.unit (s := S4096x128) ![0, 0] S4096x128.size inb_S4096x128_S4096x128_0_0).toLoadRect (View.loadsAt_vmem h_S4096x128))
  let _ ← Prog.lift (.load oM (Rect.unit (s := S4096x128) (farOff c d) S128x128.size (farOff_inb c d)).toLoadRect (View.loadsAt_vmem h_S128x128))
  Prog.lift (.store oM (Rect.unit (s := S4096x128) (farOff c d) S128x128.size (farOff_inb c d)) (k0_pay36 v w) Finset.univ (View.stores_vmem_bits_univ h_S128x128 rfl) (.inl rfl))
  pure (amax128 (k0_pay36 v w))

/-! ## Blocks -/

/-- The handshake with both neighbours, and the first hop of all four lanes. -/
def startB (c : Dev nD) : PG F PUnit := do
  semSignalWord (devAt c 1) barS 1#32
  semSignalWord (devAt c 2) barS 1#32
  semWaitWord barS 2#32
  hopP c false 0 0; hopP c true 0 0; hopP c false 0 1; hopP c true 0 1

/-- What a hop does on half `j` before its products: the landings of the hop before, the credits, the transfers. -/
def recvB (c : Dev nD) (r : Fin 7) (j : Fin 2) : PG F PUnit := do
  waitRecvP false r.val j; waitRecvP true r.val j
  waitCreditP false (r.val + 1) j; waitCreditP true (r.val + 1) j
  hopP c false (r.val + 1) j; hopP c true (r.val + 1) j
/-- What a hop does on half `j` after its products: the sources of the hop before are free, and credited on. -/
def freeB (c : Dev nD) (r : Fin 7) (j : Fin 2) : PG F PUnit := do
  waitSendP false r.val j
  if r.val = 0 then pure ⟨⟩ else creditP c false (r.val + 2) j
  waitSendP true r.val j
  if r.val = 0 then pure ⟨⟩ else creditP c true (r.val + 2) j
/-- One hop. -/
def hopB (c : Dev nD) (r : Fin 7) (acc : F .f32) : PG F (F .f32) := do
  recvB c r 0; recvB c r 1
  let acc ← dotP c false r acc
  let acc ← dotP c true r acc
  freeB c r 0; freeB c r 1
  pure acc
/-- The far block: its two halves, one from each direction. -/
def farB (c : Dev nD) (acc : F .f32) : PG F (F .f32) := do
  waitRecvP false 7 0
  let a ← dotFarP c false
  waitRecvP true 7 1
  let b ← dotFarP c true
  waitSendP false 7 0
  waitSendP true 7 1
  pure (Scalar.maximumf (Scalar.maximumf acc a) b)

/-! ## The exchange of the maxima -/

/-- The slot the `i`-th of the fifteen transfers lands in. -/
def aoff (i : Fin 15) : Fin 16 := ⟨15 - i.val, by omega⟩
/-- The `i`-th transfer of the maximum, to the device `i + 1` further on. -/
def asendP (c : Dev nD) (i : Fin 15) : PG F PUnit :=
  Prog.lift (.enqueueDma asM (.remote (Dev.tc (devAt c (51 + i.val))) (aslotM (aoff i)) (.dma (asndS (aoff i))))
    (.dma (arcvS (aoff i))) asM_exact (aslotM_exact _) ⟨⟨rfl, Or.inl rfl⟩, trivial⟩)
def awaitP (i : Fin 15) : PG F PUnit := do
  Prog.lift (.waitDma2 (asndS (aoff i)) (aslotM (aoff i)) asM (aslotM_exact _) asM_exact)
  Prog.lift (.waitDma2 (arcvS (aoff i)) asM (aslotM (aoff i)) asM_exact (aslotM_exact _))
/-- One entry of a landing slot. -/
def aloadP (o : Fin 16) : PG F (Vec F S1x1x1 .f32) :=
  Prog.lift (.load aaM (Rect.unit (s := S16x8x128) ![o.val, 0, 0] S1x1x1.size (inb_acell o)).toLoadRect (View.loadsAt_vmem h_S1x1x1))

/-- A list of programs, one after the other. -/
def seqP {ι : Type} (f : ι → PG F PUnit) : List ι → PG F PUnit
  | [] => pure ⟨⟩
  | i :: l => do f i; seqP f l
/-- The running maximum over the landing slots listed. -/
def foldA : List (Fin 16) → F .f32 → PG F (F .f32)
  | [], acc => pure acc
  | o :: l, acc => do
    let v ← aloadP o
    foldA l (Scalar.maximumf acc (extractAt ![0, 0, 0] v inpos_S1x1x1_p0_0_0))

/-- The maximum written to the exchange's source, sent to all others, and all landings awaited. -/
def exchB (c : Dev nD) (acc : F .f32) : PG F PUnit := do
  let _ ← Prog.lift (.load asM (Rect.unit (s := S8x128) ![0, 0] S8x128.size inb_S8x128_S8x128_0_0).toLoadRect (View.loadsAt_vmem h_S8x128))
  Prog.lift (.store asM (Rect.unit (s := S8x128) ![0, 0] S8x128.size inb_S8x128_S8x128_0_0) (k0_pay40 (broadcast S8x128 acc)) Finset.univ (View.stores_vmem_bits_univ h_S8x128 rfl) (.inl rfl))
  seqP (asendP c) (List.finRange 15)
  seqP awaitP (List.finRange 15)

/-- The result rescaled by the global maximum `g`. -/
def scaled (g : F .f32) (y : Vec F S4096x128 .f32) : FVec F S4096x128 .f32 :=
  mulf (minimumf (broadcast S4096x128 (Scalar.ofBits .f32 0x42FE0000#32)) (maximumf (broadcast S4096x128 (Scalar.ofBits .f32 0xC2FE0000#32))
    (roundeven (mulf (shapeCast S4096x128 y shapeCasts_S4096x128_S4096x128) (broadcast S4096x128 (Scalar.divf (Scalar.ofBits .f32 0x42FE0000#32) g))))))
    (broadcast S4096x128 (Scalar.divf g (Scalar.ofBits .f32 0x42FE0000#32)))

/-- The slots' maxima folded in, and the result rescaled. -/
def lastB (acc : F .f32) : PG F PUnit := do
  let g ← foldA [1, 2, 3, 4, 5, 6, 7, 8, 9, 10, 11, 12, 13, 14, 15] acc
  let y ← Prog.lift (.load oM (Rect.unit (s := S4096x128) ![0, 0] S4096x128.size inb_S4096x128_S4096x128_0_0).toLoadRect (View.loadsAt_vmem h_S4096x128))
  let _ ← Prog.lift (.load oM (Rect.unit (s := S4096x128) ![0, 0] S4096x128.size inb_S4096x128_S4096x128_0_0).toLoadRect (View.loadsAt_vmem h_S4096x128))
  Prog.lift (.store oM (Rect.unit (s := S4096x128) ![0, 0] S4096x128.size inb_S4096x128_S4096x128_0_0) (scaled g y) Finset.univ (View.stores_vmem_bits_univ h_S4096x128 rfl) (.inl rfl))

/-- The hops one after another. -/
def hopsB (c : Dev nD) : List (Fin 7) → F .f32 → PG F (F .f32)
  | [], acc => pure acc
  | r :: l, acc => do let acc ← hopB c r acc; hopsB c l acc

/-- The whole body on device `c`. -/
def blocks (c : Dev nD) : PG F PUnit := do
  startB c
  let acc ← dotOwnP c
  let acc ← hopsB c [0, 1, 2, 3, 4, 5, 6] acc
  let acc ← farB c acc
  exchB c acc
  lastB acc

set_option maxRecDepth 65536 in
/-- The printed body is the sequence of blocks. -/
theorem body_eq_blocks : bodyAt0 (F := F) t0_0 = (do let c ← Prog.lift .deviceId; blocks c) := by chain_rfl

end Cert.KernelIdeal.Ring

end
-- ==== Proof.Proto.lean ====
/-
The protocol of the ring: who sends what to whom, at which round of which semaphore, and what each landing hands over.

The two directions of the ring and the two halves of a block give four lanes.  On lane `(d, j)` the transfer of hop
`h` goes from slot `h mod 3` of a device to slot `(h + 1) mod 3` of its neighbour in direction `d`; from hop 3 on
the receiver first credits the sender.  Afterwards every device sends its maximum to the fifteen others.
-/
module

public import proofs.«01_k».proof.Proof.Blocks
public import Idealize.ShloMosaic.Lib.ValueIdx
public import Idealize.ShloMosaic.Lib.Transfers
public import Idealize.ShloMosaic.Lib.Ring

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The resource algebra -/

/-- Rounds of the kernel's own semaphores, duties named by `Bool`; beside them the pipeline's own. -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of devices -/

/-- The device `s` places further on. -/
def sh (s : ℕ) (c : Dev nD) : Dev nD := ⟨(c.val + s) % 16, Nat.mod_lt _ (by decide)⟩
/-- How many places on a direction's neighbour is: one, or fifteen (one back). -/
def sft (d : Bool) : ℕ := if d then 15 else 1
/-- The neighbour a direction sends to, and the one it receives from. -/
def nxt (d : Bool) (c : Dev nD) : Dev nD := sh (sft d) c
def prv (d : Bool) (c : Dev nD) : Dev nD := sh (sft (!d)) c
/-- The device whose block of `x` device `c` sends on at hop `h`. -/
def org (d : Bool) (h : ℕ) (c : Dev nD) : Dev nD := sh (h * sft (!d)) c

theorem sh_sh (s t : ℕ) (c : Dev nD) : sh s (sh t c) = sh (t + s) c :=
  Fin.ext (by simp only [sh]; omega)
theorem sh_mod {s t : ℕ} (h : s % 16 = t % 16) (c : Dev nD) : sh s c = sh t c :=
  Fin.ext (by simp only [sh]; omega)
theorem sh_zero (c : Dev nD) : sh 0 c = c := by
  have := c.isLt
  exact Fin.ext (by simp only [sh]; change c.val < 16 at this; omega)
theorem sft_sum (d : Bool) : sft d + sft (!d) = 16 := by cases d <;> rfl
theorem prv_nxt (d : Bool) (c : Dev nD) : prv d (nxt d c) = c := by
  unfold prv nxt; rw [sh_sh, sft_sum]; exact (sh_mod (s := 16) (t := 0) rfl c).trans (sh_zero c)
theorem nxt_prv (d : Bool) (c : Dev nD) : nxt d (prv d c) = c := by
  unfold prv nxt; rw [sh_sh, Nat.add_comm, sft_sum]; exact (sh_mod (s := 16) (t := 0) rfl c).trans (sh_zero c)
theorem org_zero (d : Bool) (c : Dev nD) : org d 0 c = c := by unfold org; rw [Nat.zero_mul]; exact sh_zero c
/-- What a device receives at hop `h` is what the one before it sends. -/
theorem org_succ_nxt (d : Bool) (h : ℕ) (c : Dev nD) : org d (h + 1) (nxt d c) = org d h c := by
  unfold org nxt; rw [sh_sh]; refine sh_mod ?_ c
  have := sft_sum d
  rw [Nat.add_mul]; omega

/-- Moving on by `s` places, as a permutation of the devices. -/
def shE (s : ℕ) : Dev nD ≃ Dev nD :=
  ⟨sh s, sh (16 - s % 16),
    fun c => by rw [sh_sh]; exact (sh_mod (by omega) c).trans (sh_zero c),
    fun c => by rw [sh_sh]; exact (sh_mod (by omega) c).trans (sh_zero c)⟩

set_option maxRecDepth 8000 in
theorem dev_send (c : Dev nD) (d : Bool) (h : Fin 8) (j : Fin 2) (hh : h.val < nh d j) :
    devAt c (sendNo h.val d j) = nxt d c := by
  revert c d h j; decide +kernel
set_option maxRecDepth 8000 in
theorem dev_credit (c : Dev nD) (d : Bool) (h : Fin 8) (j : Fin 2) (hh : 3 ≤ h.val ∧ h.val < nh d j) :
    devAt c (creditNo h.val d j) = prv d c := by
  revert c d h j; decide +kernel
theorem dev_bar1 (c : Dev nD) : devAt c 1 = prv false c := by revert c; decide +kernel
theorem dev_bar2 (c : Dev nD) : devAt c 2 = prv true c := by revert c; decide +kernel
theorem dev_amax (c : Dev nD) (i : Fin 15) : devAt c (51 + i.val) = sh (i.val + 1) c := by
  revert c i; decide +kernel

theorem nh_le (d : Bool) (j : Fin 2) : nh d j ≤ 8 := by revert d j; decide
theorem le_nh (d : Bool) (j : Fin 2) : 7 ≤ nh d j := by revert d j; decide

/-! ## The semaphores -/

/-- What a semaphore of the kernel is for. -/
inductive Kind where
  | none
  | snd (d : Bool) (k : Fin 3) (j : Fin 2)
  | rcv (d : Bool) (k : Fin 3) (j : Fin 2)
  | crd (d : Bool) (k : Fin 3) (j : Fin 2)
  | bar
  | asnd (o : Fin 16)
  | arcv (o : Fin 16)
deriving DecidableEq

def k3 (n : ℕ) : Fin 3 := ⟨n / 2 % 3, Nat.mod_lt _ (by decide)⟩
def j2 (n : ℕ) : Fin 2 := ⟨n % 2, Nat.mod_lt _ (by decide)⟩
def o16 (n : ℕ) : Fin 16 := ⟨n % 16, Nat.mod_lt _ (by decide)⟩

/-- The purpose of each semaphore, read off its number. -/
def kindOf : SemLoc sig → Kind
  | .dma q =>
    if q.val < 3 then .none
    else if q.val < 9 then .snd false (k3 (q.val - 3)) (j2 (q.val - 3))
    else if q.val < 15 then .rcv false (k3 (q.val - 9)) (j2 (q.val - 9))
    else if q.val < 21 then .snd true (k3 (q.val - 15)) (j2 (q.val - 15))
    else if q.val < 27 then .rcv true (k3 (q.val - 21)) (j2 (q.val - 21))
    else if q.val < 43 then .asnd (o16 (q.val - 27))
    else .arcv (o16 (q.val - 43))
  | .reg s =>
    if s.val < 6 then .crd false (k3 s.val) (j2 s.val)
    else if s.val < 12 then .crd true (k3 (s.val - 6)) (j2 (s.val - 6))
    else .bar

set_option maxRecDepth 8000 in
theorem kind_snd (d : Bool) (k : Fin 3) (j : Fin 2) : kindOf (.dma (sndS d k j)) = .snd d k j := by
  revert d k j; decide +kernel
set_option maxRecDepth 8000 in
theorem kind_rcv (d : Bool) (k : Fin 3) (j : Fin 2) : kindOf (.dma (rcvS d k j)) = .rcv d k j := by
  revert d k j; decide +kernel
set_option maxRecDepth 8000 in
theorem kind_crd (d : Bool) (k : Fin 3) (j : Fin 2) : kindOf (.reg (crdS d k j)) = .crd d k j := by
  revert d k j; decide +kernel
theorem kind_bar : kindOf (.reg barS) = .bar := by decide +kernel
theorem kind_asnd (o : Fin 16) : kindOf (.dma (asndS o)) = .asnd o := by revert o; decide +kernel
theorem kind_arcv (o : Fin 16) : kindOf (.dma (arcvS o)) = .arcv o := by revert o; decide +kernel

/-- A semaphore of device `c`. -/
abbrev cell (c : Dev nD) (sm : SemLoc sig) : GSem nD τ sig := ((c : Thread nD τ), sm)

/-- The amount of a half block's transfer, and of a maximum's. -/
def NR : ℕ := (halfM false 0 0).view.dmaCredit
def NA : ℕ := (aslotM 0).view.dmaCredit
theorem NR_pos : 0 < NR := View.dmaCredit_pos _ (by decide)
theorem NA_pos : 0 < NA := View.dmaCredit_pos _ (by decide)

def amtK : Kind → ℕ
  | .snd .. => NR | .rcv .. => NR | .asnd _ => NA | .arcv _ => NA | _ => 1
/-- What one payment to a semaphore amounts to. -/
def amt (sm : SemLoc sig) : ℕ := amtK (kindOf sm)
theorem amt_pos (sm : SemLoc sig) : 0 < amt sm := by
  unfold amt amtK; split <;> first | exact NR_pos | exact NA_pos | exact Nat.one_pos

/-! ## Contents -/

/-- The staged blocks of `x` and of `w_mat` on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- A ring buffer every slot of which holds device `o`'s block of `x`. -/
def XB (d : Bool) (o c : Dev nD) : Buf (Elt F) ((bufM d).view.loc (c : Thread nD τ)) :=
  match d with
  | false => fun (i : S3x256x4096.Idx) => xstg m ρ o (ix2 (n0 := 256) (n1 := 4096) (i 1) (i 2))
  | true => fun (i : S3x256x4096.Idx) => xstg m ρ o (ix2 (n0 := 256) (n1 := 4096) (i 1) (i 2))

/-- Device `o`'s block as a slot of one leading axis, and one half of it. -/
def vslot (o : Dev nD) : Vec F S1x256x4096 .f32 :=
  fun (i : S1x256x4096.Idx) => xstg m ρ o (ix2 (n0 := 256) (n1 := 4096) (i 1) (i 2))
def vhalf (o : Dev nD) (j : Fin 2) : Vec F S1x128x4096 .f32 :=
  fun (i : S1x128x4096.Idx) => xstg m ρ o (ix2 (n0 := 256) (n1 := 4096)
    ⟨128 * j.val + (i 1).val, by have h1 : (i 1).val < 128 := (i 1).isLt; have := j.isLt; omega⟩ (i 2))

/-- The product of the device's own block, of the block a hop brings, and of a half of the far block. -/
def yOwn (c : Dev nD) : FVec F S256x128 .f32 := k0_pay2 (xstg m ρ c) (wstg m ρ c)
def yHop (c : Dev nD) (d : Bool) (r : ℕ) : FVec F S256x128 .f32 := k0_pay9 (vslot m ρ (org d (r + 1) c)) (wstg m ρ c)
def yFar (c : Dev nD) (d : Bool) : FVec F S128x128 .f32 := k0_pay36 (vhalf m ρ (org d 8 c) (farJ d)) (wstg m ρ c)

/-- The running maximum before hop `r + 1`'s products. -/
def accAt (c : Dev nD) : ℕ → F .f32
  | 0 => amax256 (yOwn m ρ c)
  | r + 1 => Scalar.maximumf (Scalar.maximumf (accAt c r) (amax256 (yHop m ρ c false r))) (amax256 (yHop m ρ c true r))
/-- Device `c`'s maximum. -/
def amaxV (c : Dev nD) : F .f32 :=
  Scalar.maximumf (Scalar.maximumf (accAt m ρ c 7) (amax128 (yFar m ρ c false))) (amax128 (yFar m ρ c true))
/-- The contents of the exchange's source and of a landing slot that holds `v`. -/
def asC (v : F .f32) (c : Dev nD) : Buf (Elt F) (asM.view.loc (c : Thread nD τ)) := fun (_ : S8x128.Idx) => v
def aaC (v : F .f32) (c : Dev nD) : Buf (Elt F) (aaM.view.loc (c : Thread nD τ)) := fun (_ : S16x8x128.Idx) => v

/-! ## Lists of assertions -/

/-- The separating conjunction over a list. -/
def sepL {α : Type} (Φ : α → sProp 𝕄) : List α → sProp 𝕄
  | [] => iprop(emp)
  | a :: l => iprop(Φ a ∗ sepL Φ l)

instance sepL_storable {α : Type} (Φ : α → sProp 𝕄) [∀ a, BI.Storable (upEmb : UEmb _ 𝕄) (Φ a)] (l : List α) :
    BI.Storable (upEmb : UEmb _ 𝕄) (sepL Φ l) := by
  induction l with
  | nil => unfold sepL; infer_instance
  | cons a l ih => unfold sepL; infer_instance

theorem sepL_append {α : Type} (Φ : α → sProp 𝕄) (l l' : List α) : sepL Φ (l ++ l') ⊣⊢ iprop(sepL Φ l ∗ sepL Φ l') := by
  induction l with
  | nil => exact ⟨by show sepL Φ l' ⊢ iprop(emp ∗ sepL Φ l'); iintro H; isplitr; · iempintro
                     iexact H,
                  by show iprop(emp ∗ sepL Φ l') ⊢ sepL Φ l'; iintro ⟨-, H⟩; iexact H⟩
  | cons a l ih =>
    constructor
    · show iprop(Φ a ∗ sepL Φ (l ++ l')) ⊢ iprop((Φ a ∗ sepL Φ l) ∗ sepL Φ l')
      iintro ⟨Ha, Hl⟩
      ihave Hl' := ih.1 $$ Hl
      icases Hl' with ⟨Hl, Hl'⟩
      isplitr [Hl']
      · isplitl [Ha] <;> iassumption
      · iexact Hl'
    · show iprop((Φ a ∗ sepL Φ l) ∗ sepL Φ l') ⊢ iprop(Φ a ∗ sepL Φ (l ++ l'))
      iintro ⟨⟨Ha, Hl⟩, Hl'⟩
      isplitl [Ha]; · iexact Ha
      iapply ih.2
      isplitl [Hl] <;> iassumption

theorem sepL_mono {α : Type} {Φ Ψ : α → sProp 𝕄} (l : List α) (h : ∀ a ∈ l, Φ a ⊢ Ψ a) : sepL Φ l ⊢ sepL Ψ l := by
  induction l with
  | nil => exact .rfl
  | cons a l ih =>
    exact BI.sep_mono (h a List.mem_cons_self) (ih fun b hb => h b (List.mem_cons_of_mem _ hb))

theorem sepL_map {α β : Type} (Φ : β → sProp 𝕄) (f : α → β) (l : List α) : sepL Φ (l.map f) = sepL (fun a => Φ (f a)) l := by
  induction l with
  | nil => rfl
  | cons a l ih => show iprop(Φ (f a) ∗ sepL Φ (l.map f)) = _; rw [ih]; rfl

theorem sepL_sep {α : Type} (Φ Ψ : α → sProp 𝕄) (l : List α) :
    iprop(sepL Φ l ∗ sepL Ψ l) ⊢ sepL (fun a => iprop(Φ a ∗ Ψ a)) l := by
  induction l with
  | nil => iintro -; iempintro
  | cons a l ih =>
    show iprop((Φ a ∗ sepL Φ l) ∗ (Ψ a ∗ sepL Ψ l)) ⊢ iprop((Φ a ∗ Ψ a) ∗ sepL (fun a => iprop(Φ a ∗ Ψ a)) l)
    iintro ⟨⟨Ha, Hl⟩, Hb, Hl'⟩
    isplitr [Hl Hl']
    · isplitl [Ha] <;> iassumption
    · iapply ih; isplitl [Hl] <;> iassumption

/-- A family over a finite set gives it over any list without repetition of the set's members. -/
theorem sepL_of_bigSep {α : Type} [DecidableEq α] (Φ : α → sProp 𝕄) (l : List α) (S : Finset α) (hn : l.Nodup)
    (hs : ∀ a ∈ l, a ∈ S) : bigSep S Φ ⊢ sepL Φ l := by
  induction l generalizing S with
  | nil => iintro -; iempintro
  | cons a l ih =>
    rw [bigSep_erase (hs a List.mem_cons_self)]
    exact sep_mono_right (ih (S.erase a) (List.nodup_cons.mp hn).2 fun b hb =>
      Finset.mem_erase.mpr ⟨fun e => (List.nodup_cons.mp hn).1 (e ▸ hb), hs b (List.mem_cons_of_mem _ hb)⟩)

/-- A family over a list without repetition is the family over its members' set. -/
theorem sepL_toFinset {α : Type} [DecidableEq α] (Φ : α → sProp 𝕄) (l : List α) (hn : l.Nodup) :
    sepL Φ l ⊢ bigSep l.toFinset Φ := by
  induction l with
  | nil => exact .rfl
  | cons a l ih =>
    rw [List.toFinset_cons, bigSep_insert (by rw [List.mem_toFinset]; exact (List.nodup_cons.mp hn).1)]
    exact sep_mono_right (ih (List.nodup_cons.mp hn).2)

/-- A family over a list gives it over another list of some of its members. -/
theorem sepL_sub {α : Type} [DecidableEq α] (Φ : α → sProp 𝕄) (l l' : List α) (hn : l.Nodup) (hn' : l'.Nodup)
    (hs : ∀ a ∈ l', a ∈ l) : sepL Φ l ⊢ sepL Φ l' :=
  (sepL_toFinset Φ l hn).trans (sepL_of_bigSep Φ l' _ hn' fun a ha => List.mem_toFinset.mpr (hs a ha))

/-! ## Parts of buffers -/

/-- Half `j` of slot `k` of direction `d`'s ring buffer on device `c`. -/
def halfPt (d : Bool) (k : Fin 3) (j : Fin 2) (c : Dev nD) (q : PosShare TreeShare)
    (f : Buf (Elt F) ((bufM d).view.loc (c : Thread nD τ))) : sProp 𝕄 :=
  ((bufM d).view.loc (c : Thread nD τ)) ↦[(halfM d k j).view.set]{q} f
/-- The same, whole share, at some contents. -/
def halfAny (d : Bool) (k : Fin 3) (j : Fin 2) (c : Dev nD) : sProp 𝕄 := iprop(∃ f, halfPt (F := F) d k j c fullShare f)
/-- The share of the staged block of `x` lent to a direction's first hop; the rest stays for the product. -/
def xq : Bool → PosShare TreeShare | false => fullShare.left.left | true => fullShare.left.right
def xPt (d : Bool) (j : Fin 2) (c : Dev nD) : sProp 𝕄 :=
  (xM.view.loc (c : Thread nD τ)) ↦[(xhalfM j).view.set]{xq d} (xstg m ρ c)
/-- A landing slot of the exchange. -/
def aaPt (o : Fin 16) (c : Dev nD) (f : Buf (Elt F) (aaM.view.loc (c : Thread nD τ))) : sProp 𝕄 :=
  (aaM.view.loc (c : Thread nD τ)) ↦[(aslotM o).view.set]{fullShare} f
def aaAny (o : Fin 16) (c : Dev nD) : sProp 𝕄 := iprop(∃ f, aaPt (F := F) o c f)
/-- The share of the exchange's source lent to the transfer into slot `o`. -/
def asPt (o : Fin 16) (c : Dev nD) : sProp 𝕄 :=
  (asM.view.loc (c : Thread nD τ)) ↦[asM.view.set]{Transfers.shareTokN fullShare (15 - o.val)} (asC (amaxV m ρ c) c)

theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance halfPt_storable (d k j c q f) : BI.Storable (upEmb : UEmb _ 𝕄) (halfPt (F := F) d k j c q f) := by
  unfold halfPt; exact pts_storable _ _ _ _
instance halfAny_storable (d k j c) : BI.Storable (upEmb : UEmb _ 𝕄) (halfAny (F := F) d k j c) := by
  unfold halfAny; infer_instance
instance xPt_storable (d j c) : BI.Storable (upEmb : UEmb _ 𝕄) (xPt (F := F) m ρ d j c) := by unfold xPt; exact pts_storable _ _ _ _
instance aaPt_storable (o c f) : BI.Storable (upEmb : UEmb _ 𝕄) (aaPt (F := F) o c f) := by unfold aaPt; exact pts_storable _ _ _ _
instance aaAny_storable (o c) : BI.Storable (upEmb : UEmb _ 𝕄) (aaAny (F := F) o c) := by unfold aaAny; infer_instance
instance asPt_storable (o c) : BI.Storable (upEmb : UEmb _ 𝕄) (asPt (F := F) m ρ o c) := by unfold asPt; infer_instance

/-! ## What the payments hand over -/

/-- The landing slots of the block's owner whose permission travels with hop `h` of a lane, next user first. -/
def trL (d : Bool) (j : Fin 2) (h : ℕ) : List (Fin 16) :=
  match d, j with
  | false, 0 => (List.range (8 - h)).map fun n => o16 (h + 1 + n)
  | true, 1 => (List.range (7 - h)).map fun n => o16 (15 - h - n)
  | _, _ => []
/-- Permissions to the listed landing slots of device `o`. -/
def prm (l : List (Fin 16)) (o : Dev nD) : sProp 𝕄 := sepL (fun s => aaAny (F := F) s o) l
/-- The halves of a neighbour's slots that hops `n`, …, 2 of a lane write. -/
def dsts (d : Bool) (j : Fin 2) (n : ℕ) (c : Dev nD) : sProp 𝕄 :=
  sepL (fun h => halfAny (F := F) d (kf (h + 1)) j (nxt d c)) ((List.range 3).drop n)

instance prm_storable (l o) : BI.Storable (upEmb : UEmb _ 𝕄) (prm (F := F) l o) := by unfold prm; infer_instance
instance dsts_storable (d j n c) : BI.Storable (upEmb : UEmb _ 𝕄) (dsts (F := F) d j n c) := by unfold dsts; infer_instance

/-- The source of hop `h` comes back to its sender. -/
def sndPay (d : Bool) (h : ℕ) (j : Fin 2) (c : Dev nD) : sProp 𝕄 :=
  match h with
  | 0 => xPt m ρ d j c
  | h + 1 => halfPt d (kf (h + 1)) j c fullShare.left (XB m ρ d (org d (h + 1) c) c)
/-- The landing of hop `h`: the half block, how far the sender's credits have come, and the permissions. -/
def rcvPay (d : Bool) (h : ℕ) (j : Fin 2) (c : Dev nD) : sProp 𝕄 :=
  iprop(halfPt d (kf (h + 1)) j c fullShare (XB m ρ d (org d (h + 1) c) c)
    ∗ reached ER (cell (prv d c) (.reg (crdS d (kf (h + 1)) j))) (h / 3) ∗ prm (trL d j h) (org d (h + 1) c))
/-- The credit for hop `h`: the half it writes, and that the receiver has come to its round. -/
def crdPay (d : Bool) (h : ℕ) (j : Fin 2) (c : Dev nD) : sProp 𝕄 :=
  iprop(halfAny d (kf (h + 1)) j (nxt d c) ∗ reached ER (cell (nxt d c) (.dma (rcvS d (kf (h + 1)) j))) (h / 3))
/-- The handshake: a neighbour's whole ring buffer of the direction towards it. -/
def barPay (d : Bool) (c : Dev nD) : sProp 𝕄 := iprop(dsts d 0 0 c ∗ dsts d 1 0 c)
/-- The maximum of the device `o` places on. -/
def arcvPay (o : Fin 16) (c : Dev nD) : sProp 𝕄 := aaPt o c (aaC (amaxV m ρ (sh o.val c)) c)

instance sndPay_storable (d h j c) : BI.Storable (upEmb : UEmb _ 𝕄) (sndPay (F := F) m ρ d h j c) := by
  cases h <;> (unfold sndPay; infer_instance)
instance rcvPay_storable (d h j c) : BI.Storable (upEmb : UEmb _ 𝕄) (rcvPay (F := F) m ρ d h j c) := by
  unfold rcvPay; infer_instance
instance crdPay_storable (d h j c) : BI.Storable (upEmb : UEmb _ 𝕄) (crdPay (F := F) d h j c) := by
  unfold crdPay; infer_instance
instance barPay_storable (d c) : BI.Storable (upEmb : UEmb _ 𝕄) (barPay (F := F) d c) := by unfold barPay; infer_instance
instance arcvPay_storable (o c) : BI.Storable (upEmb : UEmb _ 𝕄) (arcvPay (F := F) m ρ o c) := by
  unfold arcvPay; infer_instance

/-! ## The schedule -/

/-- The hop a round of a semaphore of the ring belongs to. -/
def hopSnd (k : Fin 3) (r : ℕ) : ℕ := 3 * r + k.val
def hopRcv (k : Fin 3) (r : ℕ) : ℕ := 3 * r + (k.val + 2) % 3
def hopCrd (k : Fin 3) (r : ℕ) : ℕ := 3 * (r + 1) + (k.val + 2) % 3

def dutyK : Kind → ℕ → Finset Bool
  | .snd d k j, r => if hopSnd k r < nh d j then {false} else ∅
  | .rcv d k j, r => if hopRcv k r < nh d j then {false} else ∅
  | .crd d k j, r => if hopCrd k r < nh d j then {false} else ∅
  | .bar, r => if r = 0 then Finset.univ else ∅
  | .asnd o, r => if r = 0 ∧ o ≠ 0 then {false} else ∅
  | .arcv o, r => if r = 0 ∧ o ≠ 0 then {false} else ∅
  | .none, _ => ∅
def payK (c : Dev nD) : Kind → ℕ → Bool → sProp 𝕄
  | .snd d k j, r, _ => sndPay m ρ d (hopSnd k r) j c
  | .rcv d k j, r, _ => rcvPay m ρ d (hopRcv k r) j c
  | .crd d k j, r, _ => crdPay d (hopCrd k r) j c
  | .bar, _, d => barPay d c
  | .asnd o, _, _ => asPt m ρ o c
  | .arcv o, _, _ => arcvPay m ρ o c
  | .none, _, _ => iprop(emp)

/-- Every semaphore's rounds: whose duties they are, their amounts, and what each payment hands over. -/
def ringRd : Rounds.Schedule (GSem nD τ sig) Bool 𝕄 where
  duties g r := if g.1.2 = .tc then dutyK (kindOf g.2) r else ∅
  unitless _ := False
  amount g _ _ := amt g.2
  payload g r d := payK m ρ g.1.1 (kindOf g.2) r d
  amount_pos g _ _ _ := amt_pos g.2

instance ringRd_payload_storable (g : GSem nD τ sig) (r : ℕ) (d : Bool) :
    BI.Storable (upEmb : UEmb _ 𝕄) ((ringRd (F := F) m ρ).payload g r d) := by
  show BI.Storable upEmb (payK m ρ g.1.1 (kindOf g.2) r d)
  unfold payK
  split <;> infer_instance

theorem duties_eq (c : Dev nD) (sm : SemLoc sig) (r : ℕ) : (ringRd m ρ).duties (cell c sm) r = dutyK (kindOf sm) r := by
  dsimp only [ringRd]; exact if_pos rfl
theorem amount_eq (c : Dev nD) (sm : SemLoc sig) (r : ℕ) (d : Bool) : (ringRd m ρ).amount (cell c sm) r d = amt sm := rfl
theorem payload_eq (c : Dev nD) (sm : SemLoc sig) (r : ℕ) (d : Bool) :
    (ringRd m ρ).payload (cell c sm) r d = payK m ρ c (kindOf sm) r d := rfl

/-- A round with the one duty `false` expects one payment, and its rest is that payment's payload. -/
theorem expect_one {c : Dev nD} {sm : SemLoc sig} {r : ℕ} (h : dutyK (kindOf sm) r = {false}) :
    (ringRd m ρ).expect (cell c sm) r = amt sm := by
  unfold Schedule.expect Schedule.amountOf; rw [duties_eq, h, Finset.sum_singleton, amount_eq]
theorem rest_one {c : Dev nD} {sm : SemLoc sig} {r : ℕ} (h : dutyK (kindOf sm) r = {false}) :
    bigSep ((ringRd m ρ).duties (cell c sm) r \ ∅) (fun d => (ringRd m ρ).payload (cell c sm) r d)
      = payK m ρ c (kindOf sm) r false := by
  rw [Finset.sdiff_empty, duties_eq, h, bigSep_singleton, payload_eq]

theorem hopSnd_kf (h : ℕ) : hopSnd (kf h) (h / 3) = h := by unfold hopSnd kf; dsimp only; omega
theorem hopRcv_kf (h : ℕ) : hopRcv (kf (h + 1)) (h / 3) = h := by unfold hopRcv kf; dsimp only; omega
theorem hopCrd_kf (h : ℕ) (h3 : 3 ≤ h) : hopCrd (kf (h + 1)) ((h - 3) / 3) = h := by unfold hopCrd kf; dsimp only; omega

theorem duty_snd {d : Bool} {h : ℕ} {j : Fin 2} (hh : h < nh d j) :
    dutyK (kindOf (.dma (sndS d (kf h) j))) (h / 3) = {false} := by
  rw [kind_snd]; unfold dutyK; dsimp only; rw [hopSnd_kf, if_pos hh]
theorem duty_rcv {d : Bool} {h : ℕ} {j : Fin 2} (hh : h < nh d j) :
    dutyK (kindOf (.dma (rcvS d (kf (h + 1)) j))) (h / 3) = {false} := by
  rw [kind_rcv]; unfold dutyK; dsimp only; rw [hopRcv_kf, if_pos hh]
theorem duty_crd {d : Bool} {h : ℕ} {j : Fin 2} (h3 : 3 ≤ h) (hh : h < nh d j) :
    dutyK (kindOf (.reg (crdS d (kf (h + 1)) j))) ((h - 3) / 3) = {false} := by
  rw [kind_crd]; unfold dutyK; dsimp only; rw [hopCrd_kf h h3, if_pos hh]
theorem duty_asnd {o : Fin 16} (ho : o ≠ 0) : dutyK (kindOf (.dma (asndS o))) 0 = {false} := by
  rw [kind_asnd]; exact if_pos ⟨rfl, ho⟩
theorem duty_arcv {o : Fin 16} (ho : o ≠ 0) : dutyK (kindOf (.dma (arcvS o))) 0 = {false} := by
  rw [kind_arcv]; exact if_pos ⟨rfl, ho⟩

theorem pay_snd (c : Dev nD) (d : Bool) (h : ℕ) (j : Fin 2) (b : Bool) :
    payK m ρ c (kindOf (.dma (sndS d (kf h) j))) (h / 3) b = sndPay m ρ d h j c := by
  rw [kind_snd]; unfold payK; dsimp only; rw [hopSnd_kf]
theorem pay_rcv (c : Dev nD) (d : Bool) (h : ℕ) (j : Fin 2) (b : Bool) :
    payK m ρ c (kindOf (.dma (rcvS d (kf (h + 1)) j))) (h / 3) b = rcvPay m ρ d h j c := by
  rw [kind_rcv]; unfold payK; dsimp only; rw [hopRcv_kf]
theorem pay_crd (c : Dev nD) (d : Bool) (h : ℕ) (h3 : 3 ≤ h) (j : Fin 2) (b : Bool) :
    payK m ρ c (kindOf (.reg (crdS d (kf (h + 1)) j))) ((h - 3) / 3) b = crdPay d h j c := by
  rw [kind_crd]; unfold payK; dsimp only; rw [hopCrd_kf h h3]
theorem pay_bar (c : Dev nD) (r : ℕ) (d : Bool) : payK m ρ c (kindOf (.reg barS)) r d = barPay d c := by
  rw [kind_bar]; rfl
theorem pay_asnd (c : Dev nD) (o : Fin 16) (b : Bool) : payK m ρ c (kindOf (.dma (asndS o))) 0 b = asPt m ρ o c := by
  rw [kind_asnd]; rfl
theorem pay_arcv (c : Dev nD) (o : Fin 16) (b : Bool) : payK m ρ c (kindOf (.dma (arcvS o))) 0 b = arcvPay m ρ o c := by
  rw [kind_arcv]; rfl

theorem amt_snd (d k j) : amt (.dma (sndS d k j)) = NR := by unfold amt; rw [kind_snd]; rfl
theorem amt_rcv (d k j) : amt (.dma (rcvS d k j)) = NR := by unfold amt; rw [kind_rcv]; rfl
theorem amt_crd (d k j) : amt (.reg (crdS d k j)) = 1 := by unfold amt; rw [kind_crd]; rfl
theorem amt_bar : amt (.reg barS) = 1 := by unfold amt; rw [kind_bar]; rfl
theorem amt_asnd (o) : amt (.dma (asndS o)) = NA := by unfold amt; rw [kind_asnd]; rfl
theorem amt_arcv (o) : amt (.dma (arcvS o)) = NA := by unfold amt; rw [kind_arcv]; rfl

theorem bar_expect (c : Dev nD) : (ringRd m ρ).expect (cell c (.reg barS)) 0 = 2 := by
  unfold Schedule.expect Schedule.amountOf
  rw [duties_eq, kind_bar, show dutyK .bar 0 = Finset.univ from rfl, Finset.sum_congr rfl fun d _ => amount_eq m ρ c _ 0 d,
    amt_bar, Finset.sum_const, Finset.card_univ, Fintype.card_bool, smul_eq_mul]
theorem bar_rest (c : Dev nD) :
    bigSep ((ringRd m ρ).duties (cell c (.reg barS)) 0 \ ∅) (fun d => (ringRd m ρ).payload (cell c (.reg barS)) 0 d)
      = iprop(barPay false c ∗ barPay true c) := by
  rw [Finset.sdiff_empty, duties_eq, kind_bar, show dutyK .bar 0 = Finset.univ from rfl,
    bigSep_univ_eq_bigSepL [false, true] (by decide) (by decide), bigSepL_cons_cons, bigSepL_singleton,
    payload_eq, payload_eq, pay_bar, pay_bar]
  rfl

/-- From the hop count on a lane's semaphores have no duties left. -/
theorem none_snd {d : Bool} {n : ℕ} {j : Fin 2} (hn : nh d j ≤ n) (c : Dev nD) :
    ∀ r, n / 3 ≤ r → (ringRd m ρ).duties (cell c (.dma (sndS d (kf n) j))) r = ∅ := fun r hr => by
  rw [duties_eq, kind_snd]; unfold dutyK hopSnd kf; dsimp only; rw [if_neg (by omega)]
theorem none_rcv {d : Bool} {n : ℕ} {j : Fin 2} (hn : nh d j ≤ n) (c : Dev nD) :
    ∀ r, n / 3 ≤ r → (ringRd m ρ).duties (cell c (.dma (rcvS d (kf (n + 1)) j))) r = ∅ := fun r hr => by
  rw [duties_eq, kind_rcv]; unfold dutyK hopRcv kf; dsimp only; rw [if_neg (by omega)]
theorem none_crd {d : Bool} {n : ℕ} {j : Fin 2} (hn : nh d j ≤ n) (c : Dev nD) :
    ∀ r, (n - 3) / 3 ≤ r → (ringRd m ρ).duties (cell c (.reg (crdS d (kf (n + 1)) j))) r = ∅ := fun r hr => by
  have := le_nh d j
  rw [duties_eq, kind_crd]; unfold dutyK hopCrd kf; dsimp only; rw [if_neg (by omega)]
theorem none_asnd (o : Fin 16) (c : Dev nD) : ∀ r, 1 ≤ r → (ringRd m ρ).duties (cell c (.dma (asndS o))) r = ∅ := fun r hr => by
  rw [duties_eq, kind_asnd]; exact if_neg (by omega)
theorem none_arcv (o : Fin 16) (c : Dev nD) : ∀ r, 1 ≤ r → (ringRd m ρ).duties (cell c (.dma (arcvS o))) r = ∅ := fun r hr => by
  rw [duties_eq, kind_arcv]; exact if_neg (by omega)
theorem none_asnd0 (c : Dev nD) : ∀ r, 0 ≤ r → (ringRd m ρ).duties (cell c (.dma (asndS 0))) r = ∅ := fun r hr => by
  rw [duties_eq, kind_asnd]; exact if_neg fun h => h.2 rfl
theorem none_arcv0 (c : Dev nD) : ∀ r, 0 ≤ r → (ringRd m ρ).duties (cell c (.dma (arcvS 0))) r = ∅ := fun r hr => by
  rw [duties_eq, kind_arcv]; exact if_neg fun h => h.2 rfl
theorem none_bar (c : Dev nD) : ∀ r, 1 ≤ r → (ringRd m ρ).duties (cell c (.reg barS)) r = ∅ := fun r hr => by
  rw [duties_eq, kind_bar]; exact if_neg (by omega)

/-! ## What a device owes, and the levels -/

/-- A payment a device owes: the semaphore, how many places on its device is, and the level it is waited at. -/
abbrev Due : Type := SemLoc sig × ℕ × ℕ

def sendDue (d : Bool) (h : ℕ) (j : Fin 2) : List Due :=
  if h < nh d j then [(.dma (rcvS d (kf (h + 1)) j), sft d, 10 * h + 10)] else []
def creditDue (d : Bool) (h : ℕ) (j : Fin 2) : List Due :=
  if 3 ≤ h ∧ h < nh d j then [(.reg (crdS d (kf (h + 1)) j), sft (!d), 10 * h + 5)] else []
def asendDue (i : Fin 15) : Due := (.dma (arcvS (aoff i)), i.val + 1, 200)
/-- What is still owed from the exchange of the maxima on, from its `n`-th transfer. -/
def dueA (n : ℕ) : List Due := ((List.finRange 15).drop n).map asendDue
def sendsDue (h : ℕ) (j : Fin 2) : List Due := sendDue false h j ++ sendDue true h j
def creditsDue (h : ℕ) (j : Fin 2) : List Due := creditDue false h j ++ creditDue true h j
/-- What is owed from hop `r + 1` on. -/
def dueH (r : ℕ) : List Due :=
  ((List.range 7).drop r).flatMap (fun r => (sendsDue (r + 1) 0 ++ sendsDue (r + 1) 1) ++ (creditsDue (r + 2) 0 ++ creditsDue (r + 2) 1)) ++ dueA 0
/-- What is owed after the handshake, and all that is owed, in the order of the payments. -/
def due1 : List Due := sendsDue 0 0 ++ (sendsDue 0 1 ++ dueH 0)
def due0 : List Due := (.reg barS, sft true, 1) :: (.reg barS, sft false, 1) :: due1

/-- The tallies device `c` owes for a list of payments. -/
def tly (c : Dev nD) : List Due → CellTallies nD τ sig ℕ
  | [] => 0
  | x :: l => tly c l + tallyAt (cell (sh x.2.1 c) x.1) x.2.2 (amt x.1)

/-- The core's debt: the listed payments. -/
def Ow (c : Dev nD) (l : List Due) : sProp 𝕄 := iprop(∃ W, owes (c : Thread nD τ) (tly c l) W)

def L (g : GSem nD τ sig) : Finset ℕ := if g.1.2 = .tc then Finset.range 1000 else ∅
def lv (_ : GSem nD τ sig) (i : ℕ) : ℕ := i

theorem L_of_ne (g : GSem nD τ sig) (h : g.1.2 ≠ .tc) : L g = ∅ := if_neg h
theorem L_tc (c : Dev nD) (sm : SemLoc sig) : L (cell c sm) = Finset.range 1000 := if_pos rfl

theorem tly_pos {c : Dev nD} {l : List Due} {g : GSem nD τ sig} {u : ℕ} (h : 0 < tly c l g u) :
    ∃ x ∈ l, g = cell (sh x.2.1 c) x.1 ∧ u = x.2.2 := by
  induction l with
  | nil => exact absurd h (Nat.lt_irrefl 0)
  | cons x l ih =>
    unfold tly at h
    rw [Pi.add_apply, Finsupp.add_apply, tallyAt_apply] at h
    by_cases hx : g = cell (sh x.2.1 c) x.1 ∧ u = x.2.2
    · exact ⟨x, List.mem_cons_self, hx⟩
    · rw [if_neg hx, Nat.add_zero] at h
      obtain ⟨y, hy, e⟩ := ih h
      exact ⟨y, List.mem_cons_of_mem _ hy, e⟩

/-- A device may wait at level `ι` while all it owes is at higher levels. -/
theorem mayW (c : Dev nD) (sm : SemLoc sig) (ι : ℕ) (l : List Due) (hι : ι < 1000) (h : ∀ x ∈ l, ι < x.2.2 ∧ x.2.2 < 1000) :
    (levAts L lv : sProp 𝕄) ⊢ MayWait (c : Thread nD τ) sm ι (tly c l) :=
  MayOwe.of_cut (L := L) (lev := lv) ι
    (fun p hp => by rw [Finset.mem_singleton.mp hp, L_tc]; exact Finset.mem_range.mpr hι)
    (fun g u hg => by obtain ⟨x, hx, rfl, rfl⟩ := tly_pos hg; rw [L_tc]; exact Finset.mem_range.mpr (h x hx).2)
    (fun p hp => by rw [Finset.mem_singleton.mp hp]; exact le_rfl)
    (fun g u hg => by obtain ⟨x, hx, rfl, rfl⟩ := tly_pos hg; exact (h x hx).1)

/-- Whether all of a list's payments are at levels above `ι`. -/
def above (ι : ℕ) (l : List Due) : Bool := l.all fun x => decide (ι < x.2.2 ∧ x.2.2 < 1000)
theorem above_iff {ι : ℕ} {l : List Due} (h : above ι l = true) : ∀ x ∈ l, ι < x.2.2 ∧ x.2.2 < 1000 := fun x hx =>
  of_decide_eq_true (List.all_eq_true.mp h x hx)

theorem dueH_succ (r : Fin 7) : dueH r.val = (sendsDue (r.val + 1) 0 ++ sendsDue (r.val + 1) 1)
    ++ ((creditsDue (r.val + 2) 0 ++ creditsDue (r.val + 2) 1) ++ dueH (r.val + 1)) := by
  unfold dueH
  rw [List.drop_eq_getElem_cons (by rw [List.length_range]; exact r.isLt), List.getElem_range, List.flatMap_cons]
  simp only [List.append_assoc]

end Cert.KernelIdeal.Ring

end
-- ==== Proof.Views.lean ====
/-
The parts of the buffers the transfers, loads and stores go through: which elements they are, how the parts make up
the whole, and what is read from and written to them.
-/
module

public import proofs.«01_k».proof.Proof.Proto

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

variable (m : (ℓ : Loc nD τ sig) → Buf (Elt F) ℓ) (ρ : Dev nD → PrngReg)

/-! ## Which elements a part has -/

/-- The rectangle of half `j` of slot `k`. -/
def halfRc (k : Fin 3) (j : Fin 2) : Rect S3x256x4096 :=
  Rect.unit (s := S3x256x4096) ![k.val, 128 * j.val, 0] S1x128x4096.size (inb_half k j)
def slotRc (k : Fin 3) : Rect S3x256x4096 :=
  Rect.unit (s := S3x256x4096) ![k.val, 0, 0] S1x256x4096.size (inb_slot k)
def xhalfRc (j : Fin 2) : Rect S256x4096 := Rect.unit (s := S256x4096) ![128 * j.val, 0] S128x4096.size (inb_xhalf j)
def aslotRc (o : Fin 16) : Rect S16x8x128 := Rect.unit (s := S16x8x128) ![o.val, 0, 0] S1x8x128.size (inb_aslot o)

theorem mem_halfRc (k : Fin 3) (j : Fin 2) (i : S3x256x4096.Idx) :
    i ∈ (halfRc k j).set ↔ (i 0).val = k.val ∧ 128 * j.val ≤ (i 1).val ∧ (i 1).val < 128 * j.val + 128 := by
  unfold halfRc
  rw [Rect.mem_set_unit]
  have h2 : (i 2).val < 4096 := (i 2).isLt
  constructor
  · intro h
    have h0 := h 0; have h1 := h 1
    change k.val ≤ (i 0).val ∧ (i 0).val < k.val + 1 at h0
    change 128 * j.val ≤ (i 1).val ∧ (i 1).val < 128 * j.val + 128 at h1
    omega
  · rintro ⟨h0, h1, h1'⟩ a
    match a with
    | ⟨0, _⟩ => change k.val ≤ (i 0).val ∧ (i 0).val < k.val + 1; omega
    | ⟨1, _⟩ => change 128 * j.val ≤ (i 1).val ∧ (i 1).val < 128 * j.val + 128; omega
    | ⟨2, _⟩ => change 0 ≤ (i 2).val ∧ (i 2).val < 0 + 4096; omega

theorem mem_slotRc (k : Fin 3) (i : S3x256x4096.Idx) : i ∈ (slotRc k).set ↔ (i 0).val = k.val := by
  unfold slotRc
  rw [Rect.mem_set_unit]
  have h1 : (i 1).val < 256 := (i 1).isLt
  have h2 : (i 2).val < 4096 := (i 2).isLt
  constructor
  · intro h
    have h0 := h 0
    change k.val ≤ (i 0).val ∧ (i 0).val < k.val + 1 at h0
    omega
  · intro h0 a
    match a with
    | ⟨0, _⟩ => change k.val ≤ (i 0).val ∧ (i 0).val < k.val + 1; omega
    | ⟨1, _⟩ => change 0 ≤ (i 1).val ∧ (i 1).val < 0 + 256; omega
    | ⟨2, _⟩ => change 0 ≤ (i 2).val ∧ (i 2).val < 0 + 4096; omega

theorem mem_xhalfRc (j : Fin 2) (i : S256x4096.Idx) :
    i ∈ (xhalfRc j).set ↔ 128 * j.val ≤ (i 0).val ∧ (i 0).val < 128 * j.val + 128 := by
  unfold xhalfRc
  rw [Rect.mem_set_unit]
  have h2 : (i 1).val < 4096 := (i 1).isLt
  constructor
  · intro h
    have h0 := h 0
    change 128 * j.val ≤ (i 0).val ∧ (i 0).val < 128 * j.val + 128 at h0
    omega
  · rintro h0 a
    match a with
    | ⟨0, _⟩ => change 128 * j.val ≤ (i 0).val ∧ (i 0).val < 128 * j.val + 128; omega
    | ⟨1, _⟩ => change 0 ≤ (i 1).val ∧ (i 1).val < 0 + 4096; omega

theorem mem_aslotRc (o : Fin 16) (i : S16x8x128.Idx) : i ∈ (aslotRc o).set ↔ (i 0).val = o.val := by
  unfold aslotRc
  rw [Rect.mem_set_unit]
  have h1 : (i 1).val < 8 := (i 1).isLt
  have h2 : (i 2).val < 128 := (i 2).isLt
  constructor
  · intro h
    have h0 := h 0
    change o.val ≤ (i 0).val ∧ (i 0).val < o.val + 1 at h0
    omega
  · intro h0 a
    match a with
    | ⟨0, _⟩ => change o.val ≤ (i 0).val ∧ (i 0).val < o.val + 1; omega
    | ⟨1, _⟩ => change 0 ≤ (i 1).val ∧ (i 1).val < 0 + 8; omega
    | ⟨2, _⟩ => change 0 ≤ (i 2).val ∧ (i 2).val < 0 + 128; omega

theorem half_set_f (k : Fin 3) (j : Fin 2) : (halfM false k j).view.set = (halfRc k j).set :=
  (View.set_reshape _ _).trans (View.set_slice_whole _ _)
theorem half_set_t (k : Fin 3) (j : Fin 2) : (halfM true k j).view.set = (halfRc k j).set :=
  (View.set_reshape _ _).trans (View.set_slice_whole _ _)
theorem xhalf_set (j : Fin 2) : (xhalfM j).view.set = (xhalfRc j).set := View.set_slice_whole _ _
theorem aslot_set (o : Fin 16) : (aslotM o).view.set = (aslotRc o).set :=
  (View.set_reshape _ _).trans (View.set_slice_whole _ _)

theorem halves_disjoint (k k' : Fin 3) (j j' : Fin 2) (h : (k, j) ≠ (k', j')) :
    Disjoint (halfRc k j).set (halfRc k' j').set := by
  rw [Finset.disjoint_left]
  intro i hi hi'
  rw [mem_halfRc] at hi hi'
  apply h
  have hk : k = k' := Fin.ext (by omega)
  have hj : j = j' := Fin.ext (by omega)
  rw [hk, hj]
theorem halves_cover : (Finset.univ : Finset (Fin 3 × Fin 2)).biUnion (fun x => (halfRc x.1 x.2).set) = Finset.univ := by
  ext i
  simp only [Finset.mem_biUnion, Finset.mem_univ, true_and, iff_true]
  have h0 : (i 0).val < 3 := (i 0).isLt
  have h1 : (i 1).val < 256 := (i 1).isLt
  refine ⟨(⟨(i 0).val, h0⟩, ⟨(i 1).val / 128, by omega⟩), ?_⟩
  rw [mem_halfRc]; dsimp only; omega
theorem xhalves_disjoint : Disjoint (xhalfRc 0).set (xhalfRc 1).set := by
  rw [Finset.disjoint_left]
  intro i hi hi'
  rw [mem_xhalfRc] at hi hi'
  simp only [Fin.val_zero, Fin.val_one] at hi hi'
  omega
theorem xhalves_cover : (xhalfRc 0).set ∪ (xhalfRc 1).set = Finset.univ := by
  ext i
  rw [Finset.mem_union, mem_xhalfRc, mem_xhalfRc]
  simp only [Fin.val_zero, Fin.val_one, Finset.mem_univ, iff_true]
  have h1 : (i 0).val < 256 := (i 0).isLt
  omega
theorem aslots_disjoint (o o' : Fin 16) (h : o ≠ o') : Disjoint (aslotRc o).set (aslotRc o').set := by
  rw [Finset.disjoint_left]
  intro i hi hi'
  rw [mem_aslotRc] at hi hi'
  exact h (Fin.ext (by omega))
theorem aslots_cover : (Finset.univ : Finset (Fin 16)).biUnion (fun x => (aslotRc x).set) = Finset.univ := by
  ext i
  simp only [Finset.mem_biUnion, Finset.mem_univ, true_and, iff_true]
  exact ⟨⟨(i 0).val, (i 0).isLt⟩, by rw [mem_aslotRc]⟩

/-- The two halves of a slot are apart. -/
theorem slot_disjoint (d : Bool) (k : Fin 3) : Disjoint (halfM d k 0).view.set (halfM d k 1).view.set := by
  cases d
  · rw [half_set_f, half_set_f]; exact halves_disjoint k k 0 1 (by simp)
  · rw [half_set_t, half_set_t]; exact halves_disjoint k k 0 1 (by simp)

/-- A slot: its two halves together. -/
def slotPt (d : Bool) (k : Fin 3) (c : Dev nD) (q : PosShare TreeShare)
    (f : Buf (Elt F) ((bufM d).view.loc (c : Thread nD τ))) : sProp 𝕄 :=
  ((bufM d).view.loc (c : Thread nD τ)) ↦[(halfM d k 0).view.set ∪ (halfM d k 1).view.set]{q} f

theorem slotPt_halves (d : Bool) (k : Fin 3) (c : Dev nD) (q : PosShare TreeShare) (f) :
    slotPt (F := F) d k c q f ⊣⊢ iprop(halfPt d k 0 c q f ∗ halfPt d k 1 c q f) := by
  unfold slotPt halfPt
  exact pointsTo_union (slot_disjoint d k)

/-- A half's two half shares. -/
theorem halfPt_shares (d : Bool) (k : Fin 3) (j : Fin 2) (c : Dev nD) (q : PosShare TreeShare) (f) :
    halfPt (F := F) d k j c q f ⊣⊢ iprop(halfPt d k j c q.left f ∗ halfPt d k j c q.right f) := by
  unfold halfPt
  exact pointsTo_share (PosShare.mem_left_op_right _)

/-- A whole ring buffer is its six halves. -/
theorem buf_halves (d : Bool) (c : Dev nD) (f : Buf (Elt F) ((bufM d).view.loc (c : Thread nD τ))) :
    (((bufM d).view.loc (c : Thread nD τ)) ↦{fullShare} f : sProp 𝕄)
      = bigSep Finset.univ (fun x : Fin 3 × Fin 2 => halfPt d x.1 x.2 c fullShare f) := by
  cases d
  · refine (Idealize.ShloMosaic.Ring.pointsTo_blocks (ℓ := (bufM false).view.loc (c : Thread nD τ))
      (fun x : Fin 3 × Fin 2 => (halfRc x.1 x.2).set) (fun x y h => halves_disjoint _ _ _ _ h) halves_cover f).trans ?_
    refine congrArg (bigSep Finset.univ) (funext fun x => ?_)
    unfold halfPt; rw [half_set_f]
  · refine (Idealize.ShloMosaic.Ring.pointsTo_blocks (ℓ := (bufM true).view.loc (c : Thread nD τ))
      (fun x : Fin 3 × Fin 2 => (halfRc x.1 x.2).set) (fun x y h => halves_disjoint _ _ _ _ h) halves_cover f).trans ?_
    refine congrArg (bigSep Finset.univ) (funext fun x => ?_)
    unfold halfPt; rw [half_set_t]

/-- The six halves, each at some contents, are the whole ring buffer at some contents. -/
theorem buf_join (d : Bool) (c : Dev nD) (f₀ : Buf (Elt F) ((bufM d).view.loc (c : Thread nD τ))) :
    bigSep Finset.univ (fun x : Fin 3 × Fin 2 => halfAny (F := F) d x.1 x.2 c)
      ⊢ iprop(∃ g, ((bufM d).view.loc (c : Thread nD τ)) ↦{fullShare} g) := by
  cases d
  · have e : (fun x : Fin 3 × Fin 2 => halfAny (F := F) false x.1 x.2 c)
        = fun x => iprop(∃ f, ((bufM false).view.loc (c : Thread nD τ)) ↦[(halfRc x.1 x.2).set]{fullShare} f) :=
      funext fun x => by unfold halfAny halfPt; rw [half_set_f]
    rw [e]
    exact Idealize.ShloMosaic.Ring.pointsTo_blocks_join_exists (ℓ := (bufM false).view.loc (c : Thread nD τ))
      (fun x : Fin 3 × Fin 2 => (halfRc x.1 x.2).set) (fun x y h => halves_disjoint _ _ _ _ h) halves_cover f₀
  · have e : (fun x : Fin 3 × Fin 2 => halfAny (F := F) true x.1 x.2 c)
        = fun x => iprop(∃ f, ((bufM true).view.loc (c : Thread nD τ)) ↦[(halfRc x.1 x.2).set]{fullShare} f) :=
      funext fun x => by unfold halfAny halfPt; rw [half_set_t]
    rw [e]
    exact Idealize.ShloMosaic.Ring.pointsTo_blocks_join_exists (ℓ := (bufM true).view.loc (c : Thread nD τ))
      (fun x : Fin 3 × Fin 2 => (halfRc x.1 x.2).set) (fun x y h => halves_disjoint _ _ _ _ h) halves_cover f₀

/-! ## What is read and written -/

/-- Half `j` of device `o`'s block of `x`. -/
def rdX (o : Dev nD) (j : Fin 2) : S128x4096.Idx → Elt F .f32 := (xhalfM j).view.read (Elt F) (xstg m ρ o)

/-- The element of a ring buffer under a half's element. -/
def halfI (k : Fin 3) (j : Fin 2) (p : S128x4096.Idx) : S3x256x4096.Idx := (halfM false k j).view.emb p

theorem half_idx (k : Fin 3) (j : Fin 2) (p : S128x4096.Idx) :
    (ix2 (n0 := 256) (n1 := 4096) (halfI k j p 1) (halfI k j p 2) : S256x4096.Idx) = (xhalfM j).view.emb p := by
  have e : halfI k j p = (halfRc k j).emb (Fin.cons ⟨0, Nat.one_pos⟩ p) :=
    congrArg (halfRc k j).emb (Shape.reshapeEquiv_cons_one (d := ![128, 4096]) _ p)
  rw [e]
  funext a
  match a with
  | ⟨0, _⟩ => rfl
  | ⟨1, _⟩ => rfl

/-- A half of a slot that holds device `o`'s block reads as that block's half. -/
theorem read_half (d : Bool) (k : Fin 3) (j : Fin 2) (o c : Dev nD) :
    (halfM d k j).view.read (Elt F) (XB m ρ d o c) = rdX m ρ o j := by
  cases d
  · funext p
    exact congrArg (fun i => xstg m ρ o i) (half_idx k j p)
  · funext p
    exact congrArg (fun i => xstg m ρ o i) (half_idx k j p)

/-- Writing what a view reads of a buffer makes the view's elements that buffer's. -/
theorem write_read_on {κ : Idealize.ShloMosaic.Kind} {sp : Space} {s : Shape} {e : EltTy} (v : View sig κ sp s e) (f g : v.ty.Contents (Elt F))
    (i : v.ty.Idx) (hi : i ∈ v.set) : v.write (Elt F) f (v.read (Elt F) g) Finset.univ i = g i := by
  obtain ⟨p, -, rfl⟩ := Finset.mem_map.mp hi
  rw [View.write_emb_of_mem _ _ (Finset.mem_univ p)]
  simp [View.read]

/-- The landing of a half of device `o`'s block. -/
theorem half_land (d : Bool) (k : Fin 3) (j : Fin 2) (o c : Dev nD) (fd : Buf (Elt F) ((bufM d).view.loc (c : Thread nD τ))) :
    (((halfM d k j).view.loc (c : Thread nD τ)) ↦[(halfM d k j).view.set]{fullShare}
        ((halfM d k j).view.write (Elt F) fd (rdX m ρ o j) Finset.univ) : sProp 𝕄)
      = halfPt d k j c fullShare (XB m ρ d o c) := by
  have h := write_read_on (halfM d k j).view fd (XB m ρ d o c)
  rw [read_half m ρ d k j o c] at h
  exact pointsTo_congr h

/-- A slot that holds device `o`'s block is loaded as that block. -/
theorem load_slot (d : Bool) (k : Fin 3) (o c : Dev nD) :
    (bufM d).view.readAt (Elt F) (slotRc k).toLoadRect (XB m ρ d o c) = vslot m ρ o := by
  cases d
  · funext p
    refine congrArg (fun i => xstg m ρ o i) (?_ : (ix2 (n0 := 256) (n1 := 4096) _ _ : S256x4096.Idx) = ix2 (n0 := 256) (n1 := 4096) _ _)
    funext a
    match a with
    | ⟨0, _⟩ => exact Fin.ext (by show 0 + 1 * (p 1).val = (p 1).val; omega)
    | ⟨1, _⟩ => exact Fin.ext (by show 0 + 1 * (p 2).val = (p 2).val; omega)
  · funext p
    refine congrArg (fun i => xstg m ρ o i) (?_ : (ix2 (n0 := 256) (n1 := 4096) _ _ : S256x4096.Idx) = ix2 (n0 := 256) (n1 := 4096) _ _)
    funext a
    match a with
    | ⟨0, _⟩ => exact Fin.ext (by show 0 + 1 * (p 1).val = (p 1).val; omega)
    | ⟨1, _⟩ => exact Fin.ext (by show 0 + 1 * (p 2).val = (p 2).val; omega)
theorem load_slot_sub (d : Bool) (k : Fin 3) :
    (bufM d).view.setOn (slotRc k).toLoadRect.set ⊆ (halfM d k 0).view.set ∪ (halfM d k 1).view.set := by
  have key : ∀ i : S3x256x4096.Idx, i ∈ (slotRc k).set → i ∈ (halfRc k 0).set ∪ (halfRc k 1).set := fun i hi => by
    rw [mem_slotRc] at hi
    rw [Finset.mem_union, mem_halfRc, mem_halfRc]
    have h1 : (i 1).val < 256 := (i 1).isLt
    simp only [Fin.val_zero, Fin.val_one]
    omega
  cases d
  · rw [half_set_f, half_set_f]; intro i hi
    obtain ⟨p, hp, rfl⟩ := Finset.mem_map.mp hi
    exact key p hp
  · rw [half_set_t, half_set_t]; intro i hi
    obtain ⟨p, hp, rfl⟩ := Finset.mem_map.mp hi
    exact key p hp

/-- A half of a slot that holds device `o`'s block is loaded as that half. -/
theorem load_half (d : Bool) (k : Fin 3) (j : Fin 2) (o c : Dev nD) :
    (bufM d).view.readAt (Elt F) (halfRc k j).toLoadRect (XB m ρ d o c) = vhalf m ρ o j := by
  cases d
  · funext p
    refine congrArg (fun i => xstg m ρ o i) (?_ : (ix2 (n0 := 256) (n1 := 4096) _ _ : S256x4096.Idx) = ix2 (n0 := 256) (n1 := 4096) _ _)
    funext a
    match a with
    | ⟨0, _⟩ => exact Fin.ext (by show 128 * j.val + 1 * (p 1).val = 128 * j.val + (p 1).val; omega)
    | ⟨1, _⟩ => exact Fin.ext (by show 0 + 1 * (p 2).val = (p 2).val; omega)
  · funext p
    refine congrArg (fun i => xstg m ρ o i) (?_ : (ix2 (n0 := 256) (n1 := 4096) _ _ : S256x4096.Idx) = ix2 (n0 := 256) (n1 := 4096) _ _)
    funext a
    match a with
    | ⟨0, _⟩ => exact Fin.ext (by show 128 * j.val + 1 * (p 1).val = 128 * j.val + (p 1).val; omega)
    | ⟨1, _⟩ => exact Fin.ext (by show 0 + 1 * (p 2).val = (p 2).val; omega)
theorem load_half_sub (d : Bool) (k : Fin 3) (j : Fin 2) :
    (bufM d).view.setOn (halfRc k j).toLoadRect.set ⊆ (halfM d k j).view.set := by
  cases d
  · rw [half_set_f]; intro i hi
    obtain ⟨p, hp, rfl⟩ := Finset.mem_map.mp hi
    exact hp
  · rw [half_set_t]; intro i hi
    obtain ⟨p, hp, rfl⟩ := Finset.mem_map.mp hi
    exact hp

/-! ## The staged blocks -/

theorem zeros2 : (![0, 0] : Fin 2 → ℕ) = fun _ => 0 := by
  funext i; match i with | ⟨0, _⟩ => rfl | ⟨1, _⟩ => rfl

/-- Whole loads and stores of the staged blocks and of the exchange's source. -/
theorem load_x (f : (cc0_stg0_0 : Ref sig .tc).ty.Contents (Elt F)) :
    xM.view.readAt (Elt F) (Rect.unit (s := S256x4096) ![0, 0] S256x4096.size inb_S256x4096_S256x4096_0_0).toLoadRect f = f :=
  Memref.readAt_unit_zero (Elt F) cc0_stg0_0 zeros2 _ f
theorem load_w (f : (cc0_stg1_0 : Ref sig .tc).ty.Contents (Elt F)) :
    wM.view.readAt (Elt F) (Rect.unit (s := S4096x128) ![0, 0] S4096x128.size inb_S4096x128_S4096x128_0_0).toLoadRect f = f :=
  Memref.readAt_unit_zero (Elt F) cc0_stg1_0 zeros2 _ f
theorem load_o (f : (cc0_stg2_0 : Ref sig .tc).ty.Contents (Elt F)) :
    oM.view.readAt (Elt F) (Rect.unit (s := S4096x128) ![0, 0] S4096x128.size inb_S4096x128_S4096x128_0_0).toLoadRect f = f :=
  Memref.readAt_unit_zero (Elt F) cc0_stg2_0 zeros2 _ f
theorem store_o (f w : (cc0_stg2_0 : Ref sig .tc).ty.Contents (Elt F)) :
    (oM.access (Rect.unit (s := S4096x128) ![0, 0] S4096x128.size inb_S4096x128_S4096x128_0_0)).write (Elt F) f w Finset.univ = w :=
  Memref.write_access_unit_zero_univ (Elt F) cc0_stg2_0 zeros2 _ f w
theorem store_as (f w : (cc0_scratch8 : Ref sig .tc).ty.Contents (Elt F)) :
    (asM.access (Rect.unit (s := S8x128) ![0, 0] S8x128.size inb_S8x128_S8x128_0_0)).write (Elt F) f w Finset.univ = w :=
  Memref.write_access_unit_zero_univ (Elt F) cc0_scratch8 zeros2 _ f w

/-- The staged block of `x`: half a share whole, and each half's quarter share for each direction. -/
theorem x_split (c : Dev nD) :
    ((xM.view.loc (c : Thread nD τ)) ↦{fullShare} (xstg m ρ c) : sProp 𝕄)
      ⊣⊢ iprop(((xM.view.loc (c : Thread nD τ)) ↦{fullShare.right} (xstg m ρ c))
          ∗ (xPt m ρ false 0 c ∗ xPt m ρ false 1 c) ∗ (xPt m ρ true 0 c ∗ xPt m ρ true 1 c)) := by
  have hh (d : Bool) : ((xM.view.loc (c : Thread nD τ)) ↦{xq d} (xstg m ρ c) : sProp 𝕄)
      ⊣⊢ iprop(xPt m ρ d 0 c ∗ xPt m ρ d 1 c) := by
    unfold xPt
    rw [xhalf_set, xhalf_set]
    rw [show (Finset.univ : Finset (Idx (xM.view.loc (c : Thread nD τ)))) = (xhalfRc 0).set ∪ (xhalfRc 1).set from xhalves_cover.symm]
    exact pointsTo_union xhalves_disjoint
  have h1 : ((xM.view.loc (c : Thread nD τ)) ↦{fullShare} (xstg m ρ c) : sProp 𝕄)
      ⊣⊢ iprop(((xM.view.loc (c : Thread nD τ)) ↦{fullShare.left} (xstg m ρ c)) ∗ ((xM.view.loc (c : Thread nD τ)) ↦{fullShare.right} (xstg m ρ c))) :=
    pointsTo_share (PosShare.mem_left_op_right _)
  have h2 : ((xM.view.loc (c : Thread nD τ)) ↦{fullShare.left} (xstg m ρ c) : sProp 𝕄)
      ⊣⊢ iprop(((xM.view.loc (c : Thread nD τ)) ↦{xq false} (xstg m ρ c)) ∗ ((xM.view.loc (c : Thread nD τ)) ↦{xq true} (xstg m ρ c))) :=
    pointsTo_share (PosShare.mem_left_op_right _)
  constructor
  · iintro H
    ihave H := h1.1 $$ H
    icases H with ⟨Hl, Hr⟩
    ihave Hl := h2.1 $$ Hl
    icases Hl with ⟨Hf, Ht⟩
    isplitl [Hr]; · iexact Hr
    isplitl [Hf]
    · iapply (hh false).1; iexact Hf
    · iapply (hh true).1; iexact Ht
  · iintro ⟨Hr, Hf, Ht⟩
    iapply h1.2
    isplitr [Hr]
    · iapply h2.2
      isplitl [Hf]
      · iapply (hh false).2; iexact Hf
      · iapply (hh true).2; iexact Ht
    · iexact Hr

/-! ## The exchange's buffers -/

/-- The whole landing buffer is its sixteen slots. -/
theorem aa_slots (c : Dev nD) (f : Buf (Elt F) (aaM.view.loc (c : Thread nD τ))) :
    ((aaM.view.loc (c : Thread nD τ)) ↦{fullShare} f : sProp 𝕄)
      = bigSep Finset.univ (fun o : Fin 16 => aaPt o c f) := by
  refine (Idealize.ShloMosaic.Ring.pointsTo_blocks (ℓ := aaM.view.loc (c : Thread nD τ))
      (fun o : Fin 16 => (aslotRc o).set) (fun x y h => aslots_disjoint _ _ h) aslots_cover f).trans ?_
  refine congrArg (bigSep Finset.univ) (funext fun x => ?_)
  unfold aaPt; rw [aslot_set]

/-- The sixteen slots, each at some contents, are the whole landing buffer at some contents. -/
theorem aa_join (c : Dev nD) (f₀ : Buf (Elt F) (aaM.view.loc (c : Thread nD τ))) :
    bigSep Finset.univ (fun o : Fin 16 => aaAny (F := F) o c)
      ⊢ iprop(∃ g, (aaM.view.loc (c : Thread nD τ)) ↦{fullShare} g) := by
  have e : (fun o : Fin 16 => aaAny (F := F) o c)
      = fun o => iprop(∃ f, (aaM.view.loc (c : Thread nD τ)) ↦[(aslotRc o).set]{fullShare} f) :=
    funext fun x => by unfold aaAny aaPt; rw [aslot_set]
  rw [e]
  exact Idealize.ShloMosaic.Ring.pointsTo_blocks_join_exists (ℓ := aaM.view.loc (c : Thread nD τ))
    (fun o : Fin 16 => (aslotRc o).set) (fun x y h => aslots_disjoint _ _ h) aslots_cover f₀

/-- The landing of the value `v` in a slot. -/
theorem aa_land (o : Fin 16) (v : F .f32) (c c' : Dev nD) (fd : Buf (Elt F) (aaM.view.loc (c : Thread nD τ))) :
    (((aslotM o).view.loc (c : Thread nD τ)) ↦[(aslotM o).view.set]{fullShare}
        ((aslotM o).view.write (Elt F) fd (asM.view.read (Elt F) (asC v c')) Finset.univ) : sProp 𝕄)
      = aaPt o c (aaC v c) := by
  unfold aaPt
  refine pointsTo_congr fun i hi => ?_
  exact write_read_on (aslotM o).view fd (aaC v c) i hi

/-- A slot that holds `v` is loaded as `v`. -/
theorem load_aa (o : Fin 16) (v : F .f32) (c : Dev nD) :
    extractAt ![0, 0, 0] (aaM.view.readAt (Elt F) (Rect.unit (s := S16x8x128) ![o.val, 0, 0] S1x1x1.size (inb_acell o)).toLoadRect (aaC v c))
      inpos_S1x1x1_p0_0_0 = v := rfl
theorem load_aa_sub (o : Fin 16) :
    aaM.view.setOn (Rect.unit (s := S16x8x128) ![o.val, 0, 0] S1x1x1.size (inb_acell o)).toLoadRect.set ⊆ (aslotM o).view.set := by
  rw [aslot_set]; intro i hi
  obtain ⟨p, hp, rfl⟩ := Finset.mem_map.mp hi
  have h0 := (Rect.mem_set_unit.mp hp) 0
  change o.val ≤ (p 0).val ∧ (p 0).val < o.val + 1 at h0
  exact (mem_aslotRc o p).mpr (by omega)

/-- What the exchange's source is filled with. -/
theorem as_val (v : F .f32) (c : Dev nD) : (k0_pay40 (broadcast S8x128 v) : FVec F S8x128 .f32) = asC v c := rfl

end Cert.KernelIdeal.Ring

end
-- ==== Proof.Steps.lean ====
/-
The body's single operations: what each asks for and what it gives back, once for every lane, hop and half.
-/
module

public import proofs.«01_k».proof.Proof.Views

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- Device `c` runs `p` safely, and its result satisfies `Q`. -/
abbrev WP {α : Type} (c : Dev nD) (p : PG F α) (Q : α → sProp 𝕄) : sProp 𝕄 :=
  wp frame (wpE (defs₀ (F := F)) 𝒱₀ (c : Thread nD τ) none) Set.univ p Q

/-! ## What every device knows -/

/-- The semaphores the protocol uses. -/
def ownS : Finset (SemLoc sig) := Finset.univ.filter (fun sm => kindOf sm ≠ .none)

theorem mem_own {sm : SemLoc sig} (h : kindOf sm ≠ .none) : sm ∈ ownS := Finset.mem_filter.mpr ⟨Finset.mem_univ _, h⟩

variable (K : Dev nD → SemLoc sig → ℕ)

/-- Every cell's invariant, that every cell's round 0 is open, and the levels. -/
def recs : sProp 𝕄 :=
  iprop(bigSep Finset.univ (fun c => bigSep ownS (fun sm => iprop(cellInv ER (ringRd m ρ) (K c sm) (cell c sm) ∗ reached ER (cell c sm) 0)))
    ∗ levAts L lv)

instance recs_persistent : BI.Persistent (recs m ρ K) := by unfold recs; infer_instance

theorem rec_at (c : Dev nD) (sm : SemLoc sig) (h : kindOf sm ≠ .none) :
    recs m ρ K ⊢ iprop(cellInv ER (ringRd m ρ) (K c sm) (cell c sm) ∗ reached ER (cell c sm) 0) := by
  unfold recs
  have e : bigSep Finset.univ (fun c => bigSep ownS (fun sm => iprop(cellInv ER (ringRd (F := F) m ρ) (K c sm) (cell c sm) ∗ reached ER (cell c sm) 0)))
      ⊢ iprop(cellInv ER (ringRd m ρ) (K c sm) (cell c sm) ∗ reached ER (cell c sm) 0) :=
    (bigSep_elim (Finset.mem_univ c)).trans (bigSep_elim (mem_own h))
  iintro ⟨H, -⟩
  iapply e $$ H
theorem inv_at (c : Dev nD) (sm : SemLoc sig) (h : kindOf sm ≠ .none) :
    recs m ρ K ⊢ cellInv ER (ringRd m ρ) (K c sm) (cell c sm) := by
  refine (rec_at m ρ K c sm h).trans ?_
  iintro ⟨H, -⟩; iexact H
theorem reached_at (c : Dev nD) (sm : SemLoc sig) (h : kindOf sm ≠ .none) :
    recs m ρ K ⊢ reached ER (cell c sm) 0 := by
  refine (rec_at m ρ K c sm h).trans ?_
  iintro ⟨-, H⟩; iexact H
theorem recs_lev : recs m ρ K ⊢ (levAts L lv : sProp 𝕄) := by
  unfold recs
  iintro ⟨-, H⟩; iexact H

/-! ## Waits and signals -/

/-- A wait for the open round of a semaphore whose round is a single payment. -/
theorem wait_spec (c : Dev nD) (sm : SemLoc sig) {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ sm k' Q)
    (hk' : k' = amt sm) (hk : kindOf sm ≠ .none) (r : ℕ) (hd : dutyK (kindOf sm) r = {false}) (ι : ℕ) (l : List Due)
    (hι : ι < 1000) (hl : ∀ x ∈ l, ι < x.2.2 ∧ x.2.2 < 1000) (Q : PUnit → sProp 𝕄) :
    iprop(recs m ρ K ∗ Ow c l ∗ cred (tallyAt (cell c sm) ι (amt sm)) ∗ atPos ER (cell c sm) r ∅ 0
      ∗ ((Ow c l ∗ atPos ER (cell c sm) (r + 1) ∅ 0 ∗ reached ER (cell c sm) (r + 1) ∗ payK m ρ c (kindOf sm) r false) -∗ Q ⟨⟩))
      ⊢ WP c (Prog.lift w) Q := by
  subst hk'
  unfold Ow
  iintro ⟨#HR, ⟨%W, HO⟩, Hc, Ha, Hk⟩
  ihave #HI := (inv_at m ρ K c sm hk) $$ HR
  have hw' : recs m ρ K ⊢ MayWait (c : Thread nD τ) sm ι (tly c l) := by
    refine BI.Entails.trans (recs_lev m ρ K) ?_
    exact mayW (F := F) c sm ι l hι hl
  unfold Prog.lift
  iapply (Rounds.wp_wait_rest_token 𝒱₀ ER (ringRd m ρ) (c : Thread nD τ) none (κ := K c sm)
      hw (Set.mem_univ _) ι (O := tly c l) (W := W) (R := r) (m := 0) (T := ∅)
      (by rw [Nat.zero_add, expect_one m ρ hd])) $$ [Hc HO Ha]
  · isplitr; · iexact HI
    isplitl [Hc]; · iexact Hc
    isplitl [HO]; · iexact HO
    isplitr; · iapply hw' $$ HR
    iexact Ha
  iintro ⟨HO, Ha, Hr, Hp⟩
  ihave Hp := (Entails.of_eq (rest_one m ρ hd)) $$ Hp
  simp only [wp_ret]
  imodintro
  iapply Hk
  iframe
  iexists _; iexact HO

/-- The signal to a neighbour's semaphore, paying one duty. -/
theorem signal_spec (c : Dev nD) (s : ℕ) (n : Dev nD) (hn : n = sh s c) (q : Sem sig) (ι : ℕ) (hk : kindOf (.reg q) ≠ .none)
    (ha : amt (.reg q) = 1) (r : ℕ) (b : Bool) (hd : b ∈ dutyK (kindOf (.reg q)) r) (l : List Due) (Q : PUnit → sProp 𝕄) :
    iprop(recs m ρ K ∗ Ow c ((.reg q, s, ι) :: l) ∗ dutyTok ER (cell (sh s c) (.reg q)) r b
      ∗ payK m ρ (sh s c) (kindOf (.reg q)) r b ∗ reached ER (cell (sh s c) (.reg q)) r ∗ (Ow c l -∗ Q ⟨⟩))
      ⊢ WP c (semSignalWord n q 1#32) Q := by
  subst hn
  unfold Ow
  iintro ⟨#HR, ⟨%W, HO⟩, Ht, Hp, Hr, Hk⟩
  ihave #HI := (inv_at m ρ K (sh s c) (.reg q) hk) $$ HR
  unfold semSignalWord
  iapply (Rounds.wp_signal 𝒱₀ ER (ringRd m ρ) (c : Thread nD τ) none (dst := ((sh s c : Dev nD) : Thread nD τ)) (κ := K (sh s c) (.reg q))
      (r := r) (d := b) (by rw [duties_eq]; exact hd) ((amount_eq m ρ (sh s c) (.reg q) r b).trans (ha.trans (by decide))) ι (tly c l)
      (by show tly c l + tallyAt (cell (sh s c) (.reg q)) ι (amt (.reg q)) = _; rw [ha]; rfl) (W := W)) $$ [HO Ht Hp Hr]
  · isplitr; · iexact HI
    isplitl [HO]; · iexact HO
    isplitl [Ht]; · iexact Ht
    isplitl [Hp]; · iapply (Entails.of_eq (payload_eq m ρ (sh s c) (.reg q) r b).symm) $$ Hp
    iexact Hr
  iintro HO
  simp only [wp_ret]
  imodintro
  iapply Hk
  iexists W; iexact HO

/-! ## Families of tokens along a lane -/

/-- `Φ` at the hops from `k` on, of `n`. -/
def fam (Φ : ℕ → sProp 𝕄) (n k : ℕ) : sProp 𝕄 := sepL Φ ((List.range n).drop k)
theorem fam_succ (Φ : ℕ → sProp 𝕄) {n k : ℕ} (h : k < n) : fam Φ n k = iprop(Φ k ∗ fam Φ n (k + 1)) := by
  unfold fam
  rw [List.drop_eq_getElem_cons (by rw [List.length_range]; exact h), List.getElem_range]
  rfl
theorem fam_ge (Φ : ℕ → sProp 𝕄) {n k k' : ℕ} (h : n ≤ k) (h' : n ≤ k') : fam Φ n k = fam Φ n k' := by
  unfold fam
  rw [List.drop_eq_nil_of_le (by rw [List.length_range]; exact h), List.drop_eq_nil_of_le (by rw [List.length_range]; exact h')]
/-- `Φ` at three hops on end. -/
def P3 (Φ : ℕ → sProp 𝕄) (k : ℕ) : sProp 𝕄 := iprop(Φ k ∗ Φ (k + 1) ∗ Φ (k + 2))

variable (d : Bool) (j : Fin 2) (c : Dev nD)

/-- The positions at the send, receive and credit semaphore of hop `h`, with how far each has come. -/
def atS (h : ℕ) : sProp 𝕄 :=
  iprop(atPos ER (cell c (.dma (sndS d (kf h) j))) (h / 3) ∅ 0 ∗ reached ER (cell c (.dma (sndS d (kf h) j))) (h / 3))
def atR (h : ℕ) : sProp 𝕄 :=
  iprop(atPos ER (cell c (.dma (rcvS d (kf (h + 1)) j))) (h / 3) ∅ 0 ∗ reached ER (cell c (.dma (rcvS d (kf (h + 1)) j))) (h / 3))
def atC (h : ℕ) : sProp 𝕄 :=
  iprop(atPos ER (cell c (.reg (crdS d (kf (h + 1)) j))) ((h - 3) / 3) ∅ 0 ∗ reached ER (cell c (.reg (crdS d (kf (h + 1)) j))) ((h - 3) / 3))

/-- The tokens a transfer spends, and the one a credit spends. -/
def tkS (h : ℕ) : sProp 𝕄 :=
  iprop(dutyTok ER (cell c (.dma (sndS d (kf h) j))) (h / 3) false ∗ dutyTok ER (cell (nxt d c) (.dma (rcvS d (kf (h + 1)) j))) (h / 3) false)
def tkC (h : ℕ) : sProp 𝕄 := dutyTok ER (cell (prv d c) (.reg (crdS d (kf (h + 1)) j))) ((h - 3) / 3) false
/-- The promises the waits of hop `h` spend. -/
def crS (h : ℕ) : sProp 𝕄 := cred (tallyAt (cell c (.dma (sndS d (kf h) j))) 0 (amt (.dma (sndS d (kf h) j))))
def crR (h : ℕ) : sProp 𝕄 := cred (tallyAt (cell c (.dma (rcvS d (kf (h + 1)) j))) (10 * h + 10) (amt (.dma (rcvS d (kf (h + 1)) j))))
def crC (h : ℕ) : sProp 𝕄 := cred (tallyAt (cell c (.reg (crdS d (kf (h + 1)) j))) (10 * h + 5) (amt (.reg (crdS d (kf (h + 1)) j))))

theorem kf_add3 (h : ℕ) : kf (h + 3) = kf h := Fin.ext (by show (h + 3) % 3 = h % 3; omega)
theorem div_add3 (h : ℕ) : (h + 3) / 3 = h / 3 + 1 := by omega

theorem atS_eq (h : ℕ) : atS (F := F) d j c h = iprop(atPos ER (cell c (.dma (sndS d (kf h) j))) (h / 3) ∅ 0
    ∗ reached ER (cell c (.dma (sndS d (kf h) j))) (h / 3)) := rfl
theorem atR_eq (h : ℕ) : atR (F := F) d j c h = iprop(atPos ER (cell c (.dma (rcvS d (kf (h + 1)) j))) (h / 3) ∅ 0
    ∗ reached ER (cell c (.dma (rcvS d (kf (h + 1)) j))) (h / 3)) := rfl
theorem atC_eq (h : ℕ) : atC (F := F) d j c h = iprop(atPos ER (cell c (.reg (crdS d (kf (h + 1)) j))) ((h - 3) / 3) ∅ 0
    ∗ reached ER (cell c (.reg (crdS d (kf (h + 1)) j))) ((h - 3) / 3)) := rfl
/-- Past a wait the position is the one of the same semaphore's next hop. -/
theorem atS_next (h : ℕ) : iprop(atPos ER (cell c (.dma (sndS d (kf h) j))) (h / 3 + 1) ∅ 0
    ∗ reached ER (cell c (.dma (sndS d (kf h) j))) (h / 3 + 1)) = atS (F := F) d j c (h + 3) := by
  rw [atS_eq, kf_add3 h, div_add3]
theorem atR_next (h : ℕ) : iprop(atPos ER (cell c (.dma (rcvS d (kf (h + 1)) j))) (h / 3 + 1) ∅ 0
    ∗ reached ER (cell c (.dma (rcvS d (kf (h + 1)) j))) (h / 3 + 1)) = atR (F := F) d j c (h + 3) := by
  rw [atR_eq, show kf (h + 3 + 1) = kf (h + 1) from kf_add3 (h + 1), div_add3]
theorem atC_next (h : ℕ) (h3 : 3 ≤ h) : iprop(atPos ER (cell c (.reg (crdS d (kf (h + 1)) j))) ((h - 3) / 3 + 1) ∅ 0
    ∗ reached ER (cell c (.reg (crdS d (kf (h + 1)) j))) ((h - 3) / 3 + 1)) = atC (F := F) d j c (h + 3) := by
  rw [atC_eq, show kf (h + 3 + 1) = kf (h + 1) from kf_add3 (h + 1), show (h + 3 - 3) / 3 = (h - 3) / 3 + 1 by omega]

theorem kind_ne_snd (k : Fin 3) : kindOf (.dma (sndS d k j)) ≠ .none := by rw [kind_snd]; exact fun h => by cases h
theorem kind_ne_rcv (k : Fin 3) : kindOf (.dma (rcvS d k j)) ≠ .none := by rw [kind_rcv]; exact fun h => by cases h
theorem kind_ne_crd (k : Fin 3) : kindOf (.reg (crdS d k j)) ≠ .none := by rw [kind_crd]; exact fun h => by cases h
theorem kind_ne_bar : kindOf (.reg barS) ≠ .none := by rw [kind_bar]; exact fun h => by cases h
theorem kind_ne_asnd (o : Fin 16) : kindOf (.dma (asndS o)) ≠ .none := by rw [kind_asnd]; exact fun h => by cases h
theorem kind_ne_arcv (o : Fin 16) : kindOf (.dma (arcvS o)) ≠ .none := by rw [kind_arcv]; exact fun h => by cases h

theorem half_amount (k : Fin 3) : (halfM d k j).view.dmaCredit = NR := by cases d <;> rfl
theorem src_amount (h : ℕ) : (srcM d h j).view.dmaCredit = NR := by cases h <;> cases d <;> rfl

/-- The wait for the landing of hop `h`. -/
theorem waitRecv_spec (h : ℕ) (hh : h < nh d j) (l : List Due) (hl : above (10 * h + 10) l = true) (Q : PUnit → sProp 𝕄) :
    iprop(recs m ρ K ∗ (Ow c l ∗ P3 (atR d j c) h ∗ fam (crR d j c) (nh d j) h)
      ∗ ((Ow c l ∗ P3 (atR d j c) (h + 1) ∗ fam (crR d j c) (nh d j) (h + 1) ∗ rcvPay m ρ d h j c) -∗ Q ⟨⟩))
      ⊢ WP c (waitRecvP d h j) Q := by
  rw [fam_succ _ hh]
  unfold P3 waitRecvP
  iintro ⟨#HR, ⟨HO, ⟨Ha, Ha1, Ha2⟩, Hc, Hcs⟩, Hk⟩
  ihave Ha := (Entails.of_eq (atR_eq d j c h)) $$ Ha
  icases Ha with ⟨Ha, -⟩
  have hb : h < 8 := lt_of_lt_of_le hh (nh_le d j)
  iapply (wait_spec m ρ K c (.dma (rcvS d (kf (h + 1)) j)) (k' := NR)
    (fun Q => (wpE_waitDma2_eq 𝒱₀ (c : Thread nD τ) none Set.univ Q).trans (by rw [half_amount]))
    (amt_rcv _ _ _).symm (kind_ne_rcv d j _) (h / 3) (duty_rcv hh) (10 * h + 10) l (by omega) (above_iff hl))
  isplitr; · iexact HR
  isplitl [HO]; · iexact HO
  isplitl [Hc]; · unfold crR; iexact Hc
  isplitl [Ha]; · iexact Ha
  iintro ⟨HO, Ha, Hr, Hp⟩
  ihave Hp := (Entails.of_eq (pay_rcv m ρ c d h j false)) $$ Hp
  iapply Hk
  isplitl [HO]; · iexact HO
  isplitl [Ha Hr Ha1 Ha2]
  · isplitl [Ha1]; · iexact Ha1
    isplitl [Ha2]; · iexact Ha2
    iapply (Entails.of_eq (atR_next d j c h)); iframe
  iframe

/-- The wait for the source of hop `h`. -/
theorem waitSend_spec (h : ℕ) (hh : h < nh d j) (l : List Due) (hl : above 0 l = true) (Q : PUnit → sProp 𝕄) :
    iprop(recs m ρ K ∗ (Ow c l ∗ P3 (atS d j c) h ∗ crS d j c h)
      ∗ ((Ow c l ∗ P3 (atS d j c) (h + 1) ∗ sndPay m ρ d h j c) -∗ Q ⟨⟩))
      ⊢ WP c (waitSendP d h j) Q := by
  unfold P3 waitSendP
  iintro ⟨#HR, ⟨HO, ⟨Ha, Ha1, Ha2⟩, Hc⟩, Hk⟩
  ihave Ha := (Entails.of_eq (atS_eq d j c h)) $$ Ha
  icases Ha with ⟨Ha, -⟩
  iapply (wait_spec m ρ K c (.dma (sndS d (kf h) j)) (k' := NR)
    (fun Q => (wpE_waitDma2_eq 𝒱₀ (c : Thread nD τ) none Set.univ Q).trans (by rw [src_amount]))
    (amt_snd _ _ _).symm (kind_ne_snd d j _) (h / 3) (duty_snd hh) 0 l (by omega) (above_iff hl))
  isplitr; · iexact HR
  isplitl [HO]; · iexact HO
  isplitl [Hc]; · unfold crS; iexact Hc
  isplitl [Ha]; · iexact Ha
  iintro ⟨HO, Ha, Hr, Hp⟩
  ihave Hp := (Entails.of_eq (pay_snd m ρ c d h j false)) $$ Hp
  iapply Hk
  isplitl [HO]; · iexact HO
  isplitl [Ha Hr Ha1 Ha2]
  · isplitl [Ha1]; · iexact Ha1
    isplitl [Ha2]; · iexact Ha2
    iapply (Entails.of_eq (atS_next d j c h)); iframe
  iexact Hp

/-- The wait for the credit of hop `h`. -/
theorem waitCredit_spec (h : ℕ) (h3 : 3 ≤ h) (hh : h < nh d j) (l : List Due) (hl : above (10 * h + 5) l = true) (Q : PUnit → sProp 𝕄) :
    iprop(recs m ρ K ∗ (Ow c l ∗ P3 (atC d j c) h ∗ fam (crC d j c) (nh d j) h)
      ∗ ((Ow c l ∗ P3 (atC d j c) (h + 1) ∗ fam (crC d j c) (nh d j) (h + 1) ∗ crdPay d h j c) -∗ Q ⟨⟩))
      ⊢ WP c (semWaitWord (crdS d (kf (h + 1)) j) 1#32) Q := by
  rw [fam_succ _ hh]
  unfold P3 semWaitWord
  iintro ⟨#HR, ⟨HO, ⟨Ha, Ha1, Ha2⟩, Hc, Hcs⟩, Hk⟩
  ihave Ha := (Entails.of_eq (atC_eq d j c h)) $$ Ha
  icases Ha with ⟨Ha, -⟩
  have hb : h < 8 := lt_of_lt_of_le hh (nh_le d j)
  iapply (wait_spec m ρ K c (.reg (crdS d (kf (h + 1)) j)) (k' := (1#32).toNat)
    (wpE_semWait_eq 𝒱₀ (c : Thread nD τ) none Set.univ)
    (by rw [amt_crd]; rfl) (kind_ne_crd d j _) ((h - 3) / 3) (duty_crd h3 hh) (10 * h + 5) l (by omega) (above_iff hl))
  isplitr; · iexact HR
  isplitl [HO]; · iexact HO
  isplitl [Hc]; · unfold crC; iexact Hc
  isplitl [Ha]; · iexact Ha
  iintro ⟨HO, Ha, Hr, Hp⟩
  ihave Hp := (Entails.of_eq (pay_crd m ρ c d h h3 j false)) $$ Hp
  iapply Hk
  isplitl [HO]; · iexact HO
  isplitl [Ha Hr Ha1 Ha2]
  · isplitl [Ha1]; · iexact Ha1
    isplitl [Ha2]; · iexact Ha2
    iapply (Entails.of_eq (atC_next d j c h h3)); iframe
  iframe

/-- The credit for hop `h`: it hands on the half that hop writes. -/
theorem credit_spec (h : Fin 8) (h3 : 3 ≤ h.val) (hh : h.val < nh d j) (l : List Due) (Q : PUnit → sProp 𝕄) :
    iprop(recs m ρ K ∗ (Ow c (creditDue d h.val j ++ l) ∗ fam (tkC d j c) (nh d j) h.val ∗ halfAny d (kf (h.val + 1)) j c
        ∗ reached ER (cell c (.dma (rcvS d (kf (h.val + 1)) j))) (h.val / 3)
        ∗ reached ER (cell (prv d c) (.reg (crdS d (kf (h.val + 1)) j))) ((h.val - 3) / 3))
      ∗ ((Ow c l ∗ fam (tkC d j c) (nh d j) (h.val + 1)) -∗ Q ⟨⟩))
      ⊢ WP c (semSignalWord (devAt c (creditNo h.val d j)) (crdS d (kf (h.val + 1)) j) 1#32) Q := by
  rw [fam_succ _ hh, creditDue, if_pos ⟨h3, hh⟩, List.singleton_append]
  iintro ⟨#HR, ⟨HO, ⟨Ht, Hts⟩, Hb, Hr, Hr'⟩, Hk⟩
  iapply (signal_spec m ρ K c (sft (!d)) (devAt c (creditNo h.val d j)) (dev_credit c d h j ⟨h3, hh⟩) (crdS d (kf (h.val + 1)) j) (10 * h.val + 5)
    (kind_ne_crd d j _) (amt_crd _ _ _) ((h.val - 3) / 3) false (by rw [duty_crd h3 hh]; exact Finset.mem_singleton_self _) l)
  isplitr; · iexact HR
  isplitl [HO]; · iexact HO
  isplitl [Ht]; · unfold tkC; iexact Ht
  isplitl [Hb Hr]
  · have e : iprop(halfAny d (kf (h.val + 1)) j c ∗ reached ER (cell c (.dma (rcvS d (kf (h.val + 1)) j))) (h.val / 3))
        = payK m ρ (sh (sft (!d)) c) (kindOf (.reg (crdS d (kf (h.val + 1)) j))) ((h.val - 3) / 3) false := by
      rw [pay_crd m ρ _ d h.val h3]; unfold crdPay
      rw [show sh (sft (!d)) c = prv d c from rfl, nxt_prv]
    iapply (Entails.of_eq e); iframe
  isplitl [Hr']; · iexact Hr'
  iintro HO
  iapply Hk
  iframe

/-- The transfer of hop `h`: it lends the source and hands over the half it writes, how far the credits have come, and
the permissions that travel on. -/
theorem send_spec (h : Fin 8) (hh : h.val < nh d j) (l : List Due) (Q : PUnit → sProp 𝕄) :
    iprop(recs m ρ K ∗ (Ow c (sendDue d h.val j ++ l) ∗ fam (tkS d j c) (nh d j) h.val ∗ sndPay m ρ d h.val j c
        ∗ halfAny d (kf (h.val + 1)) j (nxt d c)
        ∗ reached ER (cell c (.dma (sndS d (kf h.val) j))) (h.val / 3)
        ∗ reached ER (cell (nxt d c) (.dma (rcvS d (kf (h.val + 1)) j))) (h.val / 3)
        ∗ reached ER (cell c (.reg (crdS d (kf (h.val + 1)) j))) (h.val / 3) ∗ prm (trL d j h.val) (org d h.val c))
      ∗ ((Ow c l ∗ fam (tkS d j c) (nh d j) (h.val + 1) ∗ crS d j c h.val) -∗ Q ⟨⟩))
      ⊢ WP c (hopP c d h.val j) Q := by
  rw [fam_succ _ hh, sendDue, if_pos hh, List.singleton_append]
  unfold hopP; rw [if_pos hh]
  have hn := dev_send c d h j hh
  generalize devAt c (sendNo h.val d j) = n at hn
  subst hn
  have hs : ∃ q fs, sndPay m ρ d h.val j c = (((srcM d h.val j).view.loc (c : Thread nD τ)) ↦[(srcM d h.val j).view.set]{q} fs)
      ∧ (srcM d h.val j).view.read (Elt F) fs = rdX m ρ (org d h.val c) j := by
    obtain ⟨h, hlt⟩ := h
    cases h with
    | zero => exact ⟨xq d, xstg m ρ c, rfl, by rw [org_zero]; rfl⟩
    | succ h => exact ⟨fullShare.left, XB m ρ d (org d (h + 1) c) c, by cases d <;> rfl, read_half m ρ d (kf (h + 1)) j _ c⟩
  obtain ⟨q, fs, hs, hrd⟩ := hs
  unfold Ow halfAny tkS sendP Prog.lift
  iintro ⟨#HR, ⟨⟨%W, HO⟩, ⟨⟨Ht1, Ht2⟩, Hts⟩, Hsrc, ⟨%fd, Hdst⟩, Hr1, Hr2, Hr3, Hp⟩, Hk⟩
  ihave Hsrc := (Entails.of_eq hs) $$ Hsrc
  ihave #HI1 := (inv_at m ρ K c (.dma (sndS d (kf h.val) j)) (kind_ne_snd d j _)) $$ HR
  ihave #HI2 := (inv_at m ρ K (nxt d c) (.dma (rcvS d (kf (h.val + 1)) j)) (kind_ne_rcv d j _)) $$ HR
  iapply (Rounds.wp_send_pointsTo_with 𝒱₀ ER (ringRd m ρ) (c : Thread nD τ) none (c' := ((nxt d c : Dev nD) : Thread nD τ))
    (src := srcM d h.val j) (dst := halfM d (kf (h.val + 1)) j)
    (sS := .dma (sndS d (kf h.val) j)) (sem := .dma (rcvS d (kf (h.val + 1)) j)) (q := q) (fs := fs) (fd := fd)
    (F := iprop(reached ER (cell c (.reg (crdS d (kf (h.val + 1)) j))) (h.val / 3) ∗ prm (trL d j h.val) (org d h.val c)))
    (r₁ := h.val / 3) (r₂ := h.val / 3) (d₁ := false) (d₂ := false)
    (κ₁ := K c (.dma (sndS d (kf h.val) j))) (κ₂ := K (nxt d c) (.dma (rcvS d (kf (h.val + 1)) j)))
    (by rw [duties_eq, duty_snd hh]; exact Finset.mem_singleton_self _)
    (by rw [duties_eq, duty_rcv hh]; exact Finset.mem_singleton_self _)
    (10 * h.val + 10) 0 NR (half_amount d j _) (amt_snd _ _ _) (amt_rcv _ _ _) (tly c l)
    (O₀ := tly c ((.dma (rcvS d (kf (h.val + 1)) j), sft d, 10 * h.val + 10) :: l))
    (by
      show tly c l + tallyAt (cell (sh (sft d) c) (.dma (rcvS d (kf (h.val + 1)) j))) (10 * h.val + 10) (amt (.dma (rcvS d (kf (h.val + 1)) j))) = _
      rw [amt_rcv]; rfl) (W := W)
    (by rw [payload_eq, pay_snd, hs])
    (by
      rw [payload_eq, pay_rcv, hrd, half_land]
      unfold rcvPay
      rw [org_succ_nxt, prv_nxt])) $$ [Hsrc Hdst HO Ht1 Ht2 Hr1 Hr2 Hr3 Hp]
  · isplitr; · iexact HI1
    isplitr; · iexact HI2
    isplitl [Hsrc]; · iexact Hsrc
    isplitl [Hdst Hr3 Hp]
    · isplitl [Hdst]; · unfold halfPt; iexact Hdst
      iframe
    isplitl [HO]; · iexact HO
    isplitl [Ht1]; · iexact Ht1
    isplitl [Hr1]; · iexact Hr1
    isplitl [Ht2]; · iexact Ht2
    iexact Hr2
  iintro ⟨Hc, HO⟩
  simp only [wp_ret]
  imodintro
  iapply Hk
  isplitl [HO]; · iexists W; iexact HO
  isplitl [Hts]; · iexact Hts
  unfold crS; rw [amt_snd]; iexact Hc

end Cert.KernelIdeal.Ring

end
-- ==== Proof.Lane.lean ====
/-
One lane of the ring: what a device holds on it before every hop, and that a hop's four stages (the landing, the
credit, the transfer, the release) lead from one hop to the next.
-/
module

public import proofs.«01_k».proof.Proof.Steps

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD → SemLoc sig → ℕ)
variable (d : Bool) (j : Fin 2) (c : Dev nD)

/-! ## What a device holds -/

/-- The positions: `a` landings and `s` releases awaited, the credits awaited below hop `g`. -/
def posL (a s g : ℕ) : sProp 𝕄 := iprop(P3 (atR d j c) a ∗ P3 (atS d j c) s ∗ P3 (atC d j c) (min g (nh d j)))
/-- The tokens left: transfers from hop `s`, credits given from hop `g`, landings from hop `a`, credits awaited from
hop `e`. -/
def tokL (s g a e : ℕ) : sProp 𝕄 :=
  iprop(fam (tkS d j c) (nh d j) s ∗ fam (tkC d j c) (nh d j) (max 3 g) ∗ fam (crR d j c) (nh d j) a ∗ fam (crC d j c) (nh d j) (max 3 e))
/-- How far the sender's credit semaphore for hop `r + 2` has come. -/
def rchC (r : ℕ) : sProp 𝕄 := reached ER (cell (prv d c) (.reg (crdS d (kf r) j))) ((r - 1) / 3)
instance rchC_persistent (r : ℕ) : BI.Persistent (rchC (F := F) d j c r) := by unfold rchC; infer_instance
/-- The halves that landed last and that no further hop will write. -/
def keepH (k : ℕ) : sProp 𝕄 := sepL (fun h => halfAny (F := F) d (kf (h + 1)) j c) ((List.range k).drop (nh d j - 3))
/-- The permissions kept, one of each block that came by. -/
def keepA (k : ℕ) : sProp 𝕄 := sepL (fun h => prm (F := F) ((trL d j h).take 1) (org d (h + 1) c)) (List.range k)
/-- The share of hop `r`'s source kept for the product. -/
def srcR (r : ℕ) : sProp 𝕄 :=
  match r with
  | 0 => iprop(emp)
  | r + 1 => halfPt d (kf (r + 1)) j c fullShare.right (XB m ρ d (org d (r + 1) c) c)
/-- The quarter share of the staged block, back from hop 1 on. -/
def xBack (r : ℕ) : sProp 𝕄 := match r with | 0 => iprop(emp) | _ + 1 => xPt m ρ d j c
/-- Hop `r` on its way: the promise its release fulfils; or, where there is no such hop, the share it would have lent. -/
def sentS (r : ℕ) : sProp 𝕄 :=
  if r < nh d j then crS d j c r else halfPt d (kf r) j c fullShare.left (XB m ρ d (org d r c) c)
/-- The half hop `r + 1` writes, where there is such a hop. -/
def dstP (r : ℕ) : sProp 𝕄 :=
  if r < nh d j then iprop(halfAny (F := F) d (kf (r + 1)) j (nxt d c) ∗ reached ER (cell (nxt d c) (.dma (rcvS d (kf (r + 1)) j))) (r / 3))
  else iprop(emp)

/-- Before the first hop. -/
def LInit : sProp 𝕄 :=
  iprop(posL d j c 0 0 1 ∗ tokL d j c 0 2 0 1 ∗ xPt m ρ d j c ∗ dsts d j 0 c ∗ prm (trL d j 0) c)
/-- Hop `r` on its way, before its landing is awaited. -/
def L0 (r : ℕ) : sProp 𝕄 :=
  iprop(posL d j c r r (r + 1) ∗ tokL d j c (r + 1) (r + 2) r (r + 1) ∗ sentS m ρ d j c r ∗ rchC d j c r ∗ dsts d j (r + 1) c
    ∗ keepH d j c (r - 1) ∗ keepA d j c r ∗ srcR m ρ d j c r ∗ xBack m ρ d j c r)
/-- Hop `r` has landed. -/
def L1 (r : ℕ) : sProp 𝕄 :=
  iprop(posL d j c (r + 1) r (r + 1) ∗ tokL d j c (r + 1) (r + 2) (r + 1) (r + 1) ∗ sentS m ρ d j c r ∗ rchC d j c r ∗ dsts d j (r + 1) c
    ∗ keepH d j c (r - 1) ∗ keepA d j c (r + 1) ∗ srcR m ρ d j c r ∗ xBack m ρ d j c r
    ∗ rchC d j c (r + 1) ∗ halfPt d (kf (r + 1)) j c fullShare (XB m ρ d (org d (r + 1) c) c) ∗ prm (trL d j (r + 1)) (org d (r + 1) c))
/-- And the credit for hop `r + 1` has come. -/
def L2 (r : ℕ) : sProp 𝕄 :=
  iprop(posL d j c (r + 1) r (r + 2) ∗ tokL d j c (r + 1) (r + 2) (r + 1) (r + 2) ∗ sentS m ρ d j c r ∗ rchC d j c r ∗ dsts d j (r + 2) c
    ∗ keepH d j c (r - 1) ∗ keepA d j c (r + 1) ∗ srcR m ρ d j c r ∗ xBack m ρ d j c r
    ∗ rchC d j c (r + 1) ∗ halfPt d (kf (r + 1)) j c fullShare (XB m ρ d (org d (r + 1) c) c) ∗ prm (trL d j (r + 1)) (org d (r + 1) c)
    ∗ dstP d j c (r + 1))
/-- Hop `r + 1` is on its way too, and its source may be read. -/
def L3 (r : ℕ) : sProp 𝕄 :=
  iprop(posL d j c (r + 1) r (r + 2) ∗ tokL d j c (r + 2) (r + 2) (r + 1) (r + 2) ∗ sentS m ρ d j c r ∗ rchC d j c r ∗ dsts d j (r + 2) c
    ∗ keepH d j c (r - 1) ∗ keepA d j c (r + 1) ∗ srcR m ρ d j c r ∗ xBack m ρ d j c r
    ∗ rchC d j c (r + 1) ∗ srcR m ρ d j c (r + 1) ∗ sentS m ρ d j c (r + 1))

/-! ## Small steps on the pieces -/

theorem trL_drop (d : Bool) (j : Fin 2) (h : Fin 8) : (trL d j h.val).drop 1 = trL d j (h.val + 1) := by
  revert d j h; decide

theorem prm_next (h : ℕ) (hh : h < 8) (o : Dev nD) :
    prm (F := F) (trL d j h) o ⊢ iprop(prm ((trL d j h).take 1) o ∗ prm (trL d j (h + 1)) o) := by
  obtain ⟨h, rfl⟩ : ∃ k : Fin 8, k.val = h := ⟨⟨h, hh⟩, rfl⟩
  have e := (sepL_append (F := F) (fun s => aaAny s o) ((trL d j h.val).take 1) ((trL d j h.val).drop 1)).1
  rw [List.take_append_drop, trL_drop] at e
  exact e

theorem keepA_succ (k : ℕ) :
    iprop(keepA (F := F) d j c k ∗ prm ((trL d j k).take 1) (org d (k + 1) c)) ⊢ keepA d j c (k + 1) := by
  unfold keepA
  rw [List.range_succ]
  iintro ⟨H, H'⟩
  iapply (sepL_append _ _ _).2
  isplitl [H]; · iexact H
  unfold sepL sepL
  iframe

theorem keepH_succ (k : ℕ) (hk : nh d j - 3 ≤ k) :
    iprop(keepH (F := F) d j c k ∗ halfAny d (kf (k + 1)) j c) ⊢ keepH d j c (k + 1) := by
  unfold keepH
  rw [List.range_succ, List.drop_append_of_le_length (by rw [List.length_range]; exact hk)]
  iintro ⟨H, H'⟩
  iapply (sepL_append _ _ _).2
  isplitl [H]; · iexact H
  unfold sepL sepL
  iframe
theorem keepH_same (k : ℕ) (hk : k < nh d j - 3) : keepH (F := F) d j c k ⊢ keepH d j c (k + 1) := by
  unfold keepH
  rw [List.drop_eq_nil_of_le (by rw [List.length_range]; omega), List.drop_eq_nil_of_le (by rw [List.length_range]; omega)]

/-- Before hop 3 no credit is awaited, and the positions at the credit semaphores are the later hops' already. -/
theorem atC_early (h : ℕ) (h3 : h < 3) : P3 (atC (F := F) d j c) h ⊢ P3 (atC d j c) (h + 1) := by
  unfold P3
  rw [show atC (F := F) d j c (h + 1 + 2) = atC d j c h by
    rw [atC_eq, atC_eq, show kf (h + 1 + 2 + 1) = kf (h + 1) from kf_add3 (h + 1), show (h + 1 + 2 - 3) / 3 = (h - 3) / 3 by omega]]
  iintro ⟨H0, H1, H2⟩
  isplitl [H1]; · iexact H1
  isplitl [H2]; · iexact H2
  iexact H0

theorem fam_max (Φ : ℕ → sProp 𝕄) (n : ℕ) {k : ℕ} (h : k < 3) : fam Φ n (max 3 k) = fam Φ n (max 3 (k + 1)) := by
  rw [show max 3 k = max 3 (k + 1) by omega]

theorem halfAny_of (k : Fin 3) (f : Buf (Elt F) ((bufM d).view.loc (c : Thread nD τ))) :
    halfPt d k j c fullShare f ⊢ halfAny d k j c := by
  unfold halfAny; iintro H; iexists f; iexact H

/-- The far edges: what a lane holds of `atR`, `atS`, `atC` at the middle hops. -/
theorem P3_reach (Φ Ψ : ℕ → sProp 𝕄) (k i : ℕ) (hi : i < 3) (h : ∀ x, Φ x ⊢ iprop(Φ x ∗ Ψ x)) :
    P3 Φ k ⊢ iprop(P3 Φ k ∗ Ψ (k + i)) := by
  unfold P3
  match i, hi with
  | 0, _ =>
    iintro ⟨H0, H1, H2⟩
    ihave H0 := (h k) $$ H0
    icases H0 with ⟨H0, Hr⟩
    iframe
  | 1, _ =>
    iintro ⟨H0, H1, H2⟩
    ihave H1 := (h (k + 1)) $$ H1
    icases H1 with ⟨H1, Hr⟩
    iframe
  | 2, _ =>
    iintro ⟨H0, H1, H2⟩
    ihave H2 := (h (k + 2)) $$ H2
    icases H2 with ⟨H2, Hr⟩
    iframe

/-- How far the semaphores of hop `h` have come. -/
def rS (h : ℕ) : sProp 𝕄 := reached ER (cell c (.dma (sndS d (kf h) j))) (h / 3)
def rR (h : ℕ) : sProp 𝕄 := reached ER (cell c (.dma (rcvS d (kf (h + 1)) j))) (h / 3)
def rC (h : ℕ) : sProp 𝕄 := reached ER (cell c (.reg (crdS d (kf (h + 1)) j))) ((h - 3) / 3)
theorem atS_rS (h : ℕ) : atS (F := F) d j c h ⊢ iprop(atS d j c h ∗ rS d j c h) := by
  unfold atS rS; iintro ⟨H, #H'⟩; isplitl [H]
  · isplitl [H]; · iexact H
    iexact H'
  iexact H'
theorem atR_rR (h : ℕ) : atR (F := F) d j c h ⊢ iprop(atR d j c h ∗ rR d j c h) := by
  unfold atR rR; iintro ⟨H, #H'⟩; isplitl [H]
  · isplitl [H]; · iexact H
    iexact H'
  iexact H'
theorem atC_rC (h : ℕ) : atC (F := F) d j c h ⊢ iprop(atC d j c h ∗ rC d j c h) := by
  unfold atC rC; iintro ⟨H, #H'⟩; isplitl [H]
  · isplitl [H]; · iexact H
    iexact H'
  iexact H'

/-! ## The stages -/

theorem seven_le (r : Fin 7) : r.val < nh d j := lt_of_lt_of_le r.isLt (le_nh d j)

theorem recv_stage (r : Fin 7) (l : List Due) (hl : above (10 * r.val + 10) l = true) (Q : PUnit → sProp 𝕄) :
    iprop(recs m ρ K ∗ Ow c l ∗ L0 m ρ d j c r.val ∗ ((Ow c l ∗ L1 m ρ d j c r.val) -∗ Q ⟨⟩))
      ⊢ WP c (waitRecvP d r.val j) Q := by
  unfold L0 L1 posL tokL
  iintro ⟨#HR, HO, ⟨⟨Hp1, Hp2, Hp3⟩, ⟨Ht1, Ht2, Ht3, Ht4⟩, Hs, Hrc, Hd, HkH, HkA, Hsr, Hx⟩, Hk⟩
  iapply (waitRecv_spec m ρ K d j c r.val (seven_le d j r) l hl)
  isplitr; · iexact HR
  isplitl [HO Hp1 Ht3]; · iframe
  unfold rcvPay
  iintro ⟨HO, Hp1, Ht3, Hh, Hrc', Hprm⟩
  ihave Hprm := (prm_next d j r.val (by omega) (org d (r.val + 1) c)) $$ Hprm
  icases Hprm with ⟨Hp, Hprm⟩
  ihave HkA := (keepA_succ d j c r.val) $$ [HkA Hp]
  · isplitl [HkA]; · iexact HkA
    iexact Hp
  iapply Hk
  isplitl [HO]; · iexact HO
  isplitl [Hp1 Hp2 Hp3]; · iframe
  isplitl [Ht1 Ht2 Ht3 Ht4]; · iframe
  isplitl [Hs]; · iexact Hs
  isplitl [Hrc]; · iexact Hrc
  isplitl [Hd]; · iexact Hd
  isplitl [HkH]; · iexact HkH
  isplitl [HkA]; · iexact HkA
  isplitl [Hsr]; · iexact Hsr
  isplitl [Hx]; · iexact Hx
  isplitl [Hrc']; · unfold rchC; iexact Hrc'
  isplitl [Hh]; · iexact Hh
  iexact Hprm

theorem credit_stage (r : Fin 7) (l : List Due) (hl : above (10 * (r.val + 1) + 5) l = true) (Q : PUnit → sProp 𝕄) :
    iprop(recs m ρ K ∗ Ow c l ∗ L1 m ρ d j c r.val ∗ ((Ow c l ∗ L2 m ρ d j c r.val) -∗ Q ⟨⟩))
      ⊢ WP c (waitCreditP d (r.val + 1) j) Q := by
  have hn := le_nh d j
  unfold waitCreditP L1 L2 posL tokL
  by_cases h3 : 3 ≤ r.val + 1 ∧ r.val + 1 < nh d j
  · rw [if_pos h3, Nat.min_eq_left (show r.val + 1 ≤ nh d j by omega), Nat.min_eq_left (show r.val + 2 ≤ nh d j by omega),
      Nat.max_eq_right (show 3 ≤ r.val + 1 from h3.1), Nat.max_eq_right (show 3 ≤ r.val + 2 by omega)]
    unfold dstP
    rw [if_pos h3.2]
    iintro ⟨#HR, HO, ⟨⟨Hp1, Hp2, Hp3⟩, ⟨Ht1, Ht2, Ht3, Ht4⟩, Hs, Hrc, Hd, HkH, HkA, Hsr, Hx, Hrc', Hh, Hprm⟩, Hk⟩
    iapply (waitCredit_spec m ρ K d j c (r.val + 1) h3.1 h3.2 l hl)
    isplitr; · iexact HR
    isplitl [HO Hp3 Ht4]; · iframe
    unfold crdPay
    iintro ⟨HO, Hp3, Ht4, Hdst⟩
    iapply Hk
    isplitl [HO]; · iexact HO
    isplitl [Hp1 Hp2 Hp3]; · iframe
    isplitl [Ht1 Ht2 Ht3 Ht4]; · iframe
    isplitl [Hs]; · iexact Hs
    isplitl [Hrc]; · iexact Hrc
    isplitl [Hd]
    · have e : dsts (F := F) d j (r.val + 1) c = dsts d j (r.val + 2) c := fam_ge _ (by omega) (by omega)
      iapply (Entails.of_eq e) $$ Hd
    isplitl [HkH]; · iexact HkH
    isplitl [HkA]; · iexact HkA
    isplitl [Hsr]; · iexact Hsr
    isplitl [Hx]; · iexact Hx
    isplitl [Hrc']; · iexact Hrc'
    isplitl [Hh]; · iexact Hh
    isplitl [Hprm]; · iexact Hprm
    iexact Hdst
  · rw [if_neg h3]
    have hd' : iprop(recs m ρ K ∗ P3 (atC (F := F) d j c) (min (r.val + 1) (nh d j)) ∗ dsts d j (r.val + 1) c ∗ fam (crC d j c) (nh d j) (max 3 (r.val + 1)))
        ⊢ iprop(P3 (atC (F := F) d j c) (min (r.val + 2) (nh d j)) ∗ dsts d j (r.val + 2) c ∗ fam (crC d j c) (nh d j) (max 3 (r.val + 2))
            ∗ dstP d j c (r.val + 1)) := by
      by_cases hlt : r.val + 1 < 3
      · rw [Nat.min_eq_left (show r.val + 1 ≤ nh d j by omega), Nat.min_eq_left (show r.val + 2 ≤ nh d j by omega), fam_max _ _ hlt]
        unfold dstP
        rw [if_pos (show r.val + 1 < nh d j by omega)]
        have e : dsts (F := F) d j (r.val + 1) c = iprop(halfAny d (kf (r.val + 1 + 1)) j (nxt d c) ∗ dsts d j (r.val + 2) c) :=
          fam_succ _ hlt
        rw [e, show (r.val + 1) / 3 = 0 by omega]
        iintro ⟨#HR, Hp, ⟨Hd, Hds⟩, Ht⟩
        isplitl [Hp]; · iapply (atC_early d j c (r.val + 1) hlt) $$ Hp
        isplitl [Hds]; · iexact Hds
        isplitl [Ht]; · iexact Ht
        isplitl [Hd]; · iexact Hd
        iapply (reached_at m ρ K (nxt d c) _ (kind_ne_rcv d j _)) $$ HR
      · have hge : nh d j ≤ r.val + 1 := by omega
        rw [Nat.min_eq_right hge, Nat.min_eq_right (show nh d j ≤ r.val + 2 by omega)]
        unfold dstP
        rw [if_neg (by omega), fam_ge _ (show nh d j ≤ max 3 (r.val + 1) by omega) (show nh d j ≤ max 3 (r.val + 2) by omega)]
        have e : dsts (F := F) d j (r.val + 1) c = dsts d j (r.val + 2) c := fam_ge _ (by omega) (by omega)
        rw [e]
        iintro ⟨-, Hp, Hd, Ht⟩
        iframe
    iintro ⟨#HR, HO, ⟨⟨Hp1, Hp2, Hp3⟩, ⟨Ht1, Ht2, Ht3, Ht4⟩, Hs, Hrc, Hd, HkH, HkA, Hsr, Hx, Hrc', Hh, Hprm⟩, Hk⟩
    ihave Hd := hd' $$ [Hp3 Hd Ht4]
    · isplitr; · iexact HR
      iframe
    icases Hd with ⟨Hp3, Hd, Ht4, Hdst⟩
    simp only [Prog.pure_eq_ret, wp_ret]
    imodintro
    iapply Hk
    isplitl [HO]; · iexact HO
    isplitl [Hp1 Hp2 Hp3]; · iframe
    isplitl [Ht1 Ht2 Ht3 Ht4]; · iframe
    iframe

/-- The transfer of a hop, its source held whole: the share not lent stays. -/
theorem hop_stage (r : Fin 7) (l : List Due) (Q : PUnit → sProp 𝕄) :
    iprop(recs m ρ K ∗ Ow c (sendDue d (r.val + 1) j ++ l) ∗ L2 m ρ d j c r.val ∗ ((Ow c l ∗ L3 m ρ d j c r.val) -∗ Q ⟨⟩))
      ⊢ WP c (hopP c d (r.val + 1) j) Q := by
  have hn := le_nh d j
  unfold L2 L3 posL tokL
  by_cases hlt : r.val + 1 < nh d j
  · have h8 := nh_le d j
    iintro ⟨#HR, HO, ⟨⟨Hp1, Hp2, Hp3⟩, ⟨Ht1, Ht2, Ht3, Ht4⟩, Hs, Hrc, Hd, HkH, HkA, Hsr, Hx, Hrc', Hh, Hprm, Hdst⟩, Hk⟩
    have ed : dstP (F := F) d j c (r.val + 1) = iprop(halfAny d (kf (r.val + 1 + 1)) j (nxt d c) ∗ reached ER (cell (nxt d c) (.dma (rcvS d (kf (r.val + 1 + 1)) j))) ((r.val + 1) / 3)) := if_pos hlt
    ihave Hdst := (Entails.of_eq ed) $$ Hdst
    icases Hdst with ⟨Hdst, Hrn⟩
    ihave Hh := (halfPt_shares d (kf (r.val + 1)) j c fullShare (XB m ρ d (org d (r.val + 1) c) c)).1 $$ Hh
    icases Hh with ⟨Hl, Hr⟩
    ihave Hp2 := (P3_reach (atS d j c) (rS d j c) r.val 1 (by omega) (atS_rS d j c)) $$ Hp2
    icases Hp2 with ⟨Hp2, HrS⟩
    ihave Hp3 := (P3_reach (atC d j c) (rC d j c) (min (r.val + 2) (nh d j)) 2 (by omega) (atC_rC d j c)) $$ Hp3
    icases Hp3 with ⟨Hp3, HrC⟩
    have eC : rC (F := F) d j c (min (r.val + 2) (nh d j) + 2) = reached ER (cell c (.reg (crdS d (kf (r.val + 1 + 1)) j))) ((r.val + 1) / 3) := by
      unfold rC
      rw [Nat.min_eq_left (show r.val + 2 ≤ nh d j by omega), show kf (r.val + 2 + 2 + 1) = kf (r.val + 1 + 1) from kf_add3 (r.val + 2),
        show (r.val + 2 + 2 - 3) / 3 = (r.val + 1) / 3 by omega]
    ihave HrC := (Entails.of_eq eC) $$ HrC
    iapply (send_spec m ρ K d j c ⟨r.val + 1, by omega⟩ hlt l)
    isplitr; · iexact HR
    isplitl [HO Ht1 Hl Hdst HrS Hrn HrC Hprm]
    · isplitl [HO]; · iexact HO
      isplitl [Ht1]; · iexact Ht1
      isplitl [Hl]; · unfold sndPay; iexact Hl
      isplitl [Hdst]; · iexact Hdst
      isplitl [HrS]; · unfold rS; iexact HrS
      isplitl [Hrn]; · iexact Hrn
      isplitl [HrC]; · iexact HrC
      iexact Hprm
    iintro ⟨HO, Ht1, Hcr⟩
    iapply Hk
    isplitl [HO]; · iexact HO
    isplitl [Hp1 Hp2 Hp3]; · iframe
    isplitl [Ht1 Ht2 Ht3 Ht4]
    · isplitl [Ht1]; · iexact Ht1
      iframe
    isplitl [Hs]; · iexact Hs
    isplitl [Hrc]; · iexact Hrc
    isplitl [Hd]; · iexact Hd
    isplitl [HkH]; · iexact HkH
    isplitl [HkA]; · iexact HkA
    isplitl [Hsr]; · iexact Hsr
    isplitl [Hx]; · iexact Hx
    isplitl [Hrc']; · iexact Hrc'
    isplitl [Hr]; · unfold srcR; iexact Hr
    have es : crS (F := F) d j c (r.val + 1) = sentS m ρ d j c (r.val + 1) := by unfold sentS; rw [if_pos hlt]
    iapply (Entails.of_eq es) $$ Hcr
  · have e0 : sendDue d (r.val + 1) j = [] := if_neg hlt
    rw [e0, List.nil_append, fam_ge _ (show nh d j ≤ r.val + 1 by omega) (show nh d j ≤ r.val + 2 by omega)]
    unfold hopP
    rw [if_neg hlt]
    iintro ⟨#HR, HO, ⟨⟨Hp1, Hp2, Hp3⟩, ⟨Ht1, Ht2, Ht3, Ht4⟩, Hs, Hrc, Hd, HkH, HkA, Hsr, Hx, Hrc', Hh, Hprm, Hdst⟩, Hk⟩
    ihave Hh := (halfPt_shares d (kf (r.val + 1)) j c fullShare (XB m ρ d (org d (r.val + 1) c) c)).1 $$ Hh
    icases Hh with ⟨Hl, Hr⟩
    simp only [Prog.pure_eq_ret, wp_ret]
    imodintro
    iapply Hk
    isplitl [HO]; · iexact HO
    isplitl [Hp1 Hp2 Hp3]; · iframe
    isplitl [Ht1 Ht2 Ht3 Ht4]; · iframe
    isplitl [Hs]; · iexact Hs
    isplitl [Hrc]; · iexact Hrc
    isplitl [Hd]; · iexact Hd
    isplitl [HkH]; · iexact HkH
    isplitl [HkA]; · iexact HkA
    isplitl [Hsr]; · iexact Hsr
    isplitl [Hx]; · iexact Hx
    isplitl [Hrc']; · iexact Hrc'
    isplitl [Hr]; · unfold srcR; iexact Hr
    have es : halfPt d (kf (r.val + 1)) j c fullShare.left (XB m ρ d (org d (r.val + 1) c) c) = sentS m ρ d j c (r.val + 1) := by
      unfold sentS; rw [if_neg hlt]
    iapply (Entails.of_eq es) $$ Hl

/-- The release of a hop's source, the credit it makes possible included. -/
theorem free_stage (r : Fin 7) (l : List Due) (hl : above 0 (creditDue d (r.val + 2) j ++ l) = true) (Q : PUnit → sProp 𝕄) :
    iprop(recs m ρ K ∗ Ow c (creditDue d (r.val + 2) j ++ l) ∗ L3 m ρ d j c r.val ∗ ((Ow c l ∗ L0 m ρ d j c (r.val + 1)) -∗ Q ⟨⟩))
      ⊢ WP c (do waitSendP d r.val j; if r.val = 0 then pure ⟨⟩ else creditP c d (r.val + 2) j) Q := by
  have hn := le_nh d j
  have h8 := nh_le d j
  have hrn := seven_le d j r
  unfold L3 posL tokL
  iintro ⟨#HR, HO, ⟨⟨Hp1, Hp2, Hp3⟩, ⟨Ht1, Ht2, Ht3, Ht4⟩, Hs, #Hrc, Hd, HkH, HkA, Hsr, Hx, Hrc', Hsr', Hs'⟩, Hk⟩
  have es : sentS m ρ d j c r.val = crS (F := F) d j c r.val := if_pos hrn
  ihave Hs := (Entails.of_eq es) $$ Hs
  simp only [wp_bind]
  iapply (waitSend_spec m ρ K d j c r.val hrn _ hl)
  isplitr; · iexact HR
  isplitl [HO Hp2 Hs]; · iframe
  iintro ⟨HO, Hp2, Hpay⟩
  by_cases h0 : r.val = 0
  · rw [if_pos h0]
    have e0 : creditDue d (r.val + 2) j = [] := if_neg (by omega)
    rw [e0, List.nil_append]
    have eh : keepH (F := F) d j c (r.val - 1) = keepH d j c r.val := by rw [h0]
    have ex : sndPay m ρ d r.val j c = xBack m ρ d j c (r.val + 1) := by rw [h0]; rfl
    ihave HkH := (Entails.of_eq eh) $$ HkH
    ihave Hx' := (Entails.of_eq ex) $$ Hpay
    have et : fam (tkC (F := F) d j c) (nh d j) (max 3 (r.val + 2)) = fam (tkC d j c) (nh d j) (max 3 (r.val + 3)) := fam_max _ _ (by omega)
    ihave Ht2 := (Entails.of_eq et) $$ Ht2
    simp only [Prog.pure_eq_ret, wp_ret]
    imodintro
    iapply Hk
    unfold L0 posL tokL
    isplitl [HO]; · iexact HO
    isplitl [Hp1 Hp2 Hp3]; · iframe
    isplitl [Ht1 Ht2 Ht3 Ht4]; · iframe
    isplitl [Hs']; · iexact Hs'
    isplitl [Hrc']; · iexact Hrc'
    isplitl [Hd]; · iexact Hd
    isplitl [HkH]; · iexact HkH
    isplitl [HkA]; · iexact HkA
    isplitl [Hsr']; · iexact Hsr'
    iexact Hx'
  · rw [if_neg h0]
    obtain ⟨k, hk⟩ : ∃ k, r.val = k + 1 := ⟨r.val - 1, by omega⟩
    have ej : iprop(sndPay m ρ d r.val j c ∗ srcR m ρ d j c r.val) ⊢ halfAny d (kf r.val) j c := by
      rw [hk]
      exact BI.Entails.trans (halfPt_shares d (kf (k + 1)) j c fullShare (XB m ρ d (org d (k + 1) c) c)).2 (halfAny_of d j c _ _)
    have ex : xBack m ρ d j c r.val = xBack m ρ d j c (r.val + 1) := by rw [hk]; rfl
    ihave Hx := (Entails.of_eq ex) $$ Hx
    ihave Hh := ej $$ [Hpay Hsr]
    · iframe
    unfold creditP
    by_cases h3 : 3 ≤ r.val + 2 ∧ r.val + 2 < nh d j
    · rw [if_pos h3]
      ihave Hp1 := (P3_reach (atR d j c) (rR d j c) (r.val + 1) 1 (by omega) (atR_rR d j c)) $$ Hp1
      icases Hp1 with ⟨Hp1, HrR⟩
      have et : fam (tkC (F := F) d j c) (nh d j) (max 3 (r.val + 2)) = fam (tkC d j c) (nh d j) (r.val + 2) := by
        rw [Nat.max_eq_right h3.1]
      ihave Ht2 := (Entails.of_eq et) $$ Ht2
      have ek : kf (r.val + 2 + 1) = kf r.val := kf_add3 r.val
      have eh' : halfAny (F := F) d (kf r.val) j c = halfAny d (kf (r.val + 2 + 1)) j c := by rw [ek]
      ihave Hh := (Entails.of_eq eh') $$ Hh
      have er : rchC (F := F) d j c r.val = reached ER (cell (prv d c) (.reg (crdS d (kf (r.val + 2 + 1)) j))) ((r.val + 2 - 3) / 3) := by
        unfold rchC; rw [ek, show (r.val + 2 - 3) = r.val - 1 by omega]
      ihave Hrc2 := (Entails.of_eq er) $$ Hrc
      have eH : keepH (F := F) d j c (r.val - 1) ⊢ keepH d j c r.val := by
        have := keepH_same (F := F) d j c (r.val - 1) (by omega)
        rwa [show r.val - 1 + 1 = r.val by omega] at this
      ihave HkH := eH $$ HkH
      iapply (credit_spec m ρ K d j c ⟨r.val + 2, by omega⟩ h3.1 h3.2 l)
      isplitr; · iexact HR
      isplitl [HO Ht2 Hh HrR]
      · isplitl [HO]; · iexact HO
        isplitl [Ht2]; · iexact Ht2
        isplitl [Hh]; · iexact Hh
        isplitl [HrR]; · unfold rR; iexact HrR
        iexact Hrc2
      iintro ⟨HO, Ht2⟩
      have et' : fam (tkC (F := F) d j c) (nh d j) (r.val + 2 + 1) = fam (tkC d j c) (nh d j) (max 3 (r.val + 1 + 2)) := by
        rw [Nat.max_eq_right (show 3 ≤ r.val + 1 + 2 by omega)]
      ihave Ht2 := (Entails.of_eq et') $$ Ht2
      iapply Hk
      unfold L0 posL tokL
      isplitl [HO]; · iexact HO
      isplitl [Hp1 Hp2 Hp3]; · iframe
      isplitl [Ht1 Ht2 Ht3 Ht4]; · iframe
      isplitl [Hs']; · iexact Hs'
      isplitl [Hrc']; · iexact Hrc'
      isplitl [Hd]; · iexact Hd
      isplitl [HkH]; · iexact HkH
      isplitl [HkA]; · iexact HkA
      isplitl [Hsr']; · iexact Hsr'
      iexact Hx
    · rw [if_neg h3]
      have e0 : creditDue d (r.val + 2) j = [] := if_neg h3
      rw [e0, List.nil_append]
      have eH : iprop(keepH (F := F) d j c (r.val - 1) ∗ halfAny d (kf r.val) j c) ⊢ keepH d j c r.val := by
        have := keepH_succ (F := F) d j c (r.val - 1) (by omega)
        rwa [show r.val - 1 + 1 = r.val by omega] at this
      ihave HkH := eH $$ [HkH Hh]
      · iframe
      have et : fam (tkC (F := F) d j c) (nh d j) (max 3 (r.val + 2)) = fam (tkC d j c) (nh d j) (max 3 (r.val + 1 + 2)) :=
        fam_ge _ (by omega) (by omega)
      ihave Ht2 := (Entails.of_eq et) $$ Ht2
      simp only [Prog.pure_eq_ret, wp_ret]
      imodintro
      iapply Hk
      unfold L0 posL tokL
      isplitl [HO]; · iexact HO
      isplitl [Hp1 Hp2 Hp3]; · iframe
      isplitl [Ht1 Ht2 Ht3 Ht4]; · iframe
      isplitl [Hs']; · iexact Hs'
      isplitl [Hrc']; · iexact Hrc'
      isplitl [Hd]; · iexact Hd
      isplitl [HkH]; · iexact HkH
      isplitl [HkA]; · iexact HkA
      isplitl [Hsr']; · iexact Hsr'
      iexact Hx

/-- The first hop of a lane. -/
theorem init_stage (l : List Due) (Q : PUnit → sProp 𝕄) :
    iprop(recs m ρ K ∗ Ow c (sendDue d 0 j ++ l) ∗ LInit m ρ d j c ∗ ((Ow c l ∗ L0 m ρ d j c 0) -∗ Q ⟨⟩))
      ⊢ WP c (hopP c d 0 j) Q := by
  have hn := le_nh d j
  have h0 : 0 < nh d j := by omega
  unfold LInit posL tokL
  rw [Nat.min_eq_left (show 1 ≤ nh d j by omega)]
  have e : dsts (F := F) d j 0 c = iprop(halfAny d (kf (0 + 1)) j (nxt d c) ∗ dsts d j 1 c) := fam_succ _ (by omega)
  rw [e]
  iintro ⟨#HR, HO, ⟨⟨Hp1, Hp2, Hp3⟩, ⟨Ht1, Ht2, Ht3, Ht4⟩, Hx, ⟨Hdst, Hd⟩, Hprm⟩, Hk⟩
  have eo : prm (F := F) (trL d j 0) c = prm (trL d j 0) (org d 0 c) := by rw [org_zero]
  ihave Hprm := (Entails.of_eq eo) $$ Hprm
  iapply (send_spec m ρ K d j c 0 h0 l)
  isplitr; · iexact HR
  isplitl [HO Ht1 Hx Hdst Hprm]
  · isplitl [HO]; · iexact HO
    isplitl [Ht1]; · iexact Ht1
    isplitl [Hx]; · unfold sndPay; iexact Hx
    isplitl [Hdst]; · iexact Hdst
    isplitr; · iapply (reached_at m ρ K c _ (kind_ne_snd d j _)) $$ HR
    isplitr; · iapply (reached_at m ρ K (nxt d c) _ (kind_ne_rcv d j _)) $$ HR
    isplitr; · iapply (reached_at m ρ K c _ (kind_ne_crd d j _)) $$ HR
    iexact Hprm
  iintro ⟨HO, Ht1, Hcr⟩
  iapply Hk
  unfold L0 posL tokL
  rw [Nat.min_eq_left (show 0 + 1 ≤ nh d j by omega)]
  isplitl [HO]; · iexact HO
  isplitl [Hp1 Hp2 Hp3]; · iframe
  isplitl [Ht1 Ht2 Ht3 Ht4]
  · isplitl [Ht1]; · iexact Ht1
    iframe
  isplitl [Hcr]
  · have es : crS (F := F) d j c (0 : Fin 8).val = sentS m ρ d j c 0 := by unfold sentS; rw [if_pos h0]; rfl
    iapply (Entails.of_eq es) $$ Hcr
  isplitr
  · unfold rchC
    iapply (reached_at m ρ K (prv d c) _ (kind_ne_crd d j _)) $$ HR
  isplitl [Hd]; · iexact Hd
  isplitr
  · unfold keepH; unfold sepL; rw [List.drop_eq_nil_of_le (by simp)]; iempintro
  isplitr
  · unfold keepA; unfold sepL; iempintro
  isplitr
  · unfold srcR; iempintro
  unfold xBack; iempintro

end Cert.KernelIdeal.Ring

end
-- ==== Proof.Dots.lean ====
/-
The block products: each stores one block of rows of the unscaled result and takes its largest magnitude.  What is
kept along the way is which rows of the result buffer hold their product already.
-/
module

public import proofs.«01_k».proof.Proof.Lane

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The unscaled result -/

/-- How many places on from device `c` the device is whose block of `x` gives a row. -/
def rowDist (row : ℕ) : ℕ := (row / 256 + 16 - c.val) % 16

def in256 (i : S4096x128.Idx) : S256x128.Idx := ix2 (n0 := 256) (n1 := 128) ⟨(i 0).val % 256, Nat.mod_lt _ (by decide)⟩ (i 1)
def in128 (i : S4096x128.Idx) : S128x128.Idx := ix2 (n0 := 128) (n1 := 128) ⟨(i 0).val % 128, Nat.mod_lt _ (by decide)⟩ (i 1)

/-- The unscaled result on device `c`, row by row the product that is stored there. -/
def yAt : Vec F S4096x128 .f32 := fun (i : S4096x128.Idx) =>
  if rowDist c (i 0).val = 0 then yOwn m ρ c (in256 i)
  else if rowDist c (i 0).val < 8 then yHop m ρ c true (rowDist c (i 0).val - 1) (in256 i)
  else if rowDist c (i 0).val = 8 then yFar m ρ c (decide (128 ≤ (i 0).val % 256)) (in128 i)
  else yHop m ρ c false (15 - rowDist c (i 0).val) (in256 i)

/-- The result buffer, its rows in `R` known. -/
def outPt (R : ℕ → Prop) : sProp 𝕄 :=
  iprop(∃ f : Vec F S4096x128 .f32, ⌜∀ i : S4096x128.Idx, R (i 0).val → f i = yAt m ρ c i⌝ ∗ ((oM.view.loc (c : Thread nD τ)) ↦{fullShare} f))

theorem outPt_mono {R R' : ℕ → Prop} (h : ∀ row, row < 4096 → R' row → R row) : outPt m ρ c R ⊢ outPt m ρ c R' := by
  unfold outPt
  iintro ⟨%f, %hf, H⟩
  iexists f
  isplitr; · ipureintro; exact fun i hi => hf i (h _ (i 0).isLt hi)
  iexact H

/-- A store of a block of whole rows makes those rows known. -/
theorem store_known (off sz : Fin 2 → ℕ) (inb : ∀ a, off a + sz a ≤ S4096x128.size a) (h0 : off 1 = 0) (h1 : sz 1 = 128)
    (f : Vec F S4096x128 .f32) (y : (Rect.unit (s := S4096x128) off sz inb).shape.Idx → Elt F .f32) (R : ℕ → Prop)
    (hf : ∀ i : S4096x128.Idx, R (i 0).val → f i = yAt m ρ c i)
    (hy : ∀ p, y p = yAt m ρ c ((Rect.unit (s := S4096x128) off sz inb).emb p)) (i : S4096x128.Idx)
    (hi : R (i 0).val ∨ (off 0 ≤ (i 0).val ∧ (i 0).val < off 0 + sz 0)) :
    (oM.access (Rect.unit (s := S4096x128) off sz inb)).write (Elt F) f y Finset.univ i = yAt m ρ c i := by
  by_cases hm : i ∈ Finset.map (oM.access (Rect.unit (s := S4096x128) off sz inb)).emb Finset.univ
  · obtain ⟨p, -, rfl⟩ := Finset.mem_map.mp hm
    exact ((oM.access (Rect.unit (s := S4096x128) off sz inb)).write_emb_of_mem f y (Finset.mem_univ p)).trans (hy p)
  · rcases hi with hi | hi
    · refine (View.write_of_not_mem (v := oM.access (Rect.unit (s := S4096x128) off sz inb)) f y Finset.univ (i := i) fun h => hm h).trans (hf i hi)
    · have hs : i ∈ (Rect.unit (s := S4096x128) off sz inb).set → i ∈ Finset.map (oM.access (Rect.unit (s := S4096x128) off sz inb)).emb Finset.univ := fun h => by
        obtain ⟨p, -, e⟩ := Finset.mem_map.mp ((Rect.map_emb_univ _).symm ▸ h)
        exact Finset.mem_map.mpr ⟨p, Finset.mem_univ p, e⟩
      refine absurd (hs (Rect.mem_set_unit.mpr fun a => ?_)) hm
      have h2 : (i 1).val < 128 := (i 1).isLt
      match a with
      | ⟨0, _⟩ => exact hi
      | ⟨1, _⟩ => exact ⟨by show off 1 ≤ (i 1).val; omega, by show (i 1).val < off 1 + sz 1; omega⟩

/-! ## Where the blocks lie -/

theorem off_own : k0_off1 c 0 = 256 * c.val ∧ k0_off1 c 1 = 0 := by revert c; decide +kernel
theorem off_hop (d : Bool) (r : Fin 7) : offOf c d r 0 = 256 * (org d (r.val + 1) c).val ∧ offOf c d r 1 = 0 := by
  revert c d r; decide +kernel
theorem off_far (d : Bool) : farOff c d 0 = 256 * ((c.val + 8) % 16) + 128 * d.toNat ∧ farOff c d 1 = 0 := by
  revert c d; decide +kernel

theorem in256_eq (i : S4096x128.Idx) (p : S256x128.Idx) (o : ℕ) (h0 : (i 0).val = 256 * o + (p 0).val) (h1 : (i 1).val = (p 1).val) :
    in256 i = p := by
  have := (p 0).isLt
  change (p 0).val < 256 at this
  funext a
  match a with
  | ⟨0, _⟩ => exact Fin.ext (by show (i 0).val % 256 = (p 0).val; omega)
  | ⟨1, _⟩ => exact Fin.ext h1
theorem in128_eq (i : S4096x128.Idx) (p : S128x128.Idx) (o : ℕ) (h0 : (i 0).val = 128 * o + (p 0).val) (h1 : (i 1).val = (p 1).val) :
    in128 i = p := by
  have := (p 0).isLt
  change (p 0).val < 128 at this
  funext a
  match a with
  | ⟨0, _⟩ => exact Fin.ext (by show (i 0).val % 128 = (p 0).val; omega)
  | ⟨1, _⟩ => exact Fin.ext h1

theorem emb_val (off sz : Fin 2 → ℕ) (inb : ∀ a, off a + sz a ≤ S4096x128.size a) (p : (Rect.unit (s := S4096x128) off sz inb).shape.Idx) (a : Fin 2) :
    ((Rect.unit (s := S4096x128) off sz inb).emb p a).val = off a + (p a).val := by
  show off a + 1 * (p a).val = _
  rw [Nat.one_mul]

theorem yAt_own (p : S256x128.Idx) :
    yOwn m ρ c p = yAt m ρ c ((Rect.unit (s := S4096x128) (k0_off1 c) S256x128.size (k0_off1_inb c)).emb p) := by
  have e0 := emb_val (k0_off1 c) S256x128.size (k0_off1_inb c) p 0
  have e1 := emb_val (k0_off1 c) S256x128.size (k0_off1_inb c) p 1
  generalize (Rect.unit (s := S4096x128) (k0_off1 c) S256x128.size (k0_off1_inb c)).emb p = i at e0 e1
  rw [(off_own c).1] at e0
  rw [(off_own c).2, Nat.zero_add] at e1
  have hp : (p 0).val < 256 := (p 0).isLt
  have hc : c.val < 16 := c.isLt
  unfold yAt
  rw [if_pos (by unfold rowDist; omega), in256_eq i p c.val e0 e1]

theorem yAt_hop (d : Bool) (r : Fin 7) (p : S256x128.Idx) :
    yHop m ρ c d r.val p = yAt m ρ c ((Rect.unit (s := S4096x128) (offOf c d r) S256x128.size (offOf_inb c d r)).emb p) := by
  have e0 := emb_val (offOf c d r) S256x128.size (offOf_inb c d r) p 0
  have e1 := emb_val (offOf c d r) S256x128.size (offOf_inb c d r) p 1
  generalize (Rect.unit (s := S4096x128) (offOf c d r) S256x128.size (offOf_inb c d r)).emb p = i at e0 e1
  rw [(off_hop c d r).1] at e0
  rw [(off_hop c d r).2, Nat.zero_add] at e1
  have hp : (p 0).val < 256 := (p 0).isLt
  have hc : c.val < 16 := c.isLt
  have hr := r.isLt
  have ei := in256_eq i p _ e0 e1
  unfold yAt
  cases d with
  | false =>
    have ed : rowDist c (i 0).val = 15 - r.val := by
      change (i 0).val = 256 * ((c.val + (r.val + 1) * 15) % 16) + (p 0).val at e0
      unfold rowDist; omega
    rw [ed, if_neg (by omega), if_neg (by omega), if_neg (by omega), ei, show 15 - (15 - r.val) = r.val by omega]
  | true =>
    have ed : rowDist c (i 0).val = r.val + 1 := by
      change (i 0).val = 256 * ((c.val + (r.val + 1) * 1) % 16) + (p 0).val at e0
      unfold rowDist; omega
    rw [ed, if_neg (by omega), if_pos (by omega), ei, Nat.add_sub_cancel]

theorem yAt_far (d : Bool) (p : S128x128.Idx) :
    yFar m ρ c d p = yAt m ρ c ((Rect.unit (s := S4096x128) (farOff c d) S128x128.size (farOff_inb c d)).emb p) := by
  have e0 := emb_val (farOff c d) S128x128.size (farOff_inb c d) p 0
  have e1 := emb_val (farOff c d) S128x128.size (farOff_inb c d) p 1
  generalize (Rect.unit (s := S4096x128) (farOff c d) S128x128.size (farOff_inb c d)).emb p = i at e0 e1
  rw [(off_far c d).1] at e0
  rw [(off_far c d).2, Nat.zero_add] at e1
  have hp : (p 0).val < 128 := (p 0).isLt
  have hc : c.val < 16 := c.isLt
  have ei := in128_eq i p (2 * ((c.val + 8) % 16) + d.toNat) (by omega) e1
  have hd : decide (128 ≤ (i 0).val % 256) = d := by
    cases d with
    | false => exact decide_eq_false (by change (i 0).val = 256 * ((c.val + 8) % 16) + 128 * 0 + (p 0).val at e0; omega)
    | true => exact decide_eq_true (by change (i 0).val = 256 * ((c.val + 8) % 16) + 128 * 1 + (p 0).val at e0; omega)
  have hd1 : d.toNat ≤ 1 := Bool.toNat_le d
  have ed : rowDist c (i 0).val = 8 := by unfold rowDist; omega
  unfold yAt
  rw [ed, if_neg (by omega), if_neg (by omega), if_pos rfl, hd, ei]

/-! ## The products -/

/-- The staged block of `w_mat`, and the share of the staged block of `x` kept for the product. -/
def wPt : sProp 𝕄 := ((wM.view.loc (c : Thread nD τ)) ↦{fullShare} (wstg m ρ c))
def xKeep : sProp 𝕄 := ((xM.view.loc (c : Thread nD τ)) ↦{fullShare.right} (xstg m ρ c))

theorem dotOwn_spec (R : ℕ → Prop) (Q : F .f32 → sProp 𝕄) :
    iprop((xKeep m ρ c ∗ wPt m ρ c ∗ outPt m ρ c R)
      ∗ ((xKeep m ρ c ∗ wPt m ρ c ∗ outPt m ρ c (fun row => R row ∨ (256 * c.val ≤ row ∧ row < 256 * c.val + 256))) -∗ Q (amax256 (yOwn m ρ c))))
      ⊢ WP c (dotOwnP c) Q := by
  unfold xKeep wPt outPt dotOwnP yOwn
  simp only [Prog.lift, Prog.bind_op, Prog.bind_ret, Prog.pure_eq_ret]
  iintro ⟨⟨Hx, Hw, ⟨%f, %hf, Ho⟩⟩, Hk⟩
  iapply (wp_load 𝒱₀ (c : Thread nD τ) none Set.univ (m := xM) (Finset.subset_univ _)) $$ Hx; iintro Hx
  rw [load_x]
  iapply (wp_load 𝒱₀ (c : Thread nD τ) none Set.univ (m := wM) (Finset.subset_univ _)) $$ Hw; iintro Hw
  rw [load_w]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x128) (k0_off1 c) S256x128.size (k0_off1_inb c))
    (Mk := Finset.univ) (Finset.subset_univ _)) $$ Ho; iintro Ho
  simp only [wp_ret]
  imodintro
  iapply Hk
  isplitl [Hx]; · iexact Hx
  isplitl [Hw]; · iexact Hw
  iexists _
  isplitr [Ho]; rotate_left; · iexact Ho
  ipureintro
  intro i hi
  exact store_known m ρ c (k0_off1 c) S256x128.size (k0_off1_inb c) (off_own c).2 rfl f _ R hf (yAt_own m ρ c) i
    (by rw [(off_own c).1]; exact hi)

theorem dot_spec (d : Bool) (r : Fin 7) (acc : F .f32) (R : ℕ → Prop) (Q : F .f32 → sProp 𝕄) :
    iprop((srcR m ρ d 0 c (r.val + 1) ∗ srcR m ρ d 1 c (r.val + 1) ∗ wPt m ρ c ∗ outPt m ρ c R)
      ∗ ((srcR m ρ d 0 c (r.val + 1) ∗ srcR m ρ d 1 c (r.val + 1) ∗ wPt m ρ c
          ∗ outPt m ρ c (fun row => R row ∨ (256 * (org d (r.val + 1) c).val ≤ row ∧ row < 256 * (org d (r.val + 1) c).val + 256)))
        -∗ Q (Scalar.maximumf acc (amax256 (yHop m ρ c d r.val)))))
      ⊢ WP c (dotP c d r acc) Q := by
  have eo := slotPt_halves d (kf (r.val + 1)) c fullShare.right (XB m ρ d (org d (r.val + 1) c) c)
  unfold srcR wPt outPt dotP yHop
  simp only [Prog.lift, Prog.bind_op, Prog.bind_ret, Prog.pure_eq_ret]
  iintro ⟨⟨H0, H1, Hw, ⟨%f, %hf, Ho⟩⟩, Hk⟩
  ihave Hb := eo.2 $$ [H0 H1]
  · iframe
  unfold slotPt
  iapply (wp_load 𝒱₀ (c : Thread nD τ) none Set.univ (m := bufM d) (load_slot_sub d (kf (r.val + 1)))) $$ Hb; iintro Hb
  rw [load_slot]
  iapply (wp_load 𝒱₀ (c : Thread nD τ) none Set.univ (m := wM) (Finset.subset_univ _)) $$ Hw; iintro Hw
  rw [load_w]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x128) (offOf c d r) S256x128.size (offOf_inb c d r))
    (Mk := Finset.univ) (Finset.subset_univ _)) $$ Ho; iintro Ho
  simp only [wp_ret]
  imodintro
  ihave Hb := eo.1 $$ [Hb]
  · unfold slotPt; iexact Hb
  icases Hb with ⟨H0, H1⟩
  iapply Hk
  isplitl [H0]; · iexact H0
  isplitl [H1]; · iexact H1
  isplitl [Hw]; · iexact Hw
  iexists _
  isplitr [Ho]; rotate_left; · iexact Ho
  ipureintro
  intro i hi
  exact store_known m ρ c (offOf c d r) S256x128.size (offOf_inb c d r) (off_hop c d r).2 rfl f _ R hf (yAt_hop m ρ c d r) i
    (by rw [(off_hop c d r).1]; exact hi)

theorem dotFar_spec (d : Bool) (R : ℕ → Prop) (Q : F .f32 → sProp 𝕄) :
    iprop((halfPt d (kf 8) (farJ d) c fullShare (XB m ρ d (org d 8 c) c) ∗ wPt m ρ c ∗ outPt m ρ c R)
      ∗ ((halfPt d (kf 8) (farJ d) c fullShare (XB m ρ d (org d 8 c) c) ∗ wPt m ρ c
          ∗ outPt m ρ c (fun row => R row ∨ (256 * ((c.val + 8) % 16) + 128 * d.toNat ≤ row ∧ row < 256 * ((c.val + 8) % 16) + 128 * d.toNat + 128)))
        -∗ Q (amax128 (yFar m ρ c d))))
      ⊢ WP c (dotFarP c d) Q := by
  unfold halfPt wPt outPt dotFarP yFar
  simp only [Prog.lift, Prog.bind_op, Prog.bind_ret, Prog.pure_eq_ret]
  iintro ⟨⟨Hb, Hw, ⟨%f, %hf, Ho⟩⟩, Hk⟩
  iapply (wp_load 𝒱₀ (c : Thread nD τ) none Set.univ (m := bufM d) (load_half_sub d (kf 8) (farJ d))) $$ Hb; iintro Hb
  rw [load_half]
  iapply (wp_load 𝒱₀ (c : Thread nD τ) none Set.univ (m := wM) (Finset.subset_univ _)) $$ Hw; iintro Hw
  rw [load_w]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x128) (farOff c d) S128x128.size (farOff_inb c d))
    (Mk := Finset.univ) (Finset.subset_univ _)) $$ Ho; iintro Ho
  simp only [wp_ret]
  imodintro
  iapply Hk
  isplitl [Hb]; · iexact Hb
  isplitl [Hw]; · iexact Hw
  iexists _
  isplitr [Ho]; rotate_left; · iexact Ho
  ipureintro
  intro i hi
  exact store_known m ρ c (farOff c d) S128x128.size (farOff_inb c d) (off_far c d).2 rfl f _ R hf (yAt_far m ρ c d) i
    (by rw [(off_far c d).1]; exact hi)

end Cert.KernelIdeal.Ring

end
-- ==== Proof.Hop.lean ====
/-
A whole hop of the ring, the seven hops one after another, and the far block: from the four lanes with their first
hop on its way to the whole unscaled result, every transfer landed and every source free again.
-/
module

public import proofs.«01_k».proof.Proof.Dots

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD → SemLoc sig → ℕ)
variable (c : Dev nD)

theorem above_mono {ι ι' : ℕ} {l : List Due} (h : ι' ≤ ι) (ha : above ι l = true) : above ι' l = true :=
  List.all_eq_true.mpr fun x hx => decide_eq_true ⟨lt_of_le_of_lt h (above_iff ha x hx).1, (above_iff ha x hx).2⟩
theorem above_right {ι : ℕ} {l l' : List Due} (ha : above ι (l ++ l') = true) : above ι l' = true :=
  List.all_eq_true.mpr fun x hx => decide_eq_true (above_iff ha x (List.mem_append_right _ hx))

/-- The landings, credits and transfers of a hop on one half of both directions. -/
theorem recvB_spec (r : Fin 7) (j : Fin 2) (l : List Due) (hl : above (10 * (r.val + 1) + 5) (sendsDue (r.val + 1) j ++ l) = true)
    (Q : PUnit → sProp 𝕄) :
    iprop(recs m ρ K ∗ Ow c (sendsDue (r.val + 1) j ++ l) ∗ (L0 m ρ false j c r.val ∗ L0 m ρ true j c r.val)
      ∗ ((Ow c l ∗ L3 m ρ false j c r.val ∗ L3 m ρ true j c r.val) -∗ Q ⟨⟩))
      ⊢ WP c (recvB c r j) Q := by
  have h1 := above_mono (ι' := 10 * r.val + 10) (by omega) hl
  have e : sendsDue (r.val + 1) j ++ l = sendDue false (r.val + 1) j ++ (sendDue true (r.val + 1) j ++ l) := List.append_assoc _ _ _
  rw [e] at hl h1 ⊢
  unfold recvB
  simp only [wp_bind]
  iintro ⟨#HR, HO, ⟨Hf, Ht⟩, Hk⟩
  iapply (recv_stage m ρ K false j c r _ h1)
  isplitr; · iexact HR
  isplitl [HO]; · iexact HO
  isplitl [Hf]; · iexact Hf
  iintro ⟨HO, Hf⟩
  iapply (recv_stage m ρ K true j c r _ h1)
  isplitr; · iexact HR
  isplitl [HO]; · iexact HO
  isplitl [Ht]; · iexact Ht
  iintro ⟨HO, Ht⟩
  iapply (credit_stage m ρ K false j c r _ hl)
  isplitr; · iexact HR
  isplitl [HO]; · iexact HO
  isplitl [Hf]; · iexact Hf
  iintro ⟨HO, Hf⟩
  iapply (credit_stage m ρ K true j c r _ hl)
  isplitr; · iexact HR
  isplitl [HO]; · iexact HO
  isplitl [Ht]; · iexact Ht
  iintro ⟨HO, Ht⟩
  iapply (hop_stage m ρ K false j c r _)
  isplitr; · iexact HR
  isplitl [HO]; · iexact HO
  isplitl [Hf]; · iexact Hf
  iintro ⟨HO, Hf⟩
  iapply (hop_stage m ρ K true j c r _)
  isplitr; · iexact HR
  isplitl [HO]; · iexact HO
  isplitl [Ht]; · iexact Ht
  iintro ⟨HO, Ht⟩
  iapply Hk
  iframe

theorem free_stage' (d : Bool) (j : Fin 2) (r : Fin 7) (l : List Due) (hl : above 0 (creditDue d (r.val + 2) j ++ l) = true) (Q : PUnit → sProp 𝕄) :
    iprop(recs m ρ K ∗ Ow c (creditDue d (r.val + 2) j ++ l) ∗ L3 m ρ d j c r.val ∗ ((Ow c l ∗ L0 m ρ d j c (r.val + 1)) -∗ Q ⟨⟩))
      ⊢ WP c (waitSendP d r.val j) (fun _ => WP c (if r.val = 0 then pure ⟨⟩ else creditP c d (r.val + 2) j) Q) := by
  have h := free_stage m ρ K d j c r l hl Q
  simp only [wp_bind] at h
  exact h

theorem freeB_eq (r : Fin 7) (j : Fin 2) : freeB (F := F) c r j
    = (waitSendP false r.val j >>= fun _ => (if r.val = 0 then pure ⟨⟩ else creditP c false (r.val + 2) j) >>= fun _ =>
        waitSendP true r.val j >>= fun _ => (if r.val = 0 then pure ⟨⟩ else creditP c true (r.val + 2) j)) := by
  unfold freeB
  by_cases h : r.val = 0
  · simp only [if_pos h]; rfl
  · simp only [if_neg h]

/-- The releases of a hop on one half of both directions. -/
theorem freeB_spec (r : Fin 7) (j : Fin 2) (l : List Due) (hl : above 0 (creditsDue (r.val + 2) j ++ l) = true)
    (Q : PUnit → sProp 𝕄) :
    iprop(recs m ρ K ∗ Ow c (creditsDue (r.val + 2) j ++ l) ∗ (L3 m ρ false j c r.val ∗ L3 m ρ true j c r.val)
      ∗ ((Ow c l ∗ L0 m ρ false j c (r.val + 1) ∗ L0 m ρ true j c (r.val + 1)) -∗ Q ⟨⟩))
      ⊢ WP c (freeB c r j) Q := by
  have e : creditsDue (r.val + 2) j ++ l = creditDue false (r.val + 2) j ++ (creditDue true (r.val + 2) j ++ l) := List.append_assoc _ _ _
  rw [e] at hl ⊢
  rw [freeB_eq]
  simp only [wp_bind]
  iintro ⟨#HR, HO, ⟨Hf, Ht⟩, Hk⟩
  iapply (free_stage' m ρ K c false j r _ hl _)
  isplitr; · iexact HR
  isplitl [HO]; · iexact HO
  isplitl [Hf]; · iexact Hf
  iintro ⟨HO, Hf⟩
  iapply (free_stage' m ρ K c true j r _ (above_right hl) _)
  isplitr; · iexact HR
  isplitl [HO]; · iexact HO
  isplitl [Ht]; · iexact Ht
  iintro ⟨HO, Ht⟩
  iapply Hk
  iframe

/-- The landed block of a hop may be read and is then put back. -/
theorem L3_src (d : Bool) (j : Fin 2) (r : ℕ) :
    L3 m ρ d j c r ⊢ iprop(srcR m ρ d j c (r + 1) ∗ (srcR m ρ d j c (r + 1) -∗ L3 m ρ d j c r)) := by
  unfold L3
  iintro ⟨H1, H2, H3, H4, H5, H6, H7, H8, H9, H10, H11, H12⟩
  isplitl [H11]; · iexact H11
  iintro H11
  iframe

/-- The rows known after `r` hops: those of the blocks at most `r` places away. -/
def upTo (r : ℕ) (row : ℕ) : Prop := rowDist c row ≤ r ∨ 16 ≤ rowDist c row + r

theorem upTo_step (r : Fin 7) (row : ℕ) (h : row < 4096) (hu : upTo c (r.val + 1) row) :
    (upTo c r.val row ∨ (256 * (org false (r.val + 1) c).val ≤ row ∧ row < 256 * (org false (r.val + 1) c).val + 256))
      ∨ (256 * (org true (r.val + 1) c).val ≤ row ∧ row < 256 * (org true (r.val + 1) c).val + 256) := by
  have hc : c.val < 16 := c.isLt
  have hr := r.isLt
  have e1 : (org false (r.val + 1) c).val = (c.val + (r.val + 1) * 15) % 16 := rfl
  have e2 : (org true (r.val + 1) c).val = (c.val + (r.val + 1) * 1) % 16 := rfl
  rw [e1, e2]
  unfold upTo rowDist at *
  omega

/-- What is held before hop `r + 1`'s products. -/
def HInv (r : ℕ) : sProp 𝕄 :=
  iprop(Ow c (dueH r) ∗ (L0 m ρ false 0 c r ∗ L0 m ρ true 0 c r) ∗ (L0 m ρ false 1 c r ∗ L0 m ρ true 1 c r)
    ∗ wPt m ρ c ∗ outPt m ρ c (upTo c r))

theorem dues_above (r : Fin 7) : above (10 * (r.val + 1) + 5) (dueH r.val) = true := by revert r; decide +kernel

theorem hop_spec (r : Fin 7) (Q : F .f32 → sProp 𝕄) :
    iprop(recs m ρ K ∗ HInv m ρ c r.val ∗ (HInv m ρ c (r.val + 1) -∗ Q (accAt m ρ c (r.val + 1))))
      ⊢ WP c (hopB c r (accAt m ρ c r.val)) Q := by
  have ha := dues_above r
  have e : dueH r.val = sendsDue (r.val + 1) 0 ++ (sendsDue (r.val + 1) 1 ++ (creditsDue (r.val + 2) 0 ++ (creditsDue (r.val + 2) 1 ++ dueH (r.val + 1)))) := by
    rw [dueH_succ]; simp only [List.append_assoc]
  rw [e] at ha
  have ha1 := above_right ha
  have ha2 := above_mono (ι' := 0) (Nat.zero_le _) (above_right ha1)
  have eA : accAt m ρ c (r.val + 1) = Scalar.maximumf (Scalar.maximumf (accAt m ρ c r.val) (amax256 (yHop m ρ c false r.val))) (amax256 (yHop m ρ c true r.val)) := rfl
  rw [eA]
  unfold HInv hopB
  rw [e]
  simp only [wp_bind]
  iintro ⟨#HR, ⟨HO, H0, H1, Hw, Ho⟩, Hk⟩
  iapply (recvB_spec m ρ K c r 0 _ ha)
  isplitr; · iexact HR
  isplitl [HO]; · iexact HO
  isplitl [H0]; · iexact H0
  iintro ⟨HO, Hf0, Ht0⟩
  iapply (recvB_spec m ρ K c r 1 _ ha1)
  isplitr; · iexact HR
  isplitl [HO]; · iexact HO
  isplitl [H1]; · iexact H1
  iintro ⟨HO, Hf1, Ht1⟩
  ihave Hf0 := (L3_src m ρ c false 0 r.val) $$ Hf0
  icases Hf0 with ⟨Hsf0, Hbf0⟩
  ihave Hf1 := (L3_src m ρ c false 1 r.val) $$ Hf1
  icases Hf1 with ⟨Hsf1, Hbf1⟩
  iapply (dot_spec m ρ c false r _ _)
  isplitl [Hsf0 Hsf1 Hw Ho]; · iframe
  iintro ⟨Hsf0, Hsf1, Hw, Ho⟩
  ihave Hf0 := Hbf0 $$ Hsf0
  ihave Hf1 := Hbf1 $$ Hsf1
  ihave Ht0 := (L3_src m ρ c true 0 r.val) $$ Ht0
  icases Ht0 with ⟨Hst0, Hbt0⟩
  ihave Ht1 := (L3_src m ρ c true 1 r.val) $$ Ht1
  icases Ht1 with ⟨Hst1, Hbt1⟩
  iapply (dot_spec m ρ c true r _ _)
  isplitl [Hst0 Hst1 Hw Ho]; · iframe
  iintro ⟨Hst0, Hst1, Hw, Ho⟩
  ihave Ht0 := Hbt0 $$ Hst0
  ihave Ht1 := Hbt1 $$ Hst1
  iapply (freeB_spec m ρ K c r 0 _ ha2)
  isplitr; · iexact HR
  isplitl [HO]; · iexact HO
  isplitl [Hf0 Ht0]; · iframe
  iintro ⟨HO, Hf0, Ht0⟩
  iapply (freeB_spec m ρ K c r 1 _ (above_right ha2))
  isplitr; · iexact HR
  isplitl [HO]; · iexact HO
  isplitl [Hf1 Ht1]; · iframe
  iintro ⟨HO, Hf1, Ht1⟩
  simp only [Prog.pure_eq_ret, wp_ret]
  imodintro
  iapply Hk
  isplitl [HO]; · iexact HO
  isplitl [Hf0 Ht0]; · iframe
  isplitl [Hf1 Ht1]; · iframe
  isplitl [Hw]; · iexact Hw
  iapply (outPt_mono m ρ c (fun row h hu => upTo_step c r row h hu)) $$ Ho

theorem hops_from (n : ℕ) (hn : n ≤ 7) (Q : F .f32 → sProp 𝕄) :
    iprop(recs m ρ K ∗ HInv m ρ c (7 - n) ∗ (HInv m ρ c 7 -∗ Q (accAt m ρ c 7)))
      ⊢ WP c (hopsB c ((List.finRange 7).drop (7 - n)) (accAt m ρ c (7 - n))) Q := by
  induction n with
  | zero =>
    rw [show (List.finRange 7).drop (7 - 0) = [] from rfl]
    unfold hopsB
    iintro ⟨-, H, Hk⟩
    simp only [Prog.pure_eq_ret, wp_ret]
    imodintro
    iapply Hk $$ H
  | succ n ih =>
    have hlt : 7 - (n + 1) < (List.finRange 7).length := by rw [List.length_finRange]; omega
    rw [List.drop_eq_getElem_cons hlt, List.getElem_finRange]
    unfold hopsB
    simp only [wp_bind]
    iintro ⟨#HR, H, Hk⟩
    iapply (hop_spec m ρ K c ⟨7 - (n + 1), by omega⟩)
    isplitr; · iexact HR
    isplitl [H]; · iexact H
    have e : 7 - (n + 1) + 1 = 7 - n := by omega
    have ih' := ih (by omega)
    rw [← e] at ih'
    iintro H
    iapply ih'
    isplitr; · iexact HR
    isplitl [H]; · iexact H
    iexact Hk

theorem hops_spec (Q : F .f32 → sProp 𝕄) :
    iprop(recs m ρ K ∗ HInv m ρ c 0 ∗ (HInv m ρ c 7 -∗ Q (accAt m ρ c 7)))
      ⊢ WP c (hopsB c [0, 1, 2, 3, 4, 5, 6] (accAt m ρ c 0)) Q := by
  have h := hops_from m ρ K c 7 le_rfl Q
  rw [Nat.sub_self, List.drop_zero, show List.finRange 7 = [0, 1, 2, 3, 4, 5, 6] by decide] at h
  exact h

/-! ## The end of a lane -/

/-- A lane past its last hop: its positions, its three halves, the permissions kept, and the share of the staged block. -/
def LEnd (d : Bool) (j : Fin 2) (k : ℕ) : sProp 𝕄 :=
  iprop((P3 (atR d j c) (nh d j) ∗ P3 (atS d j c) (nh d j) ∗ P3 (atC d j c) (nh d j))
    ∗ (halfAny (F := F) d 0 j c ∗ halfAny (F := F) d 1 j c ∗ halfAny (F := F) d 2 j c) ∗ keepA d j c k ∗ xPt m ρ d j c)

theorem end_short (d : Bool) (j : Fin 2) (hn : nh d j = 7) : L0 m ρ d j c 7 ⊢ LEnd m ρ c d j 7 := by
  have ekH : keepH (F := F) d j c (7 - 1) = iprop(halfAny d 2 j c ∗ halfAny d 0 j c ∗ emp) := by
    unfold keepH; rw [hn]; rfl
  have es : sentS m ρ d j c 7 = halfPt d (kf 7) j c fullShare.left (XB m ρ d (org d 7 c) c) := by
    unfold sentS; rw [if_neg (by omega)]
  unfold L0 LEnd posL
  rw [hn, ekH, es, Nat.min_eq_right (show 7 ≤ 7 + 1 by omega)]
  iintro ⟨⟨Hp1, Hp2, Hp3⟩, -, Hs, -, -, ⟨Hh2, Hh0, -⟩, HkA, Hsr, Hx⟩
  isplitl [Hp1 Hp2 Hp3]; · iframe
  isplitl [Hh2 Hh0 Hs Hsr]
  · isplitl [Hh0]; · iexact Hh0
    isplitl [Hs Hsr]
    · have h : iprop(halfPt d (kf 7) j c fullShare.left (XB m ρ d (org d 7 c) c) ∗ halfPt d (kf 7) j c fullShare.right (XB m ρ d (org d 7 c) c)) ⊢ halfAny d 1 j c :=
        BI.Entails.trans (halfPt_shares d (kf 7) j c fullShare (XB m ρ d (org d 7 c) c)).2 (halfAny_of d j c _ _)
      iapply h
      isplitl [Hs]; · iexact Hs
      unfold srcR; iexact Hsr
    iexact Hh2
  isplitl [HkA]; · iexact HkA
  unfold xBack; iexact Hx

/-- What stays aside while the far half block is worked on. -/
def LFar (d : Bool) (j : Fin 2) : sProp 𝕄 :=
  iprop((P3 (atR d j c) 8 ∗ P3 (atS d j c) 7 ∗ P3 (atC d j c) 8) ∗ crS d j c 7 ∗ srcR m ρ d j c 7
    ∗ halfAny (F := F) d 0 j c ∗ keepA d j c 8 ∗ xPt m ρ d j c)

theorem far_recv (d : Bool) (j : Fin 2) (hn : nh d j = 8) (l : List Due) (hl : above 80 l = true) (Q : PUnit → sProp 𝕄) :
    iprop(recs m ρ K ∗ Ow c l ∗ L0 m ρ d j c 7
      ∗ ((Ow c l ∗ LFar m ρ c d j ∗ halfPt d (kf 8) j c fullShare (XB m ρ d (org d 8 c) c)) -∗ Q ⟨⟩))
      ⊢ WP c (waitRecvP d 7 j) Q := by
  have ekH : keepH (F := F) d j c (7 - 1) = iprop(halfAny d 0 j c ∗ emp) := by
    unfold keepH; rw [hn]; rfl
  have es : sentS m ρ d j c 7 = crS d j c 7 := by unfold sentS; rw [if_pos (by omega)]
  unfold L0 LFar posL tokL
  rw [ekH, es, Nat.min_eq_right (show nh d j ≤ 7 + 1 by omega), hn]
  iintro ⟨#HR, HO, ⟨⟨Hp1, Hp2, Hp3⟩, ⟨-, -, Ht3, -⟩, Hs, -, -, ⟨Hh0, -⟩, HkA, Hsr, Hx⟩, Hk⟩
  iapply (waitRecv_spec m ρ K d j c 7 (by omega) l hl)
  isplitr; · iexact HR
  isplitl [HO Hp1 Ht3]
  · rw [hn]; iframe
  unfold rcvPay
  iintro ⟨HO, Hp1, -, Hh, -, Hprm⟩
  ihave Hprm := (prm_next d j 7 (by omega) (org d (7 + 1) c)) $$ Hprm
  icases Hprm with ⟨Hp, -⟩
  ihave HkA := (keepA_succ d j c 7) $$ [HkA Hp]
  · isplitl [HkA]; · iexact HkA
    iexact Hp
  iapply Hk
  isplitl [HO]; · iexact HO
  isplitr [Hh]; rotate_left; · iexact Hh
  isplitl [Hp1 Hp2 Hp3]; · iframe
  isplitl [Hs]; · iexact Hs
  isplitl [Hsr]; · iexact Hsr
  isplitl [Hh0]; · iexact Hh0
  isplitl [HkA]; · iexact HkA
  unfold xBack; iexact Hx

theorem far_send (d : Bool) (j : Fin 2) (hn : nh d j = 8) (l : List Due) (hl : above 0 l = true) (Q : PUnit → sProp 𝕄) :
    iprop(recs m ρ K ∗ Ow c l ∗ (LFar m ρ c d j ∗ halfPt d (kf 8) j c fullShare (XB m ρ d (org d 8 c) c))
      ∗ ((Ow c l ∗ LEnd m ρ c d j 8) -∗ Q ⟨⟩))
      ⊢ WP c (waitSendP d 7 j) Q := by
  unfold LFar LEnd
  rw [hn]
  iintro ⟨#HR, HO, ⟨⟨⟨Hp1, Hp2, Hp3⟩, Hs, Hsr, Hh0, HkA, Hx⟩, Hh⟩, Hk⟩
  iapply (waitSend_spec m ρ K d j c 7 (by omega) l hl)
  isplitr; · iexact HR
  isplitl [HO Hp2 Hs]; · iframe
  unfold sndPay
  iintro ⟨HO, Hp2, Hl⟩
  iapply Hk
  isplitl [HO]; · iexact HO
  isplitl [Hp1 Hp2 Hp3]; · iframe
  isplitl [Hh0 Hl Hsr Hh]
  · isplitl [Hh0]; · iexact Hh0
    isplitl [Hl Hsr]
    · have h : iprop(halfPt d (kf 7) j c fullShare.left (XB m ρ d (org d 7 c) c) ∗ halfPt d (kf 7) j c fullShare.right (XB m ρ d (org d 7 c) c)) ⊢ halfAny d 1 j c :=
        BI.Entails.trans (halfPt_shares d (kf 7) j c fullShare (XB m ρ d (org d 7 c) c)).2 (halfAny_of d j c _ _)
      iapply h
      isplitl [Hl]; · iexact Hl
      unfold srcR; iexact Hsr
    have h : halfPt d (kf 8) j c fullShare (XB m ρ d (org d 8 c) c) ⊢ halfAny d 2 j c := halfAny_of d j c _ _
    iapply h $$ Hh
  iframe

/-- All rows of the unscaled result are known after the far block. -/
theorem upTo_all (row : ℕ) (h : row < 4096) :
    (upTo c 7 row ∨ (256 * ((c.val + 8) % 16) + 128 * false.toNat ≤ row ∧ row < 256 * ((c.val + 8) % 16) + 128 * false.toNat + 128))
      ∨ (256 * ((c.val + 8) % 16) + 128 * true.toNat ≤ row ∧ row < 256 * ((c.val + 8) % 16) + 128 * true.toNat + 128) := by
  have hc : c.val < 16 := c.isLt
  show (_ ∨ (256 * ((c.val + 8) % 16) + 128 * 0 ≤ row ∧ row < 256 * ((c.val + 8) % 16) + 128 * 0 + 128))
      ∨ (256 * ((c.val + 8) % 16) + 128 * 1 ≤ row ∧ row < 256 * ((c.val + 8) % 16) + 128 * 1 + 128)
  unfold upTo rowDist
  omega

/-- What is held once the unscaled result is whole. -/
def FarEnd : sProp 𝕄 :=
  iprop(Ow c (dueA 0) ∗ (LEnd m ρ c false 0 8 ∗ LEnd m ρ c true 0 7) ∗ (LEnd m ρ c false 1 7 ∗ LEnd m ρ c true 1 8)
    ∗ wPt m ρ c ∗ outPt m ρ c (fun _ => True))

theorem dueH_seven : dueH 7 = dueA 0 := rfl
theorem dueA_above : above 80 (dueA 0) = true := by decide +kernel

theorem far_spec (Q : F .f32 → sProp 𝕄) :
    iprop(recs m ρ K ∗ HInv m ρ c 7 ∗ (FarEnd m ρ c -∗ Q (amaxV m ρ c)))
      ⊢ WP c (farB c (accAt m ρ c 7)) Q := by
  have ha := dueA_above
  unfold HInv FarEnd farB amaxV
  rw [dueH_seven]
  simp only [wp_bind]
  iintro ⟨#HR, ⟨HO, ⟨Hf0, Ht0⟩, ⟨Hf1, Ht1⟩, Hw, Ho⟩, Hk⟩
  iapply (far_recv m ρ K c false 0 rfl _ ha)
  isplitr; · iexact HR
  isplitl [HO]; · iexact HO
  isplitl [Hf0]; · iexact Hf0
  iintro ⟨HO, Hf0, Hhf⟩
  iapply (dotFar_spec m ρ c false _)
  isplitl [Hhf Hw Ho]
  · isplitl [Hhf]; · iexact Hhf
    iframe
  iintro ⟨Hhf, Hw, Ho⟩
  iapply (far_recv m ρ K c true 1 rfl _ ha)
  isplitr; · iexact HR
  isplitl [HO]; · iexact HO
  isplitl [Ht1]; · iexact Ht1
  iintro ⟨HO, Ht1, Hht⟩
  iapply (dotFar_spec m ρ c true _)
  isplitl [Hht Hw Ho]
  · isplitl [Hht]; · iexact Hht
    iframe
  iintro ⟨Hht, Hw, Ho⟩
  iapply (far_send m ρ K c false 0 rfl _ (above_mono (Nat.zero_le _) ha))
  isplitr; · iexact HR
  isplitl [HO]; · iexact HO
  isplitl [Hf0 Hhf]
  · isplitl [Hf0]; · iexact Hf0
    iexact Hhf
  iintro ⟨HO, Hf0⟩
  iapply (far_send m ρ K c true 1 rfl _ (above_mono (Nat.zero_le _) ha))
  isplitr; · iexact HR
  isplitl [HO]; · iexact HO
  isplitl [Ht1 Hht]
  · isplitl [Ht1]; · iexact Ht1
    iexact Hht
  iintro ⟨HO, Ht1⟩
  simp only [Prog.pure_eq_ret, wp_ret]
  imodintro
  iapply Hk
  isplitl [HO]; · iexact HO
  isplitl [Hf0 Ht0]
  · isplitl [Hf0]; · iexact Hf0
    iapply (end_short m ρ c true 0 rfl) $$ Ht0
  isplitl [Hf1 Ht1]
  · isplitl [Hf1]; · iapply (end_short m ρ c false 1 rfl) $$ Hf1
    iexact Ht1
  isplitl [Hw]; · iexact Hw
  iapply (outPt_mono m ρ c (fun row h _ => upTo_all c row h)) $$ Ho

end Cert.KernelIdeal.Ring

end
-- ==== Proof.Exch.lean ====
/-
The two ends of the body: the handshake with the first hop of every lane, and the exchange of the maxima with the
rescaling of the result.
-/
module

public import proofs.«01_k».proof.Proof.Hop

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD → SemLoc sig → ℕ)
variable (c : Dev nD)

/-! ## The start -/

/-- What a lane starts from, but for the halves the handshake brings. -/
def LPre (d : Bool) (j : Fin 2) : sProp 𝕄 :=
  iprop(posL d j c 0 0 1 ∗ tokL d j c 0 2 0 1 ∗ xPt m ρ d j c ∗ prm (trL d j 0) c)

theorem lpre_init (d : Bool) (j : Fin 2) : iprop(LPre m ρ c d j ∗ dsts d j 0 c) ⊢ LInit m ρ d j c := by
  unfold LPre LInit
  iintro ⟨⟨H1, H2, H3, H4⟩, H5⟩
  iframe

/-- What the handshake spends: the tokens of both signals, the neighbours' payments (the own halves), the promise of
two payments and the position at the own barrier semaphore. -/
def BarPre : sProp 𝕄 :=
  iprop((dutyTok ER (cell (prv false c) (.reg barS)) 0 false ∗ dutyTok ER (cell (prv true c) (.reg barS)) 0 true)
    ∗ (barPay (F := F) false (prv false c) ∗ barPay (F := F) true (prv true c))
    ∗ cred (tallyAt (cell c (.reg barS)) 1 2) ∗ atPos ER (cell c (.reg barS)) 0 ∅ 0)

def StartPre : sProp 𝕄 :=
  iprop(Ow c due0 ∗ BarPre c ∗ (LPre m ρ c false 0 ∗ LPre m ρ c true 0) ∗ (LPre m ρ c false 1 ∗ LPre m ρ c true 1))

theorem due1_eq : due1 = sendDue false 0 0 ++ (sendDue true 0 0 ++ (sendDue false 0 1 ++ (sendDue true 0 1 ++ dueH 0))) := by
  unfold due1 sendsDue; simp only [List.append_assoc]
theorem due1_above : above 1 due1 = true := by decide +kernel

/-- The wait for both neighbours. -/
theorem bar_wait (l : List Due) (hl : above 1 l = true) (Q : PUnit → sProp 𝕄) :
    iprop(recs m ρ K ∗ Ow c l ∗ cred (tallyAt (cell c (.reg barS)) 1 2) ∗ atPos ER (cell c (.reg barS)) 0 ∅ 0
      ∗ ((Ow c l ∗ atPos ER (cell c (.reg barS)) 1 ∅ 0 ∗ barPay false c ∗ barPay true c) -∗ Q ⟨⟩))
      ⊢ WP c (semWaitWord barS 2#32) Q := by
  unfold Ow semWaitWord
  iintro ⟨#HR, ⟨%W, HO⟩, Hc, Ha, Hk⟩
  ihave #HI := (inv_at m ρ K c (.reg barS) kind_ne_bar) $$ HR
  have hw' : recs m ρ K ⊢ MayWait (c : Thread nD τ) (.reg barS) 1 (tly c l) :=
    BI.Entails.trans (recs_lev m ρ K) (mayW (F := F) c (.reg barS) 1 l (by omega) (above_iff hl))
  iapply (Rounds.wp_wait_rest_token 𝒱₀ ER (ringRd m ρ) (c : Thread nD τ) none (κ := K c (.reg barS)) (k' := (2#32).toNat)
      (wpE_semWait_eq 𝒱₀ (c : Thread nD τ) none Set.univ) (Set.mem_univ _) 1 (O := tly c l) (W := W) (R := 0) (m := 0) (T := ∅)
      (by rw [Nat.zero_add, bar_expect]; rfl)) $$ [Hc HO Ha]
  · isplitr; · iexact HI
    isplitl [Hc]; · iexact Hc
    isplitl [HO]; · iexact HO
    isplitr; · iapply hw' $$ HR
    iexact Ha
  iintro ⟨HO, Ha, -, Hp⟩
  ihave Hp := (Entails.of_eq (bar_rest m ρ c)) $$ Hp
  icases Hp with ⟨Hp1, Hp2⟩
  simp only [wp_ret]
  imodintro
  iapply Hk
  isplitl [HO]; · iexists _; iexact HO
  iframe

theorem bar_duty (b : Bool) : b ∈ dutyK (kindOf (.reg barS)) 0 := by
  rw [kind_bar]; exact Finset.mem_univ b

theorem start_spec (Q : PUnit → sProp 𝕄) :
    iprop(recs m ρ K ∗ StartPre m ρ c
      ∗ ((Ow c (dueH 0) ∗ atPos ER (cell c (.reg barS)) 1 ∅ 0 ∗ (L0 m ρ false 0 c 0 ∗ L0 m ρ true 0 c 0)
          ∗ (L0 m ρ false 1 c 0 ∗ L0 m ρ true 1 c 0)) -∗ Q ⟨⟩))
      ⊢ WP c (startB c) Q := by
  unfold StartPre BarPre startB
  simp only [wp_bind]
  iintro ⟨#HR, ⟨HO, ⟨⟨Ht1, Ht2⟩, ⟨Hb1, Hb2⟩, Hc, Ha⟩, ⟨Hf0, Hg0⟩, ⟨Hf1, Hg1⟩⟩, Hk⟩
  iapply (signal_spec m ρ K c (sft true) (devAt c 1) (dev_bar1 c) barS 1 kind_ne_bar amt_bar 0 false (bar_duty false)
    ((.reg barS, sft false, 1) :: due1))
  isplitr; · iexact HR
  isplitl [HO]; · unfold due0; iexact HO
  isplitl [Ht1]; · unfold prv; iexact Ht1
  isplitl [Hb1]; · iapply (Entails.of_eq (pay_bar m ρ (sh (sft true) c) 0 false).symm); unfold prv; iexact Hb1
  isplitr; · iapply (reached_at m ρ K _ _ kind_ne_bar) $$ HR
  iintro HO
  iapply (signal_spec m ρ K c (sft false) (devAt c 2) (dev_bar2 c) barS 1 kind_ne_bar amt_bar 0 true (bar_duty true) due1)
  isplitr; · iexact HR
  isplitl [HO]; · iexact HO
  isplitl [Ht2]; · unfold prv; iexact Ht2
  isplitl [Hb2]; · iapply (Entails.of_eq (pay_bar m ρ (sh (sft false) c) 0 true).symm); unfold prv; iexact Hb2
  isplitr; · iapply (reached_at m ρ K _ _ kind_ne_bar) $$ HR
  iintro HO
  iapply (bar_wait m ρ K c due1 due1_above)
  isplitr; · iexact HR
  isplitl [HO]; · iexact HO
  isplitl [Hc]; · iexact Hc
  isplitl [Ha]; · iexact Ha
  unfold barPay
  iintro ⟨HO, Ha, ⟨Hd1, Hd2⟩, ⟨Hd3, Hd4⟩⟩
  ihave HO := (Entails.of_eq (congrArg (Ow (F := F) c) due1_eq)) $$ HO
  iapply (init_stage m ρ K false 0 c _)
  isplitr; · iexact HR
  isplitl [HO]; · iexact HO
  isplitl [Hf0 Hd1]; · iapply (lpre_init m ρ c false 0); iframe
  iintro ⟨HO, Hf0⟩
  iapply (init_stage m ρ K true 0 c _)
  isplitr; · iexact HR
  isplitl [HO]; · iexact HO
  isplitl [Hg0 Hd3]; · iapply (lpre_init m ρ c true 0); iframe
  iintro ⟨HO, Hg0⟩
  iapply (init_stage m ρ K false 1 c _)
  isplitr; · iexact HR
  isplitl [HO]; · iexact HO
  isplitl [Hf1 Hd2]; · iapply (lpre_init m ρ c false 1); iframe
  iintro ⟨HO, Hf1⟩
  iapply (init_stage m ρ K true 1 c _)
  isplitr; · iexact HR
  isplitl [HO]; · iexact HO
  isplitl [Hg1 Hd4]; · iapply (lpre_init m ρ c true 1); iframe
  iintro ⟨HO, Hg1⟩
  iapply Hk
  iframe

/-! ## The exchange -/

/-- A list of programs run one after the other. -/
theorem seqP_spec {ι : Type} (f : ι → PG F PUnit) (Pre Post : ι → sProp 𝕄) (D : List ι → sProp 𝕄)
    (h : ∀ (i : ι) (l : List ι) (Q : PUnit → sProp 𝕄), iprop(recs m ρ K ∗ (D (i :: l) ∗ Pre i) ∗ ((D l ∗ Post i) -∗ Q ⟨⟩)) ⊢ WP c (f i) Q)
    (l : List ι) (Q : PUnit → sProp 𝕄) :
    iprop(recs m ρ K ∗ (D l ∗ sepL Pre l) ∗ ((D [] ∗ sepL Post l) -∗ Q ⟨⟩)) ⊢ WP c (seqP f l) Q := by
  induction l generalizing Q with
  | nil =>
    unfold seqP sepL
    iintro ⟨-, ⟨HD, -⟩, Hk⟩
    simp only [Prog.pure_eq_ret, wp_ret]
    imodintro
    iapply Hk
    isplitl [HD]; · iexact HD
    iempintro
  | cons i l ih =>
    unfold seqP sepL
    simp only [wp_bind]
    iintro ⟨#HR, ⟨HD, Hp, Hps⟩, Hk⟩
    iapply (h i l _)
    isplitr; · iexact HR
    isplitl [HD Hp]; · iframe
    iintro ⟨HD, Hq⟩
    iapply (ih _)
    isplitr; · iexact HR
    isplitl [HD Hps]; · iframe
    iintro ⟨HD, Hqs⟩
    iapply Hk
    iframe

theorem aoff_ne (i : Fin 15) : aoff i ≠ 0 := by revert i; decide
theorem aoff_back (i : Fin 15) : sh (aoff i).val (sh (i.val + 1) c) = c := by
  rw [sh_sh]
  exact (sh_mod (t := 0) (by have := i.isLt; show (i.val + 1 + (15 - i.val)) % 16 = 0 % 16; omega) c).trans (sh_zero c)

/-- What a transfer of the maximum spends, and the promise it leaves. -/
def asPre (i : Fin 15) : sProp 𝕄 :=
  iprop(asPt m ρ (aoff i) c ∗ aaAny (F := F) (aoff i) (sh (i.val + 1) c) ∗ dutyTok ER (cell c (.dma (asndS (aoff i)))) 0 false
    ∗ dutyTok ER (cell (sh (i.val + 1) c) (.dma (arcvS (aoff i)))) 0 false)
def asCred (i : Fin 15) : sProp 𝕄 := cred (tallyAt (cell c (.dma (asndS (aoff i)))) 0 (amt (.dma (asndS (aoff i)))))
def arCred (i : Fin 15) : sProp 𝕄 := cred (tallyAt (cell c (.dma (arcvS (aoff i)))) 200 (amt (.dma (arcvS (aoff i)))))

theorem as_read (v : F .f32) : asM.view.read (Elt F) (asC v c) = (fun (_ : S8x128.Idx) => v) := rfl

theorem aslot_amount (o : Fin 16) : (aslotM o).view.dmaCredit = NA := rfl

theorem as_amount : asM.view.dmaCredit = NA := rfl

/-- The transfer of the maximum into slot `o` of device `n`. -/
def asendTo (n : Dev nD) (o : Fin 16) : PG F PUnit :=
  Prog.lift (.enqueueDma asM (.remote (Dev.tc n) (aslotM o) (.dma (asndS o))) (.dma (arcvS o)) asM_exact (aslotM_exact _) ⟨⟨rfl, Or.inl rfl⟩, trivial⟩)
theorem asendP_eq (i : Fin 15) : asendP (F := F) c i = asendTo (devAt c (51 + i.val)) (aoff i) := rfl

theorem asend_spec (i : Fin 15) (l : List (Fin 15)) (Q : PUnit → sProp 𝕄) :
    iprop(recs m ρ K ∗ (Ow c ((i :: l).map asendDue) ∗ asPre m ρ c i) ∗ ((Ow c (l.map asendDue) ∗ asCred c i) -∗ Q ⟨⟩))
      ⊢ WP c (asendP c i) Q := by
  have hn := dev_amax c i
  have hb := aoff_back c i
  rw [asendP_eq]
  generalize devAt c (51 + i.val) = n at hn
  subst hn
  unfold Ow asPre asCred aaAny asPt asendTo Prog.lift
  iintro ⟨#HR, ⟨⟨%W, HO⟩, Hsrc, ⟨%fd, Hdst⟩, Ht1, Ht2⟩, Hk⟩
  ihave #HI1 := (inv_at m ρ K c (.dma (asndS (aoff i))) (kind_ne_asnd _)) $$ HR
  ihave #HI2 := (inv_at m ρ K (sh (i.val + 1) c) (.dma (arcvS (aoff i))) (kind_ne_arcv _)) $$ HR
  ihave #Hr1 := (reached_at m ρ K c (.dma (asndS (aoff i))) (kind_ne_asnd _)) $$ HR
  ihave #Hr2 := (reached_at m ρ K (sh (i.val + 1) c) (.dma (arcvS (aoff i))) (kind_ne_arcv _)) $$ HR
  iapply (Rounds.wp_send_pointsTo 𝒱₀ ER (ringRd m ρ) (c : Thread nD τ) none (c' := ((sh (i.val + 1) c : Dev nD) : Thread nD τ))
    (src := asM) (dst := aslotM (aoff i))
    (sS := .dma (asndS (aoff i))) (sem := .dma (arcvS (aoff i))) (q := Transfers.shareTokN fullShare (15 - (aoff i).val))
    (fs := asC (amaxV m ρ c) c) (fd := fd)
    (r₁ := 0) (r₂ := 0) (d₁ := false) (d₂ := false)
    (κ₁ := K c (.dma (asndS (aoff i)))) (κ₂ := K (sh (i.val + 1) c) (.dma (arcvS (aoff i))))
    (by rw [duties_eq, duty_asnd (aoff_ne i)]; exact Finset.mem_singleton_self _)
    (by rw [duties_eq, duty_arcv (aoff_ne i)]; exact Finset.mem_singleton_self _)
    200 0 NA (aslot_amount _) (amt_asnd _) (amt_arcv _) (tly c (l.map asendDue))
    (O₀ := tly c (asendDue i :: l.map asendDue))
    (by
      show tly c (l.map asendDue) + tallyAt (cell (sh (i.val + 1) c) (.dma (arcvS (aoff i)))) 200 (amt (.dma (arcvS (aoff i)))) = _
      rw [amt_arcv]) (W := W)
    (by rw [payload_eq, pay_asnd]; unfold asPt; exact .rfl)
    (by
      rw [payload_eq, pay_arcv, aa_land]
      unfold arcvPay
      rw [hb])) $$ [Hsrc Hdst HO Ht1 Ht2]
  · isplitr; · iexact HI1
    isplitr; · iexact HI2
    isplitl [Hsrc]; · iexact Hsrc
    isplitl [Hdst]; · unfold aaPt; iexact Hdst
    isplitl [HO]; · iexact HO
    isplitl [Ht1]; · iexact Ht1
    isplitr; · iexact Hr1
    isplitl [Ht2]; · iexact Ht2
    iexact Hr2
  iintro ⟨Hc, HO⟩
  simp only [wp_ret]
  imodintro
  iapply Hk
  isplitl [HO]; · iexists W; iexact HO
  rw [amt_asnd]; iexact Hc

/-- The positions at the two semaphores of a transfer, both at round `r`. -/
def atA (r : ℕ) (o : Fin 16) : sProp 𝕄 :=
  iprop(atPos ER (cell c (.dma (asndS o))) r ∅ 0 ∗ atPos ER (cell c (.dma (arcvS o))) r ∅ 0)

theorem await_spec (i : Fin 15) (l : List (Fin 15)) (Q : PUnit → sProp 𝕄) :
    iprop(recs m ρ K ∗ (Ow c [] ∗ (asCred c i ∗ arCred c i ∗ atA c 0 (aoff i)))
      ∗ ((Ow c [] ∗ (asPt m ρ (aoff i) c ∗ arcvPay m ρ (aoff i) c ∗ atA c 1 (aoff i))) -∗ Q ⟨⟩))
      ⊢ WP c (awaitP i) Q := by
  unfold awaitP asCred arCred atA
  simp only [wp_bind]
  iintro ⟨#HR, ⟨HO, Hc1, Hc2, Ha1, Ha2⟩, Hk⟩
  iapply (wait_spec m ρ K c (.dma (asndS (aoff i))) (k' := NA)
    (fun Q => (wpE_waitDma2_eq 𝒱₀ (c : Thread nD τ) none Set.univ Q).trans (by rw [as_amount]))
    (amt_asnd _).symm (kind_ne_asnd _) 0 (duty_asnd (aoff_ne i)) 0 [] (by omega) (fun x hx => absurd hx List.not_mem_nil))
  isplitr; · iexact HR
  isplitl [HO]; · iexact HO
  isplitl [Hc1]; · iexact Hc1
  isplitl [Ha1]; · iexact Ha1
  iintro ⟨HO, Ha1, -, Hp1⟩
  ihave Hp1 := (Entails.of_eq (pay_asnd m ρ c (aoff i) false)) $$ Hp1
  iapply (wait_spec m ρ K c (.dma (arcvS (aoff i))) (k' := NA)
    (fun Q => (wpE_waitDma2_eq 𝒱₀ (c : Thread nD τ) none Set.univ Q).trans (by rw [aslot_amount]))
    (amt_arcv _).symm (kind_ne_arcv _) 0 (duty_arcv (aoff_ne i)) 200 [] (by omega) (fun x hx => absurd hx List.not_mem_nil))
  isplitr; · iexact HR
  isplitl [HO]; · iexact HO
  isplitl [Hc2]; · iexact Hc2
  isplitl [Ha2]; · iexact Ha2
  iintro ⟨HO, Ha2, -, Hp2⟩
  ihave Hp2 := (Entails.of_eq (pay_arcv m ρ c (aoff i) false)) $$ Hp2
  iapply Hk
  iframe

/-! ### The permissions the lanes gathered -/

/-- Which slot of which device (how many places on) a lane's first `k` landings leave a permission for. -/
def permL (d : Bool) (j : Fin 2) (k : ℕ) : List (Fin 16 × ℕ) :=
  (List.range k).flatMap fun h => ((trL d j h).take 1).map fun s => (s, ((h + 1) * sft (!d)) % 16)

def slotOf (x : Fin 16 × ℕ) : sProp 𝕄 := aaAny (F := F) x.1 (sh x.2 c)

theorem sepL_flatMap {α β : Type} (Φ : β → sProp 𝕄) (g : α → List β) (l : List α) :
    sepL (fun a => sepL Φ (g a)) l ⊢ sepL Φ (l.flatMap g) := by
  induction l with
  | nil => exact .rfl
  | cons a l ih =>
    rw [List.flatMap_cons]
    show iprop(sepL Φ (g a) ∗ sepL (fun a => sepL Φ (g a)) l) ⊢ _
    iintro ⟨H, H'⟩
    iapply (sepL_append Φ (g a) (l.flatMap g)).2
    isplitl [H]; · iexact H
    iapply ih $$ H'

theorem keepA_perm (d : Bool) (j : Fin 2) (k : ℕ) : keepA (F := F) d j c k ⊢ sepL (slotOf c) (permL d j k) := by
  refine BI.Entails.trans ?_ (sepL_flatMap (slotOf c) _ _)
  unfold keepA
  refine sepL_mono _ fun h _ => ?_
  rw [sepL_map]
  unfold prm slotOf
  refine sepL_mono _ fun s _ => ?_
  rw [show org d (h + 1) c = sh (((h + 1) * sft (!d)) % 16) c from sh_mod (by omega) c]

theorem perms (Φ : Fin 16 × ℕ → sProp 𝕄) : iprop(sepL Φ (permL false 0 8) ∗ sepL Φ (permL true 1 8))
    ⊢ sepL (fun i : Fin 15 => Φ (aoff i, i.val + 1)) (List.finRange 15) := by
  refine BI.Entails.trans (sepL_append Φ _ _).2 ?_
  rw [← sepL_map Φ (fun i : Fin 15 => (aoff i, i.val + 1))]
  exact sepL_sub Φ _ _ (by decide +kernel) (by decide +kernel) (by decide +kernel)

/-! ### The exchange's source as fifteen shares -/

/-- What of the exchange's source no transfer is lent. -/
def asRest : sProp 𝕄 :=
  ((asM.view.loc (c : Thread nD τ)) ↦{Transfers.shareDrop fullShare 15} (asC (amaxV m ρ c) c))

theorem as_tok (i : Fin 15) : asPt m ρ (aoff i) c
    = ((asM.view.loc (c : Thread nD τ)) ↦{Transfers.shareTokN fullShare i.val} (asC (amaxV m ρ c) c) : sProp 𝕄) := by
  have e : 15 - (aoff i).val = i.val := by have := i.isLt; show 15 - (15 - i.val) = i.val; omega
  have es : asM.view.set = Finset.univ := View.set_whole cc0_scratch8
  unfold asPt
  rw [e, es]

/-- The `i`-th share of the exchange's source. -/
def asTok (i : ℕ) : sProp 𝕄 := ((asM.view.loc (c : Thread nD τ)) ↦{Transfers.shareTokN fullShare i} (asC (amaxV m ρ c) c))

theorem as_list : sepL (fun i : Fin 15 => asPt m ρ (aoff i) c) (List.finRange 15) = sepL (asTok m ρ c) (List.range 15) := by
  rw [show List.range 15 = (List.finRange 15).map Fin.val by decide, sepL_map]
  exact congrArg (fun Φ => sepL Φ (List.finRange 15)) (funext fun i => as_tok m ρ c i)

theorem as_toks : ((asM.view.loc (c : Thread nD τ)) ↦{fullShare} (asC (amaxV m ρ c) c) : sProp 𝕄)
    ⊣⊢ iprop(asRest m ρ c ∗ bigSep (Finset.range 15) (asTok m ρ c)) := Transfers.pointsTo_toks_range fullShare 15

theorem as_split : ((asM.view.loc (c : Thread nD τ)) ↦{fullShare} (asC (amaxV m ρ c) c) : sProp 𝕄)
    ⊢ iprop(asRest m ρ c ∗ sepL (fun i : Fin 15 => asPt m ρ (aoff i) c) (List.finRange 15)) := by
  rw [as_list]
  have h := sepL_of_bigSep (asTok m ρ c) (List.range 15) (Finset.range 15) List.nodup_range fun a ha => Finset.mem_range.mpr (List.mem_range.mp ha)
  iintro H
  ihave H := (as_toks m ρ c).1 $$ H
  icases H with ⟨H, H'⟩
  isplitl [H]; · iexact H
  iapply h $$ H'

theorem as_join : iprop(asRest m ρ c ∗ sepL (fun i : Fin 15 => asPt m ρ (aoff i) c) (List.finRange 15))
    ⊢ ((asM.view.loc (c : Thread nD τ)) ↦{fullShare} (asC (amaxV m ρ c) c) : sProp 𝕄) := by
  rw [as_list]
  have e : Finset.range 15 = (List.range 15).toFinset := Finset.ext fun a => by rw [List.mem_toFinset, List.mem_range, Finset.mem_range]
  have h : sepL (asTok m ρ c) (List.range 15) ⊢ bigSep (Finset.range 15) (asTok m ρ c) := by
    rw [e]
    generalize hl : List.range 15 = l
    exact sepL_toFinset _ l (hl ▸ List.nodup_range)
  iintro ⟨H, H'⟩
  iapply (as_toks m ρ c).2
  isplitl [H]; · iexact H
  iapply h $$ H'

/-! ### The exchange and the rescaling -/

/-- The exchange's source at some contents. -/
def asAny : sProp 𝕄 := iprop(∃ f, (asM.view.loc (c : Thread nD τ)) ↦{fullShare} f)

def ExPre : sProp 𝕄 :=
  iprop(Ow c (dueA 0) ∗ asAny (F := F) c
    ∗ sepL (fun i : Fin 15 => iprop(aaAny (F := F) (aoff i) (sh (i.val + 1) c) ∗ dutyTok ER (cell c (.dma (asndS (aoff i)))) 0 false
        ∗ dutyTok ER (cell (sh (i.val + 1) c) (.dma (arcvS (aoff i)))) 0 false)) (List.finRange 15)
    ∗ sepL (fun i : Fin 15 => iprop(arCred (F := F) c i ∗ atA (F := F) c 0 (aoff i))) (List.finRange 15))
def ExPost : sProp 𝕄 :=
  iprop(Ow c [] ∗ asAny (F := F) c
    ∗ sepL (fun i : Fin 15 => iprop(arcvPay m ρ (aoff i) c ∗ atA (F := F) c 1 (aoff i))) (List.finRange 15))

theorem sepL_unsep {α : Type} (Φ Ψ : α → sProp 𝕄) (l : List α) :
    sepL (fun a => iprop(Φ a ∗ Ψ a)) l ⊢ iprop(sepL Φ l ∗ sepL Ψ l) := by
  induction l with
  | nil => iintro -; isplitl <;> iempintro
  | cons a l ih =>
    show iprop((Φ a ∗ Ψ a) ∗ sepL (fun a => iprop(Φ a ∗ Ψ a)) l) ⊢ iprop((Φ a ∗ sepL Φ l) ∗ (Ψ a ∗ sepL Ψ l))
    iintro ⟨⟨Ha, Hb⟩, Hl⟩
    ihave Hl := ih $$ Hl
    icases Hl with ⟨Hl, Hl'⟩
    isplitl [Ha Hl]
    · isplitl [Ha] <;> iassumption
    · isplitl [Hb] <;> iassumption

theorem exch_spec (Q : PUnit → sProp 𝕄) :
    iprop(recs m ρ K ∗ ExPre c ∗ (ExPost m ρ c -∗ Q ⟨⟩)) ⊢ WP c (exchB c (amaxV m ρ c)) Q := by
  have e0 : dueA 0 = (List.finRange 15).map asendDue := rfl
  unfold ExPre exchB asAny
  rw [e0]
  simp only [Prog.lift, Prog.bind_op, Prog.bind_ret]
  iintro ⟨#HR, ⟨HO, ⟨%f, Has⟩, Hpre, Hpre'⟩, Hk⟩
  iapply (wp_load 𝒱₀ (c : Thread nD τ) none Set.univ (m := asM) (Finset.subset_univ _)) $$ Has; iintro Has
  iapply (wp_store 𝒱₀ (c : Thread nD τ) none Set.univ (m := asM) (r := Rect.unit (s := S8x128) ![0, 0] S8x128.size inb_S8x128_S8x128_0_0)
    (Mk := Finset.univ) (Finset.subset_univ _)) $$ Has; iintro Has
  rw [store_as, as_val _ c]
  simp only [wp_bind]
  ihave Has := (as_split m ρ c) $$ Has
  icases Has with ⟨Hrest, Hass⟩
  ihave Hpre := (sepL_sep (fun i : Fin 15 => asPt m ρ (aoff i) c) _ (List.finRange 15)) $$ [Hass Hpre]
  · isplitl [Hass]; · iexact Hass
    iexact Hpre
  iapply (seqP_spec m ρ K c (asendP c) (asPre m ρ c) (asCred c) (fun l => Ow c (l.map asendDue)) (asend_spec m ρ K c) (List.finRange 15) _)
  isplitr; · iexact HR
  isplitl [HO Hpre]
  · isplitl [HO]; · iexact HO
    unfold asPre; iexact Hpre
  iintro ⟨HO, Hcr⟩
  ihave Hpre := (sepL_sep (fun i : Fin 15 => asCred (F := F) c i) _ (List.finRange 15)) $$ [Hcr Hpre']
  · isplitl [Hcr]; · iexact Hcr
    iexact Hpre'
  iapply (seqP_spec m ρ K c awaitP (fun i => iprop(asCred c i ∗ arCred c i ∗ atA c 0 (aoff i)))
    (fun i => iprop(asPt m ρ (aoff i) c ∗ arcvPay m ρ (aoff i) c ∗ atA c 1 (aoff i))) (fun _ => Ow c []) (await_spec m ρ K c) (List.finRange 15) _)
  isplitr; · iexact HR
  isplitl [HO Hpre]
  · isplitl [HO]; · rw [List.map_nil]; iexact HO
    iexact Hpre
  iintro ⟨HO, Hpost⟩
  ihave Hpost := (sepL_unsep _ _ (List.finRange 15)) $$ Hpost
  icases Hpost with ⟨Hass, Hpost⟩
  iapply Hk
  unfold ExPost asAny
  isplitl [HO]; · iexact HO
  isplitl [Hrest Hass]
  · iexists _
    iapply (as_join m ρ c)
    isplitl [Hrest]; · iexact Hrest
    iexact Hass
  iexact Hpost

/-- The global maximum as device `c` gathers it, and its result. -/
def gMax : F .f32 :=
  ([1, 2, 3, 4, 5, 6, 7, 8, 9, 10, 11, 12, 13, 14, 15] : List (Fin 16)).foldl (fun a o => Scalar.maximumf a (amaxV m ρ (sh o.val c))) (amaxV m ρ c)
def outAt : (cc0_stg2_0 : Ref sig .tc).ty.Contents (Elt F) := scaled (gMax m ρ c) (yAt m ρ c)

theorem foldA_spec (l : List (Fin 16)) (acc : F .f32) (Q : F .f32 → sProp 𝕄) :
    iprop(sepL (fun o => arcvPay m ρ o c) l
      ∗ (sepL (fun o => arcvPay m ρ o c) l -∗ Q (l.foldl (fun a o => Scalar.maximumf a (amaxV m ρ (sh o.val c))) acc)))
      ⊢ WP c (foldA l acc) Q := by
  induction l generalizing acc Q with
  | nil =>
    unfold foldA
    rw [List.foldl_nil]
    iintro ⟨H, Hk⟩
    simp only [Prog.pure_eq_ret, wp_ret]
    imodintro
    iapply Hk $$ H
  | cons o l ih =>
    unfold foldA aloadP sepL
    simp only [Prog.lift, Prog.bind_op, Prog.bind_ret]
    rw [List.foldl_cons]
    iintro ⟨⟨H, Hl⟩, Hk⟩
    unfold arcvPay aaPt
    iapply (wp_load 𝒱₀ (c : Thread nD τ) none Set.univ (m := aaM) (load_aa_sub o)) $$ H; iintro H
    rw [load_aa]
    iapply (ih _ _)
    isplitl [Hl]; · unfold arcvPay aaPt; iexact Hl
    iintro Hl
    iapply Hk
    isplitl [H]; · iexact H
    unfold arcvPay aaPt; iexact Hl

theorem last_spec (Q : PUnit → sProp 𝕄) :
    iprop((outPt m ρ c (fun _ => True) ∗ sepL (fun o => arcvPay m ρ o c) [1, 2, 3, 4, 5, 6, 7, 8, 9, 10, 11, 12, 13, 14, 15])
      ∗ ((((oM.view.loc (c : Thread nD τ)) ↦{fullShare} (outAt m ρ c))
          ∗ sepL (fun o => arcvPay m ρ o c) [1, 2, 3, 4, 5, 6, 7, 8, 9, 10, 11, 12, 13, 14, 15]) -∗ Q ⟨⟩))
      ⊢ WP c (lastB (amaxV m ρ c)) Q := by
  unfold lastB outPt
  simp only [wp_bind]
  iintro ⟨⟨⟨%f, %hf, Ho⟩, Hl⟩, Hk⟩
  have ef : f = yAt m ρ c := funext fun i => hf i trivial
  subst ef
  iapply (foldA_spec m ρ c _ _ _)
  isplitl [Hl]; · iexact Hl
  iintro Hl
  simp only [Prog.lift, wp_ret]
  iapply (wp_load 𝒱₀ (c : Thread nD τ) none Set.univ (m := oM) (Finset.subset_univ _)) $$ Ho; iintro Ho
  simp only [wp_ret]
  imodintro
  rw [load_o]
  iapply (wp_load 𝒱₀ (c : Thread nD τ) none Set.univ (m := oM) (Finset.subset_univ _)) $$ Ho; iintro Ho
  simp only [wp_ret]
  imodintro
  iapply (wp_store 𝒱₀ (c : Thread nD τ) none Set.univ (m := oM) (r := Rect.unit (s := S4096x128) ![0, 0] S4096x128.size inb_S4096x128_S4096x128_0_0)
    (Mk := Finset.univ) (Finset.subset_univ _)) $$ Ho; iintro Ho
  rw [store_o]
  simp only [wp_ret]
  imodintro
  iapply Hk
  isplitl [Ho]; · unfold outAt gMax; iexact Ho
  iexact Hl

end Cert.KernelIdeal.Ring

end
-- ==== Proof.Body.lean ====
/-
The whole body on one device: from its staged blocks, its scratch buffers and its part of the protocol's records to
the rescaled result, with every semaphore of the protocol back at zero.
-/
module

public import proofs.«01_k».proof.Proof.Exch

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD → SemLoc sig → ℕ)
variable (c : Dev nD)

/-! ## Positions -/

/-- A lane's nine semaphores, from landing `a`, source `s` and credit `g` on. -/
def laneS (d : Bool) (j : Fin 2) (a s g : ℕ) : List (SemLoc sig) :=
  [.dma (rcvS d (kf (a + 1)) j), .dma (rcvS d (kf (a + 1 + 1)) j), .dma (rcvS d (kf (a + 2 + 1)) j),
    .dma (sndS d (kf s) j), .dma (sndS d (kf (s + 1)) j), .dma (sndS d (kf (s + 2)) j),
    .reg (crdS d (kf (g + 1)) j), .reg (crdS d (kf (g + 1 + 1)) j), .reg (crdS d (kf (g + 2 + 1)) j)]
/-- The exchange's semaphores. -/
def exS (l : List (Fin 16)) : List (SemLoc sig) := (l.map fun o => .dma (asndS o)) ++ (l.map fun o => .dma (arcvS o))
/-- The slots in the order the exchange uses them. -/
def aoffs : List (Fin 16) := (List.finRange 15).map aoff

/-- Device `c` at round 0 of a semaphore. -/
def at0 (sm : SemLoc sig) : sProp 𝕄 := atPos ER (cell c sm) 0 ∅ 0
/-- The counter of a semaphore of device `c`, at zero. -/
def zero (sm : SemLoc sig) : sProp 𝕄 := semVal (cell c sm) 0

theorem lane_start (d : Bool) (j : Fin 2) : iprop(recs m ρ K ∗ sepL (at0 c) (laneS d j 0 0 1)) ⊢ posL d j c 0 0 1 := by
  unfold posL
  rw [Nat.min_eq_left (show 1 ≤ nh d j by have := le_nh d j; omega)]
  unfold P3 laneS sepL sepL sepL sepL sepL sepL sepL sepL sepL sepL at0
  iintro ⟨#HR, H1, H2, H3, H4, H5, H6, H7, H8, H9, -⟩
  isplitl [H1 H2 H3]
  · isplitl [H1]
    · rw [atR_eq]
      isplitl [H1]; · iexact H1
      iapply (reached_at m ρ K c _ (kind_ne_rcv d j _)) $$ HR
    isplitl [H2]
    · rw [atR_eq]
      isplitl [H2]; · iexact H2
      iapply (reached_at m ρ K c _ (kind_ne_rcv d j _)) $$ HR
    · rw [atR_eq]
      isplitl [H3]; · iexact H3
      iapply (reached_at m ρ K c _ (kind_ne_rcv d j _)) $$ HR
  isplitl [H4 H5 H6]
  · isplitl [H4]
    · rw [atS_eq]
      isplitl [H4]; · iexact H4
      iapply (reached_at m ρ K c _ (kind_ne_snd d j _)) $$ HR
    isplitl [H5]
    · rw [atS_eq]
      isplitl [H5]; · iexact H5
      iapply (reached_at m ρ K c _ (kind_ne_snd d j _)) $$ HR
    · rw [atS_eq]
      isplitl [H6]; · iexact H6
      iapply (reached_at m ρ K c _ (kind_ne_snd d j _)) $$ HR
  · isplitl [H7]
    · rw [atC_eq]
      isplitl [H7]; · iexact H7
      iapply (reached_at m ρ K c _ (kind_ne_crd d j _)) $$ HR
    isplitl [H8]
    · rw [atC_eq]
      isplitl [H8]; · iexact H8
      iapply (reached_at m ρ K c _ (kind_ne_crd d j _)) $$ HR
    · rw [atC_eq]
      isplitl [H9]; · iexact H9
      iapply (reached_at m ρ K c _ (kind_ne_crd d j _)) $$ HR

/-! ## Closing -/

/-- A semaphore with no duties left closes: its counter is at zero, the device's again. -/
theorem close_sem (sm : SemLoc sig) (h : kindOf sm ≠ .none) (R : ℕ) (hR : ∀ r, R ≤ r → (ringRd (F := F) m ρ).duties (cell c sm) r = ∅) :
    iprop(recs m ρ K ∗ atPos ER (cell c sm) R ∅ 0) ⊢ iprop(|={Set.univ}=> zero c sm) := by
  unfold zero
  iintro ⟨#HR, Ha⟩
  ihave #HI := (inv_at m ρ K c sm h) $$ HR
  imod (Rounds.cell_close ER (ringRd m ρ) (Set.mem_univ (K c sm)) (fun h => h) (R := R) hR) $$ [Ha] with Hz
  · isplitr; · iexact HI
    iexact Ha
  imodintro
  iexact Hz

theorem lane_close (d : Bool) (j : Fin 2) (n : ℕ) (hn : nh d j = n) :
    iprop(recs m ρ K ∗ (P3 (atR d j c) n ∗ P3 (atS d j c) n ∗ P3 (atC d j c) n)) ⊢ iprop(|={Set.univ}=> sepL (zero c) (laneS d j n n n)) := by
  unfold P3 laneS sepL sepL sepL sepL sepL sepL sepL sepL sepL sepL
  simp only [atR_eq, atS_eq, atC_eq]
  iintro ⟨#HR, ⟨⟨H1, -⟩, ⟨H2, -⟩, ⟨H3, -⟩⟩, ⟨⟨H4, -⟩, ⟨H5, -⟩, ⟨H6, -⟩⟩, ⟨⟨H7, -⟩, ⟨H8, -⟩, ⟨H9, -⟩⟩⟩
  imod (close_sem m ρ K c _ (kind_ne_rcv d j _) _ (none_rcv m ρ (d := d) (n := n) (j := j) (by omega) c)) $$ [H1] with H1
  · isplitr; · iexact HR
    iexact H1
  imod (close_sem m ρ K c _ (kind_ne_rcv d j _) _ (none_rcv m ρ (d := d) (n := n + 1) (j := j) (by omega) c)) $$ [H2] with H2
  · isplitr; · iexact HR
    iexact H2
  imod (close_sem m ρ K c _ (kind_ne_rcv d j _) _ (none_rcv m ρ (d := d) (n := n + 2) (j := j) (by omega) c)) $$ [H3] with H3
  · isplitr; · iexact HR
    iexact H3
  imod (close_sem m ρ K c _ (kind_ne_snd d j _) _ (none_snd m ρ (d := d) (n := n) (j := j) (by omega) c)) $$ [H4] with H4
  · isplitr; · iexact HR
    iexact H4
  imod (close_sem m ρ K c _ (kind_ne_snd d j _) _ (none_snd m ρ (d := d) (n := n + 1) (j := j) (by omega) c)) $$ [H5] with H5
  · isplitr; · iexact HR
    iexact H5
  imod (close_sem m ρ K c _ (kind_ne_snd d j _) _ (none_snd m ρ (d := d) (n := n + 2) (j := j) (by omega) c)) $$ [H6] with H6
  · isplitr; · iexact HR
    iexact H6
  imod (close_sem m ρ K c _ (kind_ne_crd d j _) _ (none_crd m ρ (d := d) (n := n) (j := j) (by omega) c)) $$ [H7] with H7
  · isplitr; · iexact HR
    iexact H7
  imod (close_sem m ρ K c _ (kind_ne_crd d j _) _ (none_crd m ρ (d := d) (n := n + 1) (j := j) (by omega) c)) $$ [H8] with H8
  · isplitr; · iexact HR
    iexact H8
  imod (close_sem m ρ K c _ (kind_ne_crd d j _) _ (none_crd m ρ (d := d) (n := n + 2) (j := j) (by omega) c)) $$ [H9] with H9
  · isplitr; · iexact HR
    iexact H9
  imodintro
  iframe

/-- The exchange's positions, all past their last round, close. -/
theorem ex_close (R : ℕ) (l : List (Fin 16)) (h1 : ∀ o ∈ l, ∀ r, R ≤ r → (ringRd (F := F) m ρ).duties (cell c (.dma (asndS o))) r = ∅)
    (h2 : ∀ o ∈ l, ∀ r, R ≤ r → (ringRd (F := F) m ρ).duties (cell c (.dma (arcvS o))) r = ∅) :
    iprop(recs m ρ K ∗ sepL (atA c R) l) ⊢ iprop(|={Set.univ}=> sepL (zero c) (exS l)) := by
  have key : iprop(recs m ρ K ∗ sepL (atA c R) l)
      ⊢ iprop(|={Set.univ}=> sepL (fun o => iprop(zero c (.dma (asndS o)) ∗ zero c (.dma (arcvS o)))) l) := by
    induction l with
    | nil => iintro -; imodintro; iempintro
    | cons o l ih =>
      have ih' := ih (fun o ho => h1 o (List.mem_cons_of_mem _ ho)) (fun o ho => h2 o (List.mem_cons_of_mem _ ho))
      unfold sepL
      iintro ⟨#HR, H, Hl⟩
      unfold atA
      icases H with ⟨Ha, Hb⟩
      imod (close_sem m ρ K c _ (kind_ne_asnd o) R (h1 o List.mem_cons_self)) $$ [Ha] with Ha
      · isplitr; · iexact HR
        iexact Ha
      imod (close_sem m ρ K c _ (kind_ne_arcv o) R (h2 o List.mem_cons_self)) $$ [Hb] with Hb
      · isplitr; · iexact HR
        iexact Hb
      imod ih' $$ [Hl] with Hl
      · isplitr; · iexact HR
        unfold atA; iexact Hl
      imodintro
      iframe
  iintro H
  imod key $$ H with H
  imodintro
  ihave H := (sepL_unsep (fun o => zero (F := F) c (.dma (asndS o))) (fun o => zero c (.dma (arcvS o))) l) $$ H
  icases H with ⟨H, H'⟩
  unfold exS
  iapply (sepL_append _ _ _).2
  rw [sepL_map, sepL_map]
  isplitl [H]; · iexact H
  iexact H'

/-- All of the protocol's semaphores, in the order the positions are held at the start, and at the end. -/
def semL (k : ℕ) : List (SemLoc sig) :=
  .reg barS :: ((if k = 0 then laneS false 0 0 0 1 else laneS false 0 8 8 8) ++ ((if k = 0 then laneS true 0 0 0 1 else laneS true 0 7 7 7)
    ++ ((if k = 0 then laneS false 1 0 0 1 else laneS false 1 7 7 7) ++ ((if k = 0 then laneS true 1 0 0 1 else laneS true 1 8 8 8)
    ++ (exS aoffs ++ exS [0])))))

set_option maxHeartbeats 1000000 in
theorem semL_nodup : (semL 0).Nodup ∧ (semL 1).Nodup := by constructor <;> decide +kernel
theorem semL_own : ∀ sm ∈ semL 0, sm ∈ ownS := by decide +kernel
theorem semL_set : (semL 1).toFinset = ownS := by decide +kernel

/-! ## Buffers -/

def bufAny (d : Bool) : sProp 𝕄 := iprop(∃ f, ((bufM d).view.loc (c : Thread nD τ)) ↦{fullShare} f)
def aaWhole : sProp 𝕄 := iprop(∃ f, (aaM.view.loc (c : Thread nD τ)) ↦{fullShare} f)

def allHalves : List (Fin 3 × Fin 2) := [(1, 0), (2, 0), (0, 0), (1, 1), (2, 1), (0, 1)]

/-- A device's own ring buffer is what its neighbour's handshake payment asks for. -/
theorem buf_bar (d : Bool) : bufAny (F := F) c d ⊢ barPay d (prv d c) := by
  have h : ∀ f, (((bufM d).view.loc (c : Thread nD τ)) ↦{fullShare} f : sProp 𝕄) ⊢ sepL (fun x : Fin 3 × Fin 2 => halfPt d x.1 x.2 c fullShare f) allHalves := fun f => by
    rw [buf_halves]
    exact sepL_of_bigSep _ _ _ (by decide) (fun a _ => Finset.mem_univ a)
  have e (j : Fin 2) : dsts (F := F) d j 0 (prv d c) = iprop(halfAny d 1 j c ∗ halfAny d 2 j c ∗ halfAny d 0 j c ∗ emp) := by
    unfold dsts; rw [nxt_prv]; rfl
  unfold bufAny barPay
  rw [e 0, e 1]
  iintro ⟨%f, H⟩
  ihave H := (h f) $$ H
  have el : sepL (fun x : Fin 3 × Fin 2 => halfPt (F := F) d x.1 x.2 c fullShare f) allHalves
    = iprop(halfPt d 1 0 c fullShare f ∗ halfPt d 2 0 c fullShare f ∗ halfPt d 0 0 c fullShare f ∗ halfPt d 1 1 c fullShare f
      ∗ halfPt d 2 1 c fullShare f ∗ halfPt d 0 1 c fullShare f ∗ emp) := rfl
  ihave H := (Entails.of_eq el) $$ H
  icases H with ⟨H1, H2, H3, H4, H5, H6, -⟩
  isplitl [H1 H2 H3]
  · isplitl [H1]; · iapply (halfAny_of d 0 c 1 f) $$ H1
    isplitl [H2]; · iapply (halfAny_of d 0 c 2 f) $$ H2
    isplitl [H3]; · iapply (halfAny_of d 0 c 0 f) $$ H3
    iempintro
  · isplitl [H4]; · iapply (halfAny_of d 1 c 1 f) $$ H4
    isplitl [H5]; · iapply (halfAny_of d 1 c 2 f) $$ H5
    isplitl [H6]; · iapply (halfAny_of d 1 c 0 f) $$ H6
    iempintro

/-- The six halves are the buffer again. -/
theorem buf_back (d : Bool) (f₀ : Buf (Elt F) ((bufM d).view.loc (c : Thread nD τ))) :
    iprop((halfAny (F := F) d 0 0 c ∗ halfAny d 1 0 c ∗ halfAny d 2 0 c) ∗ (halfAny d 0 1 c ∗ halfAny d 1 1 c ∗ halfAny d 2 1 c)) ⊢ bufAny c d := by
  have h : sepL (fun x : Fin 3 × Fin 2 => halfAny (F := F) d x.1 x.2 c) allHalves ⊢ bigSep Finset.univ (fun x : Fin 3 × Fin 2 => halfAny d x.1 x.2 c) := by
    have := sepL_toFinset (fun x : Fin 3 × Fin 2 => halfAny (F := F) d x.1 x.2 c) allHalves (by decide)
    rw [show allHalves.toFinset = Finset.univ by decide] at this
    exact this
  unfold bufAny
  iintro ⟨⟨H1, H2, H3⟩, H4, H5, H6⟩
  iapply (buf_join d c f₀)
  iapply h
  have el : sepL (fun x : Fin 3 × Fin 2 => halfAny (F := F) d x.1 x.2 c) allHalves
    = iprop(halfAny d 1 0 c ∗ halfAny d 2 0 c ∗ halfAny d 0 0 c ∗ halfAny d 1 1 c ∗ halfAny d 2 1 c ∗ halfAny d 0 1 c ∗ emp) := rfl
  iapply (Entails.of_eq el.symm)
  iframe

theorem aaAny_of (o : Fin 16) (f : Buf (Elt F) (aaM.view.loc (c : Thread nD τ))) : aaPt o c f ⊢ aaAny o c := by
  unfold aaAny; iintro H; iexists f; iexact H

/-- The landing slots of the exchange: slot 0 stays, the others' permissions travel with two of the lanes. -/
theorem aa_start : aaWhole (F := F) c ⊢ iprop(aaAny 0 c ∗ prm (trL false 0 0) c ∗ prm (trL true 1 0) c) := by
  have h : bigSep Finset.univ (fun o : Fin 16 => aaAny (F := F) o c) ⊢ sepL (fun o => aaAny (F := F) o c) (0 :: (trL false 0 0 ++ trL true 1 0)) :=
    sepL_of_bigSep _ _ _ (by decide) (fun a _ => Finset.mem_univ a)
  unfold aaWhole
  iintro ⟨%f, H⟩
  ihave H := (Entails.of_eq (aa_slots c f)) $$ H
  have h' : bigSep Finset.univ (fun o : Fin 16 => aaPt (F := F) o c f) ⊢ bigSep Finset.univ (fun o : Fin 16 => aaAny (F := F) o c) :=
    bigSep_mono fun o _ => aaAny_of c o f
  ihave H := h' $$ H
  ihave H := h $$ H
  have e1 (l : List (Fin 16)) : sepL (fun o => aaAny (F := F) o c) (0 :: l) = iprop(aaAny 0 c ∗ sepL (fun o => aaAny o c) l) := rfl
  ihave H := (Entails.of_eq (e1 _)) $$ H
  icases H with ⟨H0, H⟩
  isplitl [H0]; · iexact H0
  unfold prm
  iapply (sepL_append _ _ _).1 $$ H

theorem aa_back (f₀ : Buf (Elt F) (aaM.view.loc (c : Thread nD τ))) :
    iprop(aaAny (F := F) 0 c ∗ sepL (fun o => aaAny (F := F) o c) [1, 2, 3, 4, 5, 6, 7, 8, 9, 10, 11, 12, 13, 14, 15]) ⊢ aaWhole c := by
  have e1 (l : List (Fin 16)) : sepL (fun o => aaAny (F := F) o c) (0 :: l) = iprop(aaAny 0 c ∗ sepL (fun o => aaAny o c) l) := rfl
  have hu : (0 :: [1, 2, 3, 4, 5, 6, 7, 8, 9, 10, 11, 12, 13, 14, 15] : List (Fin 16)).toFinset = Finset.univ := by decide
  have hn : (0 :: [1, 2, 3, 4, 5, 6, 7, 8, 9, 10, 11, 12, 13, 14, 15] : List (Fin 16)).Nodup := by decide
  generalize ([1, 2, 3, 4, 5, 6, 7, 8, 9, 10, 11, 12, 13, 14, 15] : List (Fin 16)) = l at hu hn ⊢
  have h : sepL (fun o => aaAny (F := F) o c) (0 :: l) ⊢ bigSep Finset.univ (fun o : Fin 16 => aaAny (F := F) o c) := by
    rw [← hu]; exact sepL_toFinset _ _ hn
  unfold aaWhole
  iintro H
  iapply (aa_join c f₀)
  iapply h
  iapply (Entails.of_eq (e1 l).symm) $$ H

/-! ## The body -/

/-- The tokens and promises of the protocol that device `c` starts from, and its positions. -/
def Ghost : sProp 𝕄 :=
  iprop((dutyTok ER (cell (prv false c) (.reg barS)) 0 false ∗ dutyTok ER (cell (prv true c) (.reg barS)) 0 true ∗ cred (tallyAt (cell c (.reg barS)) 1 2))
    ∗ (tokL (F := F) false 0 c 0 2 0 1 ∗ tokL (F := F) true 0 c 0 2 0 1 ∗ tokL (F := F) false 1 c 0 2 0 1 ∗ tokL (F := F) true 1 c 0 2 0 1)
    ∗ sepL (fun i : Fin 15 => iprop(dutyTok ER (cell c (.dma (asndS (aoff i)))) 0 false
        ∗ dutyTok ER (cell (sh (i.val + 1) c) (.dma (arcvS (aoff i)))) 0 false)) (List.finRange 15)
    ∗ sepL (arCred (F := F) c) (List.finRange 15)
    ∗ bigSep ownS (at0 (F := F) c))

/-- The scratch buffers at some contents. -/
def Scratch : sProp 𝕄 := iprop(bufAny (F := F) c false ∗ bufAny (F := F) c true ∗ asAny (F := F) c ∗ aaWhole (F := F) c)
def xWhole : sProp 𝕄 := ((xM.view.loc (c : Thread nD τ)) ↦{fullShare} (xstg m ρ c))
def outIs (f : (cc0_stg2_0 : Ref sig .tc).ty.Contents (Elt F)) : sProp 𝕄 := ((oM.view.loc (c : Thread nD τ)) ↦{fullShare} f)

/-- The positions, apart. -/
theorem pos_start : iprop(recs m ρ K ∗ bigSep ownS (at0 c))
    ⊢ iprop(at0 (F := F) c (.reg barS) ∗ (posL false 0 c 0 0 1 ∗ posL true 0 c 0 0 1 ∗ posL false 1 c 0 0 1 ∗ posL true 1 c 0 0 1)
        ∗ sepL (fun i : Fin 15 => atA c 0 (aoff i)) (List.finRange 15) ∗ atA c 0 0) := by
  have h := sepL_of_bigSep (at0 (F := F) c) (semL 0) ownS semL_nodup.1 semL_own
  have ea : exS aoffs = ((List.finRange 15).map fun i => .dma (asndS (aoff i))) ++ ((List.finRange 15).map fun i => .dma (arcvS (aoff i))) := by
    unfold exS aoffs; rw [List.map_map, List.map_map]; rfl
  iintro ⟨#HR, H⟩
  ihave H := h $$ H
  unfold semL
  rw [if_pos rfl, if_pos rfl, if_pos rfl, if_pos rfl]
  have e1 (a : SemLoc sig) (l : List (SemLoc sig)) : sepL (at0 (F := F) c) (a :: l) = iprop(at0 c a ∗ sepL (at0 c) l) := rfl
  ihave H := (Entails.of_eq (e1 _ _)) $$ H
  icases H with ⟨Hb, H⟩
  ihave H := (sepL_append _ _ _).1 $$ H
  icases H with ⟨H1, H⟩
  ihave H := (sepL_append _ _ _).1 $$ H
  icases H with ⟨H2, H⟩
  ihave H := (sepL_append _ _ _).1 $$ H
  icases H with ⟨H3, H⟩
  ihave H := (sepL_append _ _ _).1 $$ H
  icases H with ⟨H4, H⟩
  ihave H := (sepL_append _ _ _).1 $$ H
  icases H with ⟨He, H0⟩
  ihave He := (Entails.of_eq (congrArg (sepL (at0 (F := F) c)) ea)) $$ He
  ihave He := (sepL_append _ _ _).1 $$ He
  icases He with ⟨He, He'⟩
  ihave He := (Entails.of_eq (sepL_map (at0 (F := F) c) (fun i : Fin 15 => .dma (asndS (aoff i))) (List.finRange 15))) $$ He
  ihave He' := (Entails.of_eq (sepL_map (at0 (F := F) c) (fun i : Fin 15 => .dma (arcvS (aoff i))) (List.finRange 15))) $$ He'
  isplitl [Hb]; · iexact Hb
  isplitl [H1 H2 H3 H4]
  · isplitl [H1]
    · iapply (lane_start m ρ K c false 0); isplitr; · iexact HR
      iexact H1
    isplitl [H2]
    · iapply (lane_start m ρ K c true 0); isplitr; · iexact HR
      iexact H2
    isplitl [H3]
    · iapply (lane_start m ρ K c false 1); isplitr; · iexact HR
      iexact H3
    · iapply (lane_start m ρ K c true 1); isplitr; · iexact HR
      iexact H4
  isplitl [He He']
  · unfold atA
    iapply (sepL_sep (fun i : Fin 15 => at0 (F := F) c (.dma (asndS (aoff i)))) (fun i : Fin 15 => at0 c (.dma (arcvS (aoff i)))) (List.finRange 15))
    isplitl [He]; · iexact He
    iexact He'
  have e0 : sepL (at0 (F := F) c) (exS [0]) = iprop(at0 c (.dma (asndS 0)) ∗ at0 c (.dma (arcvS 0)) ∗ emp) := rfl
  ihave H0 := (Entails.of_eq e0) $$ H0
  icases H0 with ⟨H0, H0', -⟩
  unfold atA at0
  isplitl [H0]; · iexact H0
  iexact H0'

/-- All positions at their ends close every semaphore. -/
theorem pos_end : iprop(recs m ρ K ∗ atPos ER (cell c (.reg barS)) 1 ∅ 0
      ∗ (P3 (atR false 0 c) 8 ∗ P3 (atS false 0 c) 8 ∗ P3 (atC false 0 c) 8) ∗ (P3 (atR true 0 c) 7 ∗ P3 (atS true 0 c) 7 ∗ P3 (atC true 0 c) 7)
      ∗ (P3 (atR false 1 c) 7 ∗ P3 (atS false 1 c) 7 ∗ P3 (atC false 1 c) 7) ∗ (P3 (atR true 1 c) 8 ∗ P3 (atS true 1 c) 8 ∗ P3 (atC true 1 c) 8)
      ∗ sepL (fun i : Fin 15 => atA c 1 (aoff i)) (List.finRange 15) ∗ atA c 0 0)
    ⊢ iprop(|={Set.univ}=> bigSep ownS (zero c)) := by
  have h : ∀ l : List (SemLoc sig), l.Nodup → l.toFinset = ownS → (sepL (zero (F := F) c) l ⊢ bigSep ownS (zero c)) :=
    fun l hn hs => by rw [← hs]; exact sepL_toFinset _ l hn
  iintro ⟨#HR, Hb, H1, H2, H3, H4, He, H0⟩
  imod (close_sem m ρ K c _ kind_ne_bar 1 (none_bar m ρ c)) $$ [Hb] with Hb
  · isplitr; · iexact HR
    iexact Hb
  imod (lane_close m ρ K c false 0 8 rfl) $$ [H1] with H1
  · isplitr; · iexact HR
    iexact H1
  imod (lane_close m ρ K c true 0 7 rfl) $$ [H2] with H2
  · isplitr; · iexact HR
    iexact H2
  imod (lane_close m ρ K c false 1 7 rfl) $$ [H3] with H3
  · isplitr; · iexact HR
    iexact H3
  imod (lane_close m ρ K c true 1 8 rfl) $$ [H4] with H4
  · isplitr; · iexact HR
    iexact H4
  ihave He := (Entails.of_eq (sepL_map (atA (F := F) c 1) aoff (List.finRange 15)).symm) $$ He
  imod (ex_close m ρ K c 1 aoffs (fun o _ => none_asnd m ρ o c) (fun o _ => none_arcv m ρ o c)) $$ [He] with He
  · isplitr; · iexact HR
    unfold aoffs; iexact He
  have e0 : sepL (atA (F := F) c 0) [0] = iprop(atA c 0 0 ∗ emp) := rfl
  imod (ex_close m ρ K c 0 [0] (fun o ho => by rw [List.mem_singleton.mp ho]; exact none_asnd0 m ρ c)
    (fun o ho => by rw [List.mem_singleton.mp ho]; exact none_arcv0 m ρ c)) $$ [H0] with H0
  · isplitr; · iexact HR
    iapply (Entails.of_eq e0.symm)
    isplitl [H0]; · iexact H0
    iempintro
  imodintro
  iapply (h (semL 1) semL_nodup.2 semL_set)
  unfold semL
  rw [if_neg Nat.one_ne_zero, if_neg Nat.one_ne_zero, if_neg Nat.one_ne_zero, if_neg Nat.one_ne_zero]
  have e1 (a : SemLoc sig) (l : List (SemLoc sig)) : sepL (zero (F := F) c) (a :: l) = iprop(zero c a ∗ sepL (zero c) l) := rfl
  iapply (Entails.of_eq (e1 _ _).symm)
  isplitl [Hb]; · iexact Hb
  iapply (sepL_append _ _ _).2
  isplitl [H1]; · iexact H1
  iapply (sepL_append _ _ _).2
  isplitl [H2]; · iexact H2
  iapply (sepL_append _ _ _).2
  isplitl [H3]; · iexact H3
  iapply (sepL_append _ _ _).2
  isplitl [H4]; · iexact H4
  iapply (sepL_append _ _ _).2
  isplitl [He]; · iexact He
  iexact H0

theorem upTo_zero (row : ℕ) (h : row < 4096) (hu : upTo c 0 row) : False ∨ (256 * c.val ≤ row ∧ row < 256 * c.val + 256) := by
  have hc : c.val < 16 := c.isLt
  unfold upTo rowDist at hu
  omega

theorem prm_none (d : Bool) (j : Fin 2) (h : trL d j 0 = []) : ⊢ prm (F := F) (trL d j 0) c := by
  rw [h]; unfold prm sepL; iempintro

theorem landed_list : sepL (fun i : Fin 15 => arcvPay m ρ (aoff i) c) (List.finRange 15)
    ⊢ sepL (fun o => arcvPay m ρ o c) [1, 2, 3, 4, 5, 6, 7, 8, 9, 10, 11, 12, 13, 14, 15] := by
  rw [← sepL_map (fun o => arcvPay m ρ o c) aoff]
  exact sepL_sub _ _ _ (by decide) (by decide) (by decide)

theorem landed_any (l : List (Fin 16)) : sepL (fun o => arcvPay m ρ o c) l ⊢ sepL (fun o => aaAny (F := F) o c) l :=
  sepL_mono l fun o _ => by unfold arcvPay aaAny; iintro H; iexists _; iexact H

/-- The body's end: the buffers whole again and every semaphore closed. -/
theorem body_end :
    iprop(recs m ρ K ∗ atPos ER (cell c (.reg barS)) 1 ∅ 0
      ∗ (LEnd m ρ c false 0 0 ∗ LEnd m ρ c true 0 7) ∗ (LEnd m ρ c false 1 7 ∗ LEnd m ρ c true 1 0)
      ∗ xKeep m ρ c ∗ asAny c ∗ aaAny 0 c ∗ sepL (fun o => arcvPay m ρ o c) [1, 2, 3, 4, 5, 6, 7, 8, 9, 10, 11, 12, 13, 14, 15]
      ∗ sepL (fun i : Fin 15 => atA c 1 (aoff i)) (List.finRange 15) ∗ atA c 0 0)
    ⊢ iprop(|={Set.univ}=> (xWhole m ρ c ∗ Scratch c ∗ bigSep ownS (zero c))) := by
  unfold LEnd
  iintro ⟨#HR, Hb, ⟨⟨Hp1, Hh1, -, Hx1⟩, ⟨Hp2, Hh2, -, Hx2⟩⟩, ⟨⟨Hp3, Hh3, -, Hx3⟩, ⟨Hp4, Hh4, -, Hx4⟩⟩, Hxk, Has, Ha0, Haa, He, H0⟩
  imod (pos_end m ρ K c) $$ [Hb Hp1 Hp2 Hp3 Hp4 He H0] with Hz
  · isplitr; · iexact HR
    isplitl [Hb]; · iexact Hb
    isplitl [Hp1]; · iexact Hp1
    isplitl [Hp2]; · iexact Hp2
    isplitl [Hp3]; · iexact Hp3
    isplitl [Hp4]; · iexact Hp4
    isplitl [He]; · iexact He
    iexact H0
  imodintro
  isplitl [Hxk Hx1 Hx2 Hx3 Hx4]
  · unfold xWhole
    iapply (x_split m ρ c).2
    isplitl [Hxk]; · unfold xKeep; iexact Hxk
    isplitl [Hx1 Hx3]; · iframe
    iframe
  isplitr [Hz]; rotate_left; · iexact Hz
  unfold Scratch
  isplitl [Hh1 Hh3]
  · iapply (buf_back c false (XB m ρ false c c))
    isplitl [Hh1]; · iexact Hh1
    iexact Hh3
  isplitl [Hh2 Hh4]
  · iapply (buf_back c true (XB m ρ true c c))
    isplitl [Hh2]; · iexact Hh2
    iexact Hh4
  isplitl [Has]; · iexact Has
  iapply (aa_back c (aaC (amaxV m ρ c) c))
  isplitl [Ha0]; · iexact Ha0
  iapply (landed_any m ρ c _) $$ Haa

/-- The permissions of the two lanes are those the exchange's transfers need. -/
theorem perms_get : iprop(LEnd m ρ c false 0 8 ∗ LEnd m ρ c true 1 8)
    ⊢ iprop((LEnd m ρ c false 0 0 ∗ LEnd m ρ c true 1 0) ∗ sepL (fun i : Fin 15 => aaAny (F := F) (aoff i) (sh (i.val + 1) c)) (List.finRange 15)) := by
  have h0 (d : Bool) (j : Fin 2) : ⊢ keepA (F := F) d j c 0 := by unfold keepA sepL; iempintro
  unfold LEnd
  iintro ⟨⟨Hp1, Hh1, Hk1, Hx1⟩, ⟨Hp4, Hh4, Hk4, Hx4⟩⟩
  ihave Hk1 := (keepA_perm c false 0 8) $$ Hk1
  ihave Hk4 := (keepA_perm c true 1 8) $$ Hk4
  isplitr [Hk1 Hk4]
  · isplitl [Hp1 Hh1 Hx1]
    · isplitl [Hp1]; · iexact Hp1
      isplitl [Hh1]; · iexact Hh1
      isplitr; · iapply (h0 false 0)
      iexact Hx1
    · isplitl [Hp4]; · iexact Hp4
      isplitl [Hh4]; · iexact Hh4
      isplitr; · iapply (h0 true 1)
      iexact Hx4
  iapply (perms (slotOf (F := F) c))
  isplitl [Hk1]; · iexact Hk1
  iexact Hk4

/-- What the body leaves. -/
def BodyEnd : sProp 𝕄 :=
  iprop(Ow c [] ∗ xWhole m ρ c ∗ wPt m ρ c ∗ outIs c (outAt m ρ c) ∗ Scratch c ∗ bigSep ownS (zero c))

/-- From the handshake on, everything apart. -/
def BodyMid : sProp 𝕄 :=
  iprop(StartPre m ρ c ∗ (xKeep m ρ c ∗ wPt m ρ c ∗ outPt m ρ c (fun _ => False))
    ∗ (asAny (F := F) c ∗ sepL (fun i : Fin 15 => iprop(dutyTok ER (cell c (.dma (asndS (aoff i)))) 0 false
        ∗ dutyTok ER (cell (sh (i.val + 1) c) (.dma (arcvS (aoff i)))) 0 false)) (List.finRange 15)
      ∗ sepL (fun i : Fin 15 => iprop(arCred (F := F) c i ∗ atA (F := F) c 0 (aoff i))) (List.finRange 15))
    ∗ aaAny (F := F) 0 c ∗ atA (F := F) c 0 0)

theorem body_mid (fo : (cc0_stg2_0 : Ref sig .tc).ty.Contents (Elt F)) :
    iprop(recs m ρ K ∗ Ow c due0 ∗ Ghost c ∗ Scratch c ∗ xWhole m ρ c ∗ wPt m ρ c ∗ outIs c fo) ⊢ BodyMid m ρ c := by
  unfold Ghost Scratch xWhole outIs
  iintro ⟨#HR, HO, ⟨⟨Hb1, Hb2, Hbc⟩, ⟨Ht1, Ht2, Ht3, Ht4⟩, Hea, Hec, Hat⟩, ⟨Hbf, Hbt, Has, Haa⟩, Hx, Hw, Ho⟩
  ihave Hat := (pos_start m ρ K c) $$ [Hat]
  · isplitr; · iexact HR
    iexact Hat
  icases Hat with ⟨Hbar, ⟨Hp1, Hp2, Hp3, Hp4⟩, HeA, HA0⟩
  ihave Hx := (x_split m ρ c).1 $$ Hx
  icases Hx with ⟨Hxk, ⟨Hx1, Hx3⟩, Hx2, Hx4⟩
  ihave Haa := (aa_start c) $$ Haa
  icases Haa with ⟨Ha0, Hq1, Hq4⟩
  ihave Hbf := (buf_bar c false) $$ Hbf
  ihave Hbt := (buf_bar c true) $$ Hbt
  unfold BodyMid StartPre BarPre LPre
  isplitl [HO Hb1 Hb2 Hbc Hbf Hbt Hbar Ht1 Ht2 Ht3 Ht4 Hp1 Hp2 Hp3 Hp4 Hx1 Hx2 Hx3 Hx4 Hq1 Hq4]
  · isplitl [HO]; · iexact HO
    isplitl [Hb1 Hb2 Hbc Hbf Hbt Hbar]
    · isplitl [Hb1 Hb2]; · iframe
      isplitl [Hbf Hbt]; · iframe
      isplitl [Hbc]; · iexact Hbc
      unfold at0; iexact Hbar
    isplitl [Ht1 Hp1 Hx1 Hq1 Ht2 Hp2 Hx2]
    · isplitl [Ht1 Hp1 Hx1 Hq1]; · iframe
      isplitl [Hp2]; · iexact Hp2
      isplitl [Ht2]; · iexact Ht2
      isplitl [Hx2]; · iexact Hx2
      iapply (prm_none c true 0 rfl)
    · isplitl [Ht3 Hp3 Hx3]
      · isplitl [Hp3]; · iexact Hp3
        isplitl [Ht3]; · iexact Ht3
        isplitl [Hx3]; · iexact Hx3
        iapply (prm_none c false 1 rfl)
      iframe
  isplitl [Hxk Hw Ho]
  · isplitl [Hxk]; · unfold xKeep; iexact Hxk
    isplitl [Hw]; · iexact Hw
    unfold outPt
    iexists fo
    isplitr; · ipureintro; exact fun _ h => h.elim
    iexact Ho
  isplitl [Has Hea Hec HeA]
  · isplitl [Has]; · iexact Has
    isplitl [Hea]; · iexact Hea
    iapply (sepL_sep (arCred (F := F) c) (fun i : Fin 15 => atA (F := F) c 0 (aoff i)) (List.finRange 15))
    isplitl [Hec]; · iexact Hec
    iexact HeA
  isplitl [Ha0]; · iexact Ha0
  iexact HA0

theorem body_from_mid (Q : PUnit → sProp 𝕄) :
    iprop(recs m ρ K ∗ BodyMid m ρ c ∗ (BodyEnd m ρ c -∗ Q ⟨⟩)) ⊢ WP c (blocks c) Q := by
  have eA : amax256 (yOwn m ρ c) = accAt m ρ c 0 := rfl
  unfold BodyMid blocks
  simp only [wp_bind]
  iintro ⟨#HR, ⟨Hs, ⟨Hxk, Hw, Ho⟩, ⟨Has, Hed, Hea⟩, Ha0, HA0⟩, Hk⟩
  iapply (start_spec m ρ K c _)
  isplitr; · iexact HR
  isplitl [Hs]; · iexact Hs
  iintro ⟨HO, Hbar, H0, H1⟩
  iapply (dotOwn_spec m ρ c _ _)
  isplitl [Hxk Hw Ho]; · iframe
  rw [eA]
  iintro ⟨Hxk, Hw, Ho⟩
  iapply (hops_spec m ρ K c _)
  isplitr; · iexact HR
  isplitl [HO H0 H1 Hw Ho]
  · unfold HInv
    isplitl [HO]; · iexact HO
    isplitl [H0]; · iexact H0
    isplitl [H1]; · iexact H1
    isplitl [Hw]; · iexact Hw
    iapply (outPt_mono m ρ c (fun row h hu => upTo_zero c row h hu)) $$ Ho
  iintro H
  iapply (far_spec m ρ K c _)
  isplitr; · iexact HR
  isplitl [H]; · iexact H
  unfold FarEnd
  iintro ⟨HO, ⟨H1, H2⟩, ⟨H3, H4⟩, Hw, Ho⟩
  ihave H14 := (perms_get m ρ c) $$ [H1 H4]
  · isplitl [H1]; · iexact H1
    iexact H4
  icases H14 with ⟨⟨H1, H4⟩, Hpr⟩
  ihave Hpr := (sepL_sep (fun i : Fin 15 => aaAny (F := F) (aoff i) (sh (i.val + 1) c)) _ (List.finRange 15)) $$ [Hpr Hed]
  · isplitl [Hpr]; · iexact Hpr
    iexact Hed
  iapply (exch_spec m ρ K c _)
  isplitr; · iexact HR
  isplitl [HO Has Hpr Hea]
  · unfold ExPre
    isplitl [HO]; · iexact HO
    isplitl [Has]; · iexact Has
    isplitl [Hpr]; · iexact Hpr
    iexact Hea
  unfold ExPost
  iintro ⟨HO, Has, Hp⟩
  ihave Hp := (sepL_unsep (fun i : Fin 15 => arcvPay m ρ (aoff i) c) (fun i => atA c 1 (aoff i)) (List.finRange 15)) $$ Hp
  icases Hp with ⟨Hl, HeA⟩
  ihave Hl := (landed_list m ρ c) $$ Hl
  iapply (wp_fupd frame (wpE (defs₀ (F := F)) 𝒱₀ (c : Thread nD τ) none) Set.univ (lastB (amaxV m ρ c)) Q)
  iapply (last_spec m ρ c _)
  isplitl [Ho Hl]
  · isplitl [Ho]; · iexact Ho
    iexact Hl
  iintro ⟨Ho, Hl⟩
  imod (body_end m ρ K c) $$ [Hbar H1 H2 H3 H4 Hxk Has Ha0 Hl HeA HA0] with ⟨Hx, Hs, Hz⟩
  · isplitr; · iexact HR
    isplitl [Hbar]; · iexact Hbar
    isplitl [H1 H2]
    · isplitl [H1]; · iexact H1
      iexact H2
    isplitl [H3 H4]
    · isplitl [H3]; · iexact H3
      iexact H4
    isplitl [Hxk]; · iexact Hxk
    isplitl [Has]; · iexact Has
    isplitl [Ha0]; · iexact Ha0
    isplitl [Hl]; · iexact Hl
    isplitl [HeA]; · iexact HeA
    iexact HA0
  imodintro
  iapply Hk
  unfold BodyEnd outIs
  isplitl [HO]; · iexact HO
  isplitl [Hx]; · iexact Hx
  isplitl [Hw]; · iexact Hw
  isplitl [Ho]; · iexact Ho
  isplitl [Hs]; · iexact Hs
  iexact Hz

end Cert.KernelIdeal.Ring

end
-- ==== Proof.Deal.lean ====
/-
What the launch deals each device: the tokens of the duties it pays, the promises of the payments it awaits, and its
position at each of its semaphores.
-/
module

public import Idealize.ShloMosaic.Lib.Pipeline.Launch
public import proofs.«01_k».proof.Proof.Gen.KernelIdeal.Launch
public import proofs.«01_k».proof.Proof.Gen.KernelIdeal.Points
public import proofs.«01_k».proof.Proof.Body

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD → SemLoc sig → ℕ)
variable (c : Dev nD)

/-! ## Tokens -/

/-- A token held by its payer: semaphore, round, duty, and how far on the owner is. -/
abbrev Tk : Type := SemLoc sig × ℕ × Bool × ℕ

def sndTk (d : Bool) (j : Fin 2) (h : ℕ) : Tk := (.dma (sndS d (kf h) j), h / 3, false, 0)
def rcvTk (d : Bool) (j : Fin 2) (h : ℕ) : Tk := (.dma (rcvS d (kf (h + 1)) j), h / 3, false, sft d)
def crdTk (d : Bool) (j : Fin 2) (h : ℕ) : Tk := (.reg (crdS d (kf (h + 1)) j), (h - 3) / 3, false, sft (!d))
/-- The tokens of one lane: its transfers' two each, and the credits it gives. -/
def laneTk (d : Bool) (j : Fin 2) : List Tk :=
  (List.range (nh d j)).map (sndTk d j) ++ ((List.range (nh d j)).map (rcvTk d j) ++ ((List.range (nh d j)).drop 3).map (crdTk d j))
def exTk : List Tk :=
  (List.finRange 15).map (fun i => (.dma (asndS (aoff i)), 0, false, 0)) ++ (List.finRange 15).map (fun i => (.dma (arcvS (aoff i)), 0, false, i.val + 1))
def barTk : List Tk := [(.reg barS, 0, false, sft true), (.reg barS, 0, true, sft false)]
/-- All the tokens a device pays with. -/
def allTk : List Tk := barTk ++ (laneTk false 0 ++ (laneTk true 0 ++ (laneTk false 1 ++ (laneTk true 1 ++ exTk))))

def tkKey (x : Tk) : SemLoc sig × ℕ × Bool := (x.1, x.2.1, x.2.2.1)
set_option maxHeartbeats 1000000 in
theorem tk_nodup : (allTk.map tkKey).Nodup := by decide +kernel

/-- Token `x` of payer `c`. -/
def tkOf (x : Tk) : sProp 𝕄 := dutyTok ER (cell (sh x.2.2.2 c) x.1) x.2.1 x.2.2.1
/-- The tokens as minted. -/
def mint (ci : Dev nD × Fin allTk.length) : GSem nD τ sig × ℕ × Bool :=
  (cell (sh (allTk.get ci.2).2.2.2 ci.1) (allTk.get ci.2).1, (allTk.get ci.2).2.1, (allTk.get ci.2).2.2.1)
theorem mint_injective : Function.Injective mint := by
  rintro ⟨c, i⟩ ⟨c', i'⟩ h
  have hk : tkKey (allTk.get i) = tkKey (allTk.get i') := by
    have h1 := congrArg (fun x : GSem nD τ sig × ℕ × Bool => (x.1.2, x.2.1, x.2.2)) h
    exact h1
  have hi : i = i' := by
    have hn := List.nodup_iff_injective_get.mp tk_nodup
    have := @hn ⟨i.val, by rw [List.length_map]; exact i.isLt⟩ ⟨i'.val, by rw [List.length_map]; exact i'.isLt⟩
      (by rw [List.get_eq_getElem, List.get_eq_getElem, List.getElem_map, List.getElem_map]; exact hk)
    exact Fin.ext (congrArg (fun x : Fin (allTk.map tkKey).length => x.val) this)
  subst hi
  have hc : sh (allTk.get i).2.2.2 c = sh (allTk.get i).2.2.2 c' := by
    have h1 := congrArg (fun x : GSem nD τ sig × ℕ × Bool => x.1.1.1) h
    exact h1
  rw [(shE (allTk.get i).2.2.2).injective hc]

/-- The cells, and all the tokens. -/
theorem cell_injective : Function.Injective (fun x : Dev nD × SemLoc sig => cell x.1 x.2) := by
  rintro ⟨c, s⟩ ⟨c', s'⟩ h
  have h1 : c = c' := congrArg (fun g : GSem nD τ sig => g.1.1) h
  have h2 : s = s' := congrArg (fun g : GSem nD τ sig => g.2) h
  rw [h1, h2]
def allCells : Finset (GSem nD τ sig) := Finset.univ.map ⟨_, cell_injective⟩
def allToks : Finset (GSem nD τ sig × ℕ × Bool) := Finset.univ.map ⟨mint, mint_injective⟩

/-- What is dealt device `c`. -/
def dealt : sProp 𝕄 :=
  iprop(bigSep ownS (fun sm => roundState ER (ringRd m ρ) (cell c sm) 0) ∗ bigSep ownS (at0 (F := F) c)
    ∗ bigSep ownS (fun sm => reached ER (cell c sm) 0) ∗ sepL (tkOf (F := F) c) allTk)

theorem cells_dev (Φ : GSem nD τ sig → sProp 𝕄) : bigSep allCells Φ ⊢ bigSep Finset.univ (fun c : Dev nD => bigSep ownS (fun sm => Φ (cell c sm))) := by
  unfold allCells
  rw [bigSep_map, bigSep_univ_prod]
  exact bigSep_mono fun c _ => bigSep_subset (Finset.subset_univ ownS)

theorem toks_dev : bigSep allToks (fun x => (dutyTok ER x.1 x.2.1 x.2.2 : sProp 𝕄)) ⊢ bigSep Finset.univ (fun c : Dev nD => sepL (tkOf (F := F) c) allTk) := by
  unfold allToks
  rw [bigSep_map, bigSep_univ_prod]
  refine bigSep_mono fun c _ => ?_
  have e : allTk = (List.finRange allTk.length).map allTk.get := (List.map_get_finRange allTk).symm
  have h := sepL_of_bigSep (fun i : Fin allTk.length => tkOf (F := F) c (allTk.get i)) (List.finRange allTk.length) Finset.univ
    (List.nodup_finRange _) (fun a _ => Finset.mem_univ a)
  refine BI.Entails.trans h ?_
  exact Entails.of_eq ((sepL_map (tkOf (F := F) c) allTk.get _).symm.trans (congrArg (sepL (tkOf (F := F) c)) e.symm))

/-- The launch's element for the protocol, dealt out. -/
theorem fund_all : BI.own (ER (initOf allCells allToks)) ⊢ (|==> bigSep Finset.univ (dealt m ρ) : sProp 𝕄) := by
  iintro HX
  imod (Rounds.fund ER (ringRd m ρ) allCells allToks) $$ HX with ⟨Hst, Hr, Hat, Htok⟩
  imodintro
  ihave Hst := (cells_dev (fun g => roundState ER (ringRd m ρ) g 0)) $$ Hst
  ihave Hat := (cells_dev (F := F) (fun g => atPos ER g 0 ∅ 0)) $$ Hat
  ihave Hr := (cells_dev (F := F) (fun g => reached ER g 0)) $$ Hr
  ihave Htok := (toks_dev (F := F)) $$ Htok
  unfold dealt; simp only [bigSep_sep']
  isplitl [Hst]; · iexact Hst
  isplitl [Hat]; · unfold at0; iexact Hat
  isplitl [Hr]; · iexact Hr
  iexact Htok

/-! ## Promises -/

/-- The promise of one payment, to the device that awaits it. -/
def crOf (x : Due) : sProp 𝕄 := cred (tallyAt (cell c x.1) x.2.2 (amt x.1))

theorem creds_list (l : List Due) : (Pipeline.launchCred (fun d => tly d l) c : sProp 𝕄) ⊢ sepL (crOf (F := F) c) l := by
  induction l with
  | nil => iintro -; unfold sepL; iempintro
  | cons x l ih =>
    have e : (Pipeline.launchCred (fun d => tly d (x :: l)) c : sProp 𝕄)
        = iprop(Pipeline.launchCred (fun d => tly d l) c ∗ Pipeline.launchCred (fun d => tallyAt (cell (sh x.2.1 d) x.1) x.2.2 (amt x.1)) c) :=
      Pipeline.launchCred_add (fun d => tly d l) (fun d => tallyAt (cell (sh x.2.1 d) x.1) x.2.2 (amt x.1)) c
    have h1 : (Pipeline.launchCred (fun d => tallyAt (cell (sh x.2.1 d) x.1) x.2.2 (amt x.1)) c : sProp 𝕄) ⊢ crOf c x :=
      Pipeline.launchCred_tallyAt x.1 (sh x.2.1) (shE x.2.1).symm (shE x.2.1).right_inv (shE x.2.1).left_inv x.2.2 (amt x.1) c
    rw [e]
    unfold sepL
    iintro ⟨H, H1⟩
    isplitl [H1]; · iapply h1 $$ H1
    iapply ih $$ H

def rcvCr (d : Bool) (j : Fin 2) (h : ℕ) : Due := (.dma (rcvS d (kf (h + 1)) j), sft d, 10 * h + 10)
def crdCr (d : Bool) (j : Fin 2) (h : ℕ) : Due := (.reg (crdS d (kf (h + 1)) j), sft (!d), 10 * h + 5)
def laneCr (d : Bool) (j : Fin 2) : List Due := (List.range (nh d j)).map (rcvCr d j) ++ ((List.range (nh d j)).drop 3).map (crdCr d j)
def allCr : List Due := laneCr false 0 ++ (laneCr true 0 ++ (laneCr false 1 ++ (laneCr true 1 ++ (List.finRange 15).map asendDue)))

theorem due1_nodup : due1.Nodup := by decide +kernel
theorem allCr_nodup : allCr.Nodup := by decide +kernel
theorem allCr_due : ∀ x ∈ allCr, x ∈ due1 := by decide +kernel

theorem creds_all : (Pipeline.launchCred (fun d => tly d due0) c : sProp 𝕄)
    ⊢ iprop(cred (tallyAt (cell c (.reg barS)) 1 2) ∗ sepL (crOf (F := F) c) allCr) := by
  have h2 : sepL (crOf (F := F) c) due1 ⊢ sepL (crOf c) allCr := sepL_sub _ _ _ due1_nodup allCr_nodup allCr_due
  have hb (s : ℕ) : crOf (F := F) c (.reg barS, s, 1) = cred (tallyAt (cell c (.reg barS)) 1 1) := by unfold crOf; rw [amt_bar]
  have e : sepL (crOf (F := F) c) due0 = iprop(crOf c (.reg barS, sft true, 1) ∗ crOf c (.reg barS, sft false, 1) ∗ sepL (crOf c) due1) := rfl
  iintro H
  ihave H := (creds_list (F := F) c due0) $$ H
  ihave H := (Entails.of_eq e) $$ H
  icases H with ⟨H1, H2, H⟩
  ihave H1 := (Entails.of_eq (hb _)) $$ H1
  ihave H2 := (Entails.of_eq (hb _)) $$ H2
  isplitl [H1 H2]
  · rw [show (tallyAt (cell c (.reg barS)) 1 2 : CellTallies nD τ sig ℕ) = tallyAt (cell c (.reg barS)) 1 1 + tallyAt (cell c (.reg barS)) 1 1 from
      (tallyAt_add _ _ 1 1).symm]
    iapply (cred_add _ _).2
    isplitl [H1]; · iexact H1
    iexact H2
  iapply h2 $$ H

/-! ## What a device starts from -/

theorem lane_ghost (d : Bool) (j : Fin 2) :
    iprop(sepL (tkOf (F := F) c) (laneTk d j) ∗ sepL (crOf (F := F) c) (laneCr d j)) ⊢ tokL d j c 0 2 0 1 := by
  have eS (h : ℕ) : iprop(tkOf (F := F) c (sndTk d j h) ∗ tkOf c (rcvTk d j h)) ⊢ tkS d j c h := by
    unfold tkOf sndTk rcvTk tkS nxt
    dsimp only
    rw [sh_zero]
  have eC (h : ℕ) : tkOf (F := F) c (crdTk d j h) ⊢ tkC d j c h := .rfl
  have eR (h : ℕ) : crOf (F := F) c (rcvCr d j h) ⊢ crR d j c h := .rfl
  have eD (h : ℕ) : crOf (F := F) c (crdCr d j h) ⊢ crC d j c h := .rfl
  unfold laneTk laneCr tokL fam
  iintro ⟨H, H'⟩
  ihave H := (sepL_append _ _ _).1 $$ H
  icases H with ⟨H1, H⟩
  ihave H := (sepL_append _ _ _).1 $$ H
  icases H with ⟨H2, H3⟩
  ihave H' := (sepL_append _ _ _).1 $$ H'
  icases H' with ⟨H4, H5⟩
  ihave H1 := (Entails.of_eq (sepL_map (tkOf (F := F) c) (sndTk d j) _)) $$ H1
  ihave H2 := (Entails.of_eq (sepL_map (tkOf (F := F) c) (rcvTk d j) _)) $$ H2
  ihave H3 := (Entails.of_eq (sepL_map (tkOf (F := F) c) (crdTk d j) _)) $$ H3
  ihave H4 := (Entails.of_eq (sepL_map (crOf (F := F) c) (rcvCr d j) _)) $$ H4
  ihave H5 := (Entails.of_eq (sepL_map (crOf (F := F) c) (crdCr d j) _)) $$ H5
  have hS := sepL_mono (Φ := fun h => iprop(tkOf (F := F) c (sndTk d j h) ∗ tkOf c (rcvTk d j h))) (Ψ := tkS d j c) (List.range (nh d j)) (fun h _ => eS h)
  have hC := sepL_mono (Φ := fun h => tkOf (F := F) c (crdTk d j h)) (Ψ := tkC d j c) ((List.range (nh d j)).drop 3) (fun h _ => eC h)
  have hR := sepL_mono (Φ := fun h => crOf (F := F) c (rcvCr d j h)) (Ψ := crR d j c) (List.range (nh d j)) (fun h _ => eR h)
  have hD := sepL_mono (Φ := fun h => crOf (F := F) c (crdCr d j h)) (Ψ := crC d j c) ((List.range (nh d j)).drop 3) (fun h _ => eD h)
  rw [List.drop_zero]
  isplitl [H1 H2]
  · iapply hS
    iapply (sepL_sep (fun h => tkOf (F := F) c (sndTk d j h)) (fun h => tkOf c (rcvTk d j h)) (List.range (nh d j)))
    isplitl [H1]; · iexact H1
    iexact H2
  isplitl [H3]; · iapply hC $$ H3
  isplitl [H4]; · iapply hR $$ H4
  iapply hD $$ H5

theorem ex_ghost : sepL (tkOf (F := F) c) exTk
    ⊢ sepL (fun i : Fin 15 => iprop(dutyTok ER (cell c (.dma (asndS (aoff i)))) 0 false
        ∗ dutyTok ER (cell (sh (i.val + 1) c) (.dma (arcvS (aoff i)))) 0 false)) (List.finRange 15) := by
  unfold exTk
  iintro H
  ihave H := (sepL_append _ _ _).1 $$ H
  icases H with ⟨H1, H2⟩
  ihave H1 := (Entails.of_eq (sepL_map (tkOf (F := F) c) (fun i : Fin 15 => (.dma (asndS (aoff i)), 0, false, 0)) _)) $$ H1
  ihave H2 := (Entails.of_eq (sepL_map (tkOf (F := F) c) (fun i : Fin 15 => (.dma (arcvS (aoff i)), 0, false, i.val + 1)) _)) $$ H2
  have e1 : sepL (fun i : Fin 15 => tkOf (F := F) c (.dma (asndS (aoff i)), 0, false, 0)) (List.finRange 15)
      ⊢ sepL (fun i : Fin 15 => dutyTok ER (cell c (.dma (asndS (aoff i)))) 0 false) (List.finRange 15) :=
    sepL_mono _ fun i _ => by unfold tkOf; dsimp only; rw [sh_zero]
  ihave H1 := e1 $$ H1
  iapply (sepL_sep (fun i : Fin 15 => (dutyTok ER (cell c (.dma (asndS (aoff i)))) 0 false : sProp 𝕄)) _ (List.finRange 15))
  isplitl [H1]; · iexact H1
  unfold tkOf; iexact H2

theorem ghost_intro :
    iprop(sepL (tkOf (F := F) c) allTk ∗ (cred (tallyAt (cell c (.reg barS)) 1 2) ∗ sepL (crOf (F := F) c) allCr) ∗ bigSep ownS (at0 (F := F) c)) ⊢ Ghost c := by
  unfold allTk allCr Ghost
  iintro ⟨H, ⟨Hb, H'⟩, Hat⟩
  ihave H := (sepL_append _ _ _).1 $$ H
  icases H with ⟨Hbt, H⟩
  ihave H := (sepL_append _ _ _).1 $$ H
  icases H with ⟨H1, H⟩
  ihave H := (sepL_append _ _ _).1 $$ H
  icases H with ⟨H2, H⟩
  ihave H := (sepL_append _ _ _).1 $$ H
  icases H with ⟨H3, H⟩
  ihave H := (sepL_append _ _ _).1 $$ H
  icases H with ⟨H4, He⟩
  ihave H' := (sepL_append _ _ _).1 $$ H'
  icases H' with ⟨H1', H'⟩
  ihave H' := (sepL_append _ _ _).1 $$ H'
  icases H' with ⟨H2', H'⟩
  ihave H' := (sepL_append _ _ _).1 $$ H'
  icases H' with ⟨H3', H'⟩
  ihave H' := (sepL_append _ _ _).1 $$ H'
  icases H' with ⟨H4', He'⟩
  ihave He' := (Entails.of_eq (sepL_map (crOf (F := F) c) asendDue (List.finRange 15))) $$ He'
  have eb : sepL (tkOf (F := F) c) barTk = iprop(dutyTok ER (cell (prv false c) (.reg barS)) 0 false ∗ dutyTok ER (cell (prv true c) (.reg barS)) 0 true ∗ emp) := rfl
  ihave Hbt := (Entails.of_eq eb) $$ Hbt
  icases Hbt with ⟨Hb1, Hb2, -⟩
  isplitl [Hb1 Hb2 Hb]; · iframe
  isplitl [H1 H2 H3 H4 H1' H2' H3' H4']
  · isplitl [H1 H1']
    · iapply (lane_ghost c false 0); isplitl [H1]; · iexact H1
      iexact H1'
    isplitl [H2 H2']
    · iapply (lane_ghost c true 0); isplitl [H2]; · iexact H2
      iexact H2'
    isplitl [H3 H3']
    · iapply (lane_ghost c false 1); isplitl [H3]; · iexact H3
      iexact H3'
    · iapply (lane_ghost c true 1); isplitl [H4]; · iexact H4
      iexact H4'
  isplitl [He]; · iapply (ex_ghost c) $$ He
  isplitl [He']; · unfold arCred; iexact He'
  iexact Hat

end Cert.KernelIdeal.Ring

end
-- ==== Proof.Point.lean ====
/-
The kernel's one grid point: what the pipeline hands the body, what the body hands back, and that the body meets it.
-/
module

public import Idealize.ShloMosaic.Lib.Pipeline.Launch
public import proofs.«01_k».proof.Proof.Gen.KernelIdeal.Launch
public import proofs.«01_k».proof.Proof.Gen.KernelIdeal.Points
public import proofs.«01_k».proof.Proof.Body

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg) (K : Dev nD → SemLoc sig → ℕ)
variable (c : Dev nD)

/-- What the body starts from, and what it leaves, beside the staged blocks. -/
def start : sProp 𝕄 := iprop(∃ K, recs m ρ K ∗ Ghost (F := F) c)
def Φ₀ : sProp 𝕄 := iprop(start m ρ c ∗ Scratch (F := F) c)
def Φ₁ : sProp 𝕄 := iprop(Scratch (F := F) c ∗ bigSep ownS (zero (F := F) c))

/-- The pipeline's proof data: the staged blocks before and after the point, and what is owed. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => tly c due0
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

/-- A whole staged buffer at known contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

def ptPre : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def ptPost : sProp 𝕄 :=
  iprop(Φ₁ (F := F) c ∗ (dats m ρ 0 c).owesAt 0 t0_0.succ ∗ stg c cc0_stg0_0 (xstg m ρ c) ∗ stg c cc0_stg1_0 (wstg m ρ c)
    ∗ stg c cc0_stg2_0 (outAt m ρ c))

theorem before_x (d) : (dats m ρ 0 c).before (0 : Fin 3) t0_0 d = xstg m ρ c := by
  unfold Dat.before; rw [if_pos (fetch0_0 t0_0)]; rfl
theorem before_w (d) : (dats m ρ 0 c).before (1 : Fin 3) t0_0 d = wstg m ρ c := by
  unfold Dat.before; rw [if_pos (fetch0_1 t0_0)]; rfl

/-- The body at the point: reading the device's number, then the sequence of its blocks. -/
theorem sound_point : ptPre m ρ c ⊢ wp frame (wpE (defs₀ (F := F)) 𝒱₀ (c : Thread nD τ) none) Set.univ (bodyAt0 t0_0) (fun _ => ptPost m ρ c) := by
  rw [body_eq_blocks]
  simp only [Prog.lift, Prog.bind_op, Prog.bind_ret, wp_deviceId]
  unfold ptPre Φ₀ start
  iintro ⟨⟨⟨%K, #HR, HG⟩, HS⟩, Ho, ⟨%d0, %f0, %h0, Hx⟩, ⟨%d1, %f1, %h1, Hw⟩, ⟨%d2, %f2, %h2, Hy⟩⟩
  have hx : f0 = xstg m ρ c := h0.trans (before_x m ρ c d0)
  have hw : f1 = wstg m ρ c := h1.trans (before_w m ρ c d1)
  subst hx
  subst hw
  unfold Dat.owesAt Pipeline.owesWithin
  icases Ho with ⟨%W, %hW, HO⟩
  rw [show (dats m ρ 0 c).owed t0_0.castSucc = tly c due0 from rfl]
  iapply (body_from_mid m ρ K c (fun _ => ptPost m ρ c))
  isplitr; · iexact HR
  isplitl [HG HS HO Hx Hw Hy]
  · iapply (body_mid m ρ K c f2)
    isplitr; · iexact HR
    isplitl [HO]; · unfold Ow; iexists W; iexact HO
    isplitl [HG]; · iexact HG
    isplitl [HS]; · iexact HS
    isplitl [Hx]; · unfold xWhole; iexact Hx
    isplitl [Hw]; · unfold wPt; iexact Hw
    unfold outIs; iexact Hy
  unfold BodyEnd Ow xWhole wPt outIs
  iintro ⟨⟨%W', HO⟩, Hx, Hw, Hy, HS, Hz⟩
  unfold ptPost Φ₁ Dat.owesAt Pipeline.owesWithin
  rw [show (dats m ρ 0 c).owed t0_0.succ = 0 from rfl]
  isplitl [HS Hz]
  · isplitl [HS]; · iexact HS
    iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hy

theorem row_point : defs₀ (F := F) .tc cfg0.body (cfg0.bodyArgs t0_0 (cfg0.slots t0_0)) = bodyAt0 t0_0 := by
  chain_rfl

/-- The pipeline's obligation on the body of device `c`. -/
theorem body_obligation : BodyObligation (dats (F := F) m ρ 0 c) (defs₀ (F := F)) 𝒱₀ 0 Set.univ := fun t => by
  rw [fin_N0 t, bigSep_W, bigSep_W, row_point]
  have h := sound_point (F := F) m ρ c
  generalize bodyAt0 (F := F) t0_0 = p at h ⊢
  simp only [owns_stg]
  exact h

end Cert.KernelIdeal.Ring

end
-- ==== Proof.Run.lean ====
/-
The launch: sixteen devices, each with its semaphores at zero, run the kernel to its end, and every device's result
array holds the rescaled product.
-/
module

public import Idealize.ShloMosaic.Lib.Pipeline.Launch
public import Idealize.ShloMosaic.Lib.Pipeline.CollectiveSegs
public import proofs.«01_k».proof.Proof.Gen.KernelIdeal.Launch
public import proofs.«01_k».proof.Proof.Gen.KernelIdeal.Points
public import proofs.«01_k».proof.Proof.Deal
public import proofs.«01_k».proof.Proof.Point

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD → SemLoc sig → ℕ)
variable (c : Dev nD)

/-! ## The semaphores at launch -/

/-- The kernel's own semaphores, numbered: fifty-six of the transfers' and twelve of the credits'. -/
def osem (k : Fin 68) : SemLoc sig :=
  if h : k.val < 56 then .dma ⟨3 + k.val, by show 3 + k.val < 59; omega⟩ else .reg ⟨k.val - 56, by show k.val - 56 < 13; omega⟩

set_option maxHeartbeats 2000000 in
theorem own_scoped : ∀ k, (osem k).isScoped .tc = true := by decide +kernel
theorem own_inj : Function.Injective osem := by
  intro a b h
  have e : ∀ k : Fin 68, osem k = if h : k.val < 56 then .dma ⟨3 + k.val, by show 3 + k.val < 59; omega⟩ else .reg ⟨k.val - 56, by show k.val - 56 < 13; omega⟩ := fun _ => rfl
  rw [e, e] at h
  refine Fin.ext ?_
  split at h <;> split at h
  · have := congrArg (fun s : SemLoc sig => match s with | .dma q => q.val | .reg q => q.val) h
    simp only at this; omega
  · cases h
  · cases h
  · have := congrArg (fun s : SemLoc sig => match s with | .dma q => q.val | .reg q => q.val) h
    simp only at this; omega
theorem own_disj : ∀ k w s, osem k ≠ .dma ((cfg0.spec w).sem s) := by decide +kernel
theorem ownSemFacts : Pipeline.OwnSemFacts cfg0.spec osem := ⟨own_scoped, own_inj, own_disj⟩

/-- The semaphores of the protocol are the kernel's own and the launch's unscoped one. -/
theorem own_split : ownS = Finset.univ.map ⟨osem, own_inj⟩ ∪ Finset.univ.filter (fun sm : SemLoc sig => ¬ sm.isScoped .tc) := by decide +kernel
theorem own_disjoint : Disjoint (Finset.univ.map ⟨osem, own_inj⟩) (Finset.univ.filter (fun sm : SemLoc sig => ¬ sm.isScoped .tc)) := by decide +kernel

abbrev own0 : sProp 𝕄 := Pipeline.ownSems0 (Ix := ℕ) (Name := ℕ) (U := UU) (Lvl := ℕ) (Val := Elt F) (τ := τ) osem c

theorem sems_eq : iprop(own0 (F := F) c ∗ unscopedSems0 c) = bigSep ownS (zero c) := by
  rw [own_split, bigSep_union own_disjoint, bigSep_map]
  rfl

/-! ## Invariants -/

def recs₀ (K : Dev nD → SemLoc sig → ℕ) : sProp 𝕄 :=
  bigSep Finset.univ (fun c => bigSep ownS (fun sm => iprop(cellInv ER (ringRd m ρ) (K c sm) (cell c sm) ∗ reached ER (cell c sm) 0)))
instance recs₀_persistent : BI.Persistent (recs₀ m ρ K) := by unfold recs₀; infer_instance

/-- What one device's share of the global step gives. -/
def alloced : sProp 𝕄 :=
  iprop(bigSep ownS (fun sm => iprop(∃ κ : ℕ, iprop(cellInv ER (ringRd m ρ) κ (cell c sm) ∗ reached ER (cell c sm) 0))) ∗ bigSep ownS (at0 (F := F) c)
    ∗ sepL (tkOf (F := F) c) allTk)

theorem core_alloc : iprop(own0 (F := F) c ∗ unscopedSems0 c ∗ dealt m ρ c) ⊢ |={Set.univ}=> alloced m ρ c := by
  have ha : iprop(bigSep ownS (zero (F := F) c) ∗ bigSep ownS (fun sm => roundState ER (ringRd m ρ) (cell c sm) 0))
      ⊢ (|={Set.univ}=> bigSep ownS (fun sm => iprop(∃ κ : ℕ, cellInv ER (ringRd m ρ) κ (cell c sm))) : sProp 𝕄) := by
    rw [← bigSep_sep']
    exact (bigSep_mono fun sm _ => (Rounds.body_intro ER (ringRd m ρ) (cell c sm)).trans inv_alloc).trans (bigSep_fupd _ _)
  have hr : iprop(bigSep ownS (fun sm => iprop(∃ κ : ℕ, cellInv ER (ringRd m ρ) κ (cell c sm))) ∗ bigSep ownS (fun sm => reached ER (cell c sm) 0))
      ⊢ (bigSep ownS (fun sm => iprop(∃ κ : ℕ, iprop(cellInv ER (ringRd m ρ) κ (cell c sm) ∗ reached ER (cell c sm) 0))) : sProp 𝕄) := by
    rw [← bigSep_sep']
    have h1 : ∀ sm, iprop((∃ κ : ℕ, cellInv ER (ringRd m ρ) κ (cell c sm)) ∗ reached ER (cell c sm) 0)
        ⊢ (iprop(∃ κ : ℕ, iprop(cellInv ER (ringRd m ρ) κ (cell c sm) ∗ reached ER (cell c sm) 0)) : sProp 𝕄) := fun sm => by
      iintro ⟨⟨%κ, H⟩, H'⟩
      iexists κ
      isplitl [H]; · iexact H
      iexact H'
    exact bigSep_mono fun sm _ => h1 sm
  have hz : iprop(own0 (F := F) c ∗ unscopedSems0 c) ⊢ bigSep ownS (zero (F := F) c) := Entails.of_eq (sems_eq c)
  unfold dealt
  iintro ⟨Ho, Hu, Hst, Hat, Hre, Htk⟩
  ihave Hv := hz $$ [Ho Hu]
  · isplitl [Ho]; · iexact Ho
    iexact Hu
  imod ha $$ [Hv Hst] with HI
  · isplitl [Hv]; · iexact Hv
    iexact Hst
  imodintro
  unfold alloced
  isplitl [HI Hre]
  · iapply hr
    isplitl [HI]; · iexact HI
    iexact Hre
  isplitl [Hat]; · iexact Hat
  iexact Htk

/-- What a device holds after the global step: everyone's invariants, its positions and its tokens. -/
def held : sProp 𝕄 := iprop(∃ K, recs₀ m ρ K ∗ bigSep ownS (at0 (F := F) c) ∗ sepL (tkOf (F := F) c) allTk)

theorem names :
    bigSep Finset.univ (fun c : Dev nD => bigSep ownS (fun sm => iprop(∃ κ : ℕ, iprop(cellInv ER (ringRd m ρ) κ (cell c sm) ∗ reached ER (cell c sm) 0))))
      ⊢ (∃ K, recs₀ m ρ K : sProp 𝕄) := by
  have h1 : ∀ c : Dev nD, bigSep ownS (fun sm => iprop(∃ κ : ℕ, iprop(cellInv ER (ringRd m ρ) κ (cell c sm) ∗ reached ER (cell c sm) 0)))
      ⊢ iprop(∃ k : SemLoc sig → ℕ, bigSep ownS (fun sm => iprop(cellInv ER (ringRd (F := F) m ρ) (k sm) (cell c sm) ∗ reached ER (cell c sm) 0))) := fun c =>
    BI.bigSep_exists_pi ownS (fun (sm : SemLoc sig) (κ : ℕ) => iprop(cellInv ER (ringRd (F := F) m ρ) κ (cell c sm) ∗ reached ER (cell c sm) 0))
  exact (bigSep_mono fun c _ => h1 c).trans
    (BI.bigSep_exists_pi Finset.univ (fun (c : Dev nD) (k : SemLoc sig → ℕ) =>
      bigSep ownS (fun sm => iprop(cellInv ER (ringRd (F := F) m ρ) (k sm) (cell c sm) ∗ reached ER (cell c sm) 0))))

theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup : bigSep Finset.univ (alloced m ρ) ⊢ bigSep Finset.univ (held m ρ) := by
  have e : bigSep Finset.univ (alloced m ρ) = iprop(bigSep Finset.univ (fun c : Dev nD => bigSep ownS (fun sm =>
        iprop(∃ κ : ℕ, iprop(cellInv ER (ringRd m ρ) κ (cell c sm) ∗ reached ER (cell c sm) 0))))
      ∗ bigSep Finset.univ (fun c : Dev nD => iprop(bigSep ownS (at0 (F := F) c) ∗ sepL (tkOf (F := F) c) allTk))) := by
    rw [← bigSep_sep']; rfl
  rw [e]
  iintro ⟨HI, H⟩
  ihave HI := (names m ρ) $$ HI
  icases HI with ⟨%K, #HI⟩
  iapply (spread (R := recs₀ m ρ K) (Φ := fun c => iprop(bigSep ownS (at0 (F := F) c) ∗ sepL (tkOf (F := F) c) allTk)) (Ψ := held m ρ)
    (fun c => by unfold held; iintro ⟨H, H'⟩; iexists K; isplitl [H]; · iexact H
                 iexact H'))
  isplitr; · iexact HI
  iexact H

/-- The global step: every device's semaphores become the protocol's. -/
theorem glob : bigSep Finset.univ (fun c => iprop(own0 (F := F) c ∗ unscopedSems0 c ∗ dealt m ρ c)) ⊢ |={Set.univ}=> bigSep Finset.univ (held m ρ) :=
  ((bigSep_mono fun c _ => core_alloc m ρ c).trans (bigSep_fupd _ _)).trans (BI.fupd_mono (regroup m ρ))

/-! ## Into and out of the point -/

theorem start_intro :
    iprop(Pipeline.unscopedRestP Pipeline.Prefetch.none cfg0.spec c (fun b => m ((c : Thread nD τ).loc b)) ∗ levAts L lv
        ∗ Pipeline.launchCred (fun d => tly d due0) c ∗ prngReg c (ρ c) ∗ held m ρ c)
      ⊢ |={Set.univ}=> iprop(start m ρ c ∗ emp) := by
  unfold held
  iintro ⟨-, Hlev, Hcr, -, ⟨%K, HI, Hat, Htk⟩⟩
  ihave Hcr := (creds_all (F := F) c) $$ Hcr
  imodintro
  isplitl
  · unfold start
    iexists K
    isplitl [HI Hlev]
    · unfold recs
      isplitl [HI]; · unfold recs₀; iexact HI
      iexact Hlev
    iapply (ghost_intro c)
    isplitl [Htk]; · iexact Htk
    isplitl [Hcr]; · iexact Hcr
    iexact Hat
  · iempintro

theorem scratch_eq : (Pipeline.scopedRest (Ix := ℕ) (Name := ℕ) (U := UU) (Lvl := ℕ) (Val := Elt F) cfg0.spec c : sProp 𝕄) = Scratch c := by
  rw [scopedRest0_eq]; rfl

theorem enter :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem leave :
    (dats m ρ 0 c).Φ (Fin.last cfg0.N) ⊢ iprop(unscopedSems0 c ∗ Pipeline.ownSems0 osem c ∗ Pipeline.scopedRest cfg0.spec c) := by
  have hz : bigSep ownS (zero (F := F) c) ⊢ iprop(own0 (F := F) c ∗ unscopedSems0 c) := Entails.of_eq (sems_eq c).symm
  rw [show (dats m ρ 0 c).Φ (Fin.last cfg0.N) = Φ₁ (F := F) c from rfl, scratch_eq]
  unfold Φ₁
  iintro ⟨Hr, Hz⟩
  ihave Hz := hz $$ Hz
  icases Hz with ⟨Ho, Hu⟩
  isplitl [Hu]; · iexact Hu
  isplitl [Ho]; · iexact Ho
  iexact Hr

theorem due0_above : above 0 due0 = true := by decide +kernel

theorem waits : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayW (F := F) c _ 0 due0 (by decide) (above_iff due0_above)
    · exact mayW (F := F) c _ 0 [] (by decide) (fun x hx => absurd hx List.not_mem_nil)

theorem share_eq (w : Fin cfg0.W) : (dats m ρ 0 c).share w = fullShare := by unfold Pipeline.Dat.share; split <;> rfl

def u₀ : UU := (initOf (Pipeline.cells cfgs cellOf_inj) (Pipeline.launchToks cfgs cellOf_inj), initOf allCells allToks)

/-- The arrays after the run. -/
def finalA (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with the counters at zero, every fair execution of the sixteen devices ends, with the
arrays as computed and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => tly d due0) (howed₀ := fun _ => rfl) (howedN := fun _ => rfl)
    (L := L) (lv := lv) (hL := L_of_ne) (hwaits := waits m ρ)
    (G := dealt m ρ) (G' := held m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The two operands' arrays are as they were. -/
theorem final_x : finalA m ρ c (0 : Fin 3) = (s₀ m ρ).mem (win0_0.arr.view.loc (c : Thread nD τ)) :=
  (dats (F := F) m ρ 0 c).arrAt_in (0 : Fin 3) rfl _
theorem final_w : finalA m ρ c (1 : Fin 3) = (s₀ m ρ).mem (win0_1.arr.view.loc (c : Thread nD τ)) :=
  (dats (F := F) m ρ 0 c).arrAt_in (1 : Fin 3) rfl _

end Cert.KernelIdeal.Ring

end
-- ==== Proof.Quotient.lean ====
/-
The rescaling of one entry, over the extended reals: multiplying by the quotient of 127 and the largest magnitude, as
the kernel does, against dividing by the quotient of the largest magnitude and 127, as the reference does.
-/
module

public import Idealize.ShloMosaic.PureOps.Ideal.Laws
public import Idealize.ShloMosaic.Lib.IdealHost

@[expose] public section

noncomputable section

namespace Cert.Rescale

open Idealize.ShloMosaic

/-- The word of the constant 127. -/
theorem word_127 : Ideal.ofBits .f32 0x42FE0000#32 = ((127 : ℝ) : EReal) := by
  simp [Ideal.ofBits, Ideal.ieee, -EReal.coe_mul]; norm_num

/-- The word of minus infinity. -/
theorem word_bot : Ideal.ofBits .f32 0xFF800000#32 = (⊥ : EReal) := by
  simp [Ideal.ofBits, Ideal.ieee]

/-- One entry `y`, divided by `g / 127`, rounded, clipped between `lo` and 127 and multiplied by `g / 127` again. -/
def quant (lo g y : EReal) : EReal :=
  min ((127 : ℝ) : EReal) (max lo (Ideal.liftRound Ideal.roundHalfEven (Ideal.div y (Ideal.div g ((127 : ℝ) : EReal)))))
    * Ideal.div g ((127 : ℝ) : EReal)

theorem coe_127_ne : ((127 : ℝ) : EReal) ≠ 0 := by
  rw [Ne, EReal.coe_eq_zero]; norm_num

/-- Off zero the product with `127 / g` is the quotient by `g / 127`. -/
theorem mul_div_eq (g y : EReal) (hg : g ≠ 0) :
    y * Ideal.div ((127 : ℝ) : EReal) g = Ideal.div y (Ideal.div g ((127 : ℝ) : EReal)) := by
  have hi : g * (((127 : ℝ) : EReal))⁻¹ = 0 ↔ g = 0 := by
    rw [mul_eq_zero, ← EReal.coe_inv, EReal.coe_eq_zero]
    constructor
    · rintro (h | h)
      · exact h
      · norm_num at h
    · exact Or.inl
  unfold Ideal.div
  rw [if_neg hg, if_neg coe_127_ne]
  by_cases h0 : g * (((127 : ℝ) : EReal))⁻¹ = 0
  · exact absurd (hi.mp h0) hg
  · rw [if_neg h0, EReal.mul_inv, ← EReal.coe_inv, ← EReal.coe_inv, inv_inv, mul_comm g⁻¹]

/-- The kernel's rescaling of an entry is the reference's, whatever the largest magnitude: at zero both end in a
product with zero. -/
theorem quant_eq (lo g y : EReal) :
    min ((127 : ℝ) : EReal) (max lo (Ideal.liftRound Ideal.roundHalfEven (y * Ideal.div ((127 : ℝ) : EReal) g)))
      * Ideal.div g ((127 : ℝ) : EReal) = quant lo g y := by
  unfold quant
  by_cases hg : g = 0
  · have h0 : Ideal.div g ((127 : ℝ) : EReal) = 0 := by rw [hg]; exact Ideal.zero_div coe_127_ne
    rw [h0, mul_zero, mul_zero]
  · rw [mul_div_eq g y hg]

end Cert.Rescale

end
-- ==== Proof.Reference.lean ====
/-
What the reference computes, entry by entry: the product of the two whole matrices, its largest magnitude, and each
entry rescaled by it.
-/
module

public import proofs.«01_k».proof.Proof.Quotient
public import proofs.«01_k».proof.Proof.Gen.ReferenceIdeal.Run
public import Idealize.ShloMosaic.Lib.MatmulPlain
public import Idealize.ShloMosaic.Lib.ValueIdx

@[expose] public section

noncomputable section

namespace Cert.Whole

open Cert.ReferenceIdeal Cert.ReferenceIdeal.Gen
open Idealize.ShloMosaic
open Idealize.ShloMosaic.ValueIdx
open Idealize.ShloMosaic.TcCoe
open Idealize.SL.Sem
open scoped BigOperators

/-- The product of the whole matrices. -/
def product (x : FVec Ideal S4096x4096 .f32) (w : FVec Ideal S4096x2048 .f32) : FVec Ideal S4096x2048 .f32 :=
  fun i => ∑ k : Fin 4096, x (ix2 (n0 := 4096) (n1 := 4096) (i 0) k) * w (ix2 (n0 := 4096) (n1 := 2048) k (i 1))

/-- The host's product is that one. -/
theorem dot_eq (x : FVec Ideal S4096x4096 .f32) (w : FVec Ideal S4096x2048 .f32) :
    Host.dotGeneral (F := Ideal) dot_S4096x4096_S4096x2048_S4096x2048_1_0_0_1_n_n none x w = product x w := by
  funext i
  have h := Ideal.matmul_plain_apply (M := 4096) (K := 4096) (N := 2048) none x w (fun _ => (0 : EReal)) (i 0) (i 1)
  have hi : i = ix2 (n0 := 4096) (n1 := 2048) (i 0) (i 1) := eq_ix2 i
  show FloatOps.dotGeneral (F := Ideal) _ none _ x w i = product x w i
  rw [Ideal.dotGeneral_apply, ← zero_add (∑ k : _, _)]
  rw [← hi, zero_add] at h
  rw [zero_add]
  refine Eq.trans ?_ h
  rw [Ideal.matmul_apply, zero_add]
  rfl

/-- The largest magnitude of an array, as the host takes it. -/
def largest (y : FVec Ideal S4096x2048 .f32) : EReal :=
  Host.reduce (FloatOps.maximumf (F := Ideal) (φ := .f32)) (Host.absf y) (constant (F := Ideal) S_ .f32 0xFF800000#32) reducesTo_S4096x2048_S_d0_1 h_S_ (Shape.Idx.first h_S_)

/-- It is the least bound of the magnitudes. -/
theorem largest_le (y : FVec Ideal S4096x2048 .f32) (b : EReal) :
    largest y ≤ b ↔ ∀ i : S4096x2048.Idx, max (y i) (-(y i)) ≤ b := by
  unfold largest
  rw [Host.reduce_eq_fold]
  have hf : (Finset.univ.filter fun i => reducesTo_S4096x2048_S_d0_1.drop i = Shape.Idx.first h_S_) = (Finset.univ : Finset S4096x2048.Idx) :=
    Finset.filter_true_of_mem fun i _ => funext fun a => a.elim0
  rw [hf]
  have hb : (constant (F := Ideal) S_ .f32 0xFF800000#32) (Shape.Idx.first h_S_) = (⊥ : EReal) := Rescale.word_bot
  rw [hb]
  show Finset.fold max (⊥ : EReal) (fun i => max (y i) (-(y i))) Finset.univ ≤ b ↔ _
  rw [Finset.fold_max_le]
  exact ⟨fun h i => h.2 i (Finset.mem_univ i), fun h => ⟨bot_le, fun i _ => h i⟩⟩

/-- The lower clip, as a constant of the extended reals. -/
def lo : EReal := Ideal.ofBits .f32 0xC2FE0000#32

/-- The reference's result: the product's entries rescaled by its largest magnitude. -/
def result (x : FVec Ideal S4096x4096 .f32) (w : FVec Ideal S4096x2048 .f32) : FVec Ideal S4096x2048 .f32 :=
  fun i => Rescale.quant lo (largest (product x w)) (product x w i)

theorem reduce_at (y : FVec Ideal S4096x2048 .f32) (j : S_.Idx) :
    Host.reduce FloatOps.maximumf (Host.absf y) (constant (F := Ideal) S_ .f32 0xFF800000#32) reducesTo_S4096x2048_S_d0_1 h_S_ j = largest y :=
  congrArg (Host.reduce FloatOps.maximumf (Host.absf y) (constant (F := Ideal) S_ .f32 0xFF800000#32) reducesTo_S4096x2048_S_d0_1 h_S_)
    (funext fun a => a.elim0)

/-- The reference ends with that result and keeps its two arguments. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun r h c => ⟨(h c).1.trans (by
      rw [dot_eq]
      unfold result
      generalize product (m ((c.tc : Thread nD τ).loc main_arg0)) (m ((c.tc : Thread nD τ).loc main_arg1)) = y
      rw [show Host.reduce FloatOps.maximumf (Host.absf y) (constant (F := Ideal) S_ .f32 0xFF800000#32) reducesTo_S4096x2048_S_d0_1 h_S_
        = fun _ => largest y from funext (reduce_at y)]
      generalize largest y = g
      funext i
      show min (Ideal.ofBits .f32 0x42FE0000#32) (max (Ideal.ofBits .f32 0xC2FE0000#32) (Ideal.liftRound Ideal.roundHalfEven
        (Ideal.div (y i) (Ideal.div g (Ideal.ofBits .f32 0x42FE0000#32))))) * Ideal.div g (Ideal.ofBits .f32 0x42FE0000#32) = _
      rw [Rescale.word_127]
      rfl), (h c).2⟩)
    (Cert.ReferenceIdeal.Value.run (F := Ideal) m ρ)

end Cert.Whole

end
-- ==== Proof.Value.lean ====
/-
What the arrays hold after the run, and the block products over the extended reals: every entry of a device's unscaled
result is the sum of products of a row of some device's block and a column of its own.
-/
module

public import proofs.«01_k».proof.Proof.Run
public import proofs.«01_k».proof.Proof.Reference
public import Idealize.ShloMosaic.Lib.ValueLayout
public import Idealize.ShloMosaic.Lib.Layout
public import Idealize.ShloMosaic.PureOps.Reduce

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.Sem
open Idealize.ShloMosaic.ValueIdx
open scoped BigOperators

/-! ## The arrays and their staged blocks -/

section Arrays

variable {F : FTy → Type} [FloatOps F]
variable (m : (ℓ : Loc nD τ sig) → Buf (Elt F) ℓ) (ρ : Dev nD → PrngReg) (c : Dev nD)

/-- The staged block of `x` is the device's whole block. -/
theorem xstg_eq : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The staged block of `w_mat` is the device's whole block. -/
theorem wstg_eq : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The result array ends holding what the body leaves staged. -/
theorem final_o : finalA m ρ c (2 : Fin 3) = outAt m ρ c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (hr _).symm.trans h

end Arrays

/-! ## The products -/

variable (m : (ℓ : Loc nD τ sig) → Buf (Elt Ideal) ℓ) (ρ : Dev nD → PrngReg) (c : Dev nD)

/-- Row `r` of `x` times column `l` of `w`. -/
def dotAt (x : FVec Ideal S256x4096 .f32) (w : FVec Ideal S4096x128 .f32) (r : Fin 256) (l : Fin 128) : EReal :=
  ∑ k : Fin 4096, x (ix2 (n0 := 256) (n1 := 4096) r k) * w (ix2 (n0 := 4096) (n1 := 128) k l)

/-- One entry of the product of device `o`'s rows and device `c`'s columns. -/
def entry (o c : Dev nD) (r : Fin 256) (l : Fin 128) : EReal := dotAt (xstg m ρ o) (wstg m ρ c) r l

/-- The own block's product, entry by entry. -/
theorem k0_pay2_apply (x : FVec Ideal S256x4096 .f32) (w : FVec Ideal S4096x128 .f32) (p : S256x128.Idx) :
    k0_pay2 (F := Ideal) x w p = dotAt x w (p 0) (p 1) := by
  have h := Ideal.matmul_plain_apply (φ₁ := .f32) (φ₂ := .f32) (M := 256) (K := 4096) (N := 128) none
    x w (constant (F := Ideal) S256x128 .f32 0x00000000#32) (p 0) (p 1)
  rw [show (constant (F := Ideal) S256x128 .f32 0x00000000#32) (ix2 (n0 := 256) (n1 := 128) (p 0) (p 1)) = (0 : EReal) from
    Ideal.ofBits_zero_f32, zero_add] at h
  rw [← show p = ix2 (n0 := 256) (n1 := 128) (p 0) (p 1) from eq_ix2 p] at h
  unfold k0_pay2
  rw [shapeCast_self, shapeCast_self]
  exact h

/-- The product of a whole slot, entry by entry. -/
theorem k0_pay9_apply (v : FVec Ideal S1x256x4096 .f32) (w : FVec Ideal S4096x128 .f32) (p : S256x128.Idx) :
    k0_pay9 (F := Ideal) v w p = ∑ k : Fin 4096, v (ix3 (n0 := 1) (n1 := 256) (n2 := 4096) 0 (p 0) k) * w (ix2 (n0 := 4096) (n1 := 128) k (p 1)) := by
  have h := Ideal.matmul_plain_apply (φ₁ := .f32) (φ₂ := .f32) (M := 256) (K := 4096) (N := 128) none
    (shapeCast S256x4096 v shapeCasts_S1x256x4096_S256x4096) w (constant (F := Ideal) S256x128 .f32 0x00000000#32) (p 0) (p 1)
  rw [show (constant (F := Ideal) S256x128 .f32 0x00000000#32) (ix2 (n0 := 256) (n1 := 128) (p 0) (p 1)) = (0 : EReal) from
    Ideal.ofBits_zero_f32, zero_add] at h
  rw [← show p = ix2 (n0 := 256) (n1 := 128) (p 0) (p 1) from eq_ix2 p] at h
  unfold k0_pay9
  rw [shapeCast_self]
  refine Eq.trans h (Finset.sum_congr rfl fun k _ => ?_)
  rw [shapeCast_1ab_ab_apply (a := 256) (b := 4096) v shapeCasts_S1x256x4096_S256x4096 (p 0) k]

/-- The product of half a slot, entry by entry. -/
theorem k0_pay36_apply (v : FVec Ideal S1x128x4096 .f32) (w : FVec Ideal S4096x128 .f32) (p : S128x128.Idx) :
    k0_pay36 (F := Ideal) v w p = ∑ k : Fin 4096, v (ix3 (n0 := 1) (n1 := 128) (n2 := 4096) 0 (p 0) k) * w (ix2 (n0 := 4096) (n1 := 128) k (p 1)) := by
  have h := Ideal.matmul_plain_apply (φ₁ := .f32) (φ₂ := .f32) (M := 128) (K := 4096) (N := 128) none
    (shapeCast S128x4096 v shapeCasts_S1x128x4096_S128x4096) w (constant (F := Ideal) S128x128 .f32 0x00000000#32) (p 0) (p 1)
  rw [show (constant (F := Ideal) S128x128 .f32 0x00000000#32) (ix2 (n0 := 128) (n1 := 128) (p 0) (p 1)) = (0 : EReal) from
    Ideal.ofBits_zero_f32, zero_add] at h
  rw [← show p = ix2 (n0 := 128) (n1 := 128) (p 0) (p 1) from eq_ix2 p] at h
  unfold k0_pay36
  rw [shapeCast_self]
  refine Eq.trans h (Finset.sum_congr rfl fun k _ => ?_)
  rw [shapeCast_1ab_ab_apply (a := 128) (b := 4096) v shapeCasts_S1x128x4096_S128x4096 (p 0) k]

/-- The entries of the own block's product, of a hop's, and of half the far block's: a row of the device whose block
arrives, times a column of the device's own. -/
theorem own_entry (p : S256x128.Idx) : yOwn m ρ c p = entry m ρ c c (p 0) (p 1) := k0_pay2_apply _ _ p

theorem hop_entry (d : Bool) (r : ℕ) (p : S256x128.Idx) :
    yHop m ρ c d r p = entry m ρ (org d (r + 1) c) c (p 0) (p 1) := k0_pay9_apply _ _ p

theorem far_entry (d : Bool) (p : S128x128.Idx) :
    yFar m ρ c d p = entry m ρ (org d 8 c) c
      ⟨128 * (farJ d).val + (p 0).val, by have h1 : (p 0).val < 128 := (p 0).isLt; have := (farJ d).isLt; omega⟩ (p 1) :=
  k0_pay36_apply _ _ p

/-- Every row of the unscaled result comes from the device whose block of `x` holds it. -/
theorem yAt_entry (i : S4096x128.Idx) :
    yAt m ρ c i = entry m ρ ⟨(i 0).val / 256, by have h : (i 0).val < 4096 := (i 0).isLt; show (i 0).val / 256 < 16; omega⟩ c
      ⟨(i 0).val % 256, Nat.mod_lt _ (by decide)⟩ (i 1) := by
  have hi : (i 0).val < 4096 := (i 0).isLt
  have hc : c.val < 16 := c.isLt
  have key : ∀ (o : Dev nD) (r : Fin 256), o.val = (i 0).val / 256 → r.val = (i 0).val % 256 →
      entry m ρ o c r (i 1) = entry m ρ ⟨(i 0).val / 256, by show (i 0).val / 256 < 16; omega⟩ c
        ⟨(i 0).val % 256, Nat.mod_lt _ (by decide)⟩ (i 1) := fun o r ho hr => by
    exact congrArg₂ (fun o r => entry m ρ o c r (i 1)) (Fin.ext ho) (Fin.ext hr)
  unfold yAt
  have hd : rowDist c (i 0).val = ((i 0).val / 256 + 16 - c.val) % 16 := rfl
  have hlt : rowDist c (i 0).val < 16 := Nat.mod_lt _ (by decide)
  split
  · rw [own_entry]
    exact key _ _ (by omega) rfl
  · split
    · rw [hop_entry]
      exact key _ _ (by show (c.val + (rowDist c (i 0).val - 1 + 1) * 1) % 16 = _; omega) rfl
    · split
      · rw [far_entry]
        refine key _ _ ?_ ?_
        · cases decide (128 ≤ (i 0).val % 256)
          · show (c.val + 8 * 15) % 16 = _; omega
          · show (c.val + 8 * 1) % 16 = _; omega
        · by_cases h : 128 ≤ (i 0).val % 256
          · rw [decide_eq_true h]; show 128 * 1 + (i 0).val % 128 = _; omega
          · rw [decide_eq_false h]; show 128 * 0 + (i 0).val % 128 = _; omega
      · rw [hop_entry]
        exact key _ _ (by show (c.val + (15 - rowDist c (i 0).val + 1) * 15) % 16 = _; omega) rfl

end Cert.KernelIdeal.Ring

end
-- ==== Proof.Columns.lean ====
/-
What the kernel leaves, over the extended reals: every entry of the unscaled result is an entry of the product of the
whole matrices, the maximum every device gathers is the largest magnitude of that product, and so a device's result is
its columns of the reference's.
-/
module

public import proofs.«01_k».proof.Proof.Value
public import proofs.«01_k».proof.Proof.Reference
public import Idealize.ShloMosaic.Lib.ValueLayout
public import Idealize.ShloMosaic.Lib.Layout
public import Idealize.ShloMosaic.PureOps.Reduce

@[expose] public section

set_option maxRecDepth 8192

noncomputable section

namespace Cert.KernelIdeal.Ring

open Cert.KernelIdeal Cert.KernelIdeal.Gen

open Idealize.ShloMosaic
open Idealize.ShloMosaic.TcCoe
open Idealize.SL Idealize.SL.Sem
open Idealize.ShloMosaic.ValueIdx
open scoped BigOperators

variable (m : (ℓ : Loc nD τ sig) → Buf (Elt Ideal) ℓ) (ρ : Dev nD → PrngReg) (c : Dev nD)

/-! ## The maxima -/

/-- A reduction to one element by maximum, from minus infinity, is the least bound of the elements. -/
theorem reduce_le {s : Shape} {axes : List (Fin s.rank)} (src : FVec Ideal s .f32) (h : s.Reduces axes S1)
    (hφ : FKind.Formats .f32) (hacc : (0xFF800000#32 : BitVec FTy.f32.bits) = FKind.maximumf.neutral .f32 hφ) (j : S1.Idx) (b : EReal) :
    multiReduction .maximumf axes S1 src 0xFF800000#32 h hφ hacc j ≤ b ↔ ∀ i : s.Idx, src i ≤ b := by
  have hf : (Finset.univ.filter fun i => h.drop i = j) = (Finset.univ : Finset s.Idx) :=
    Finset.filter_true_of_mem fun i _ => funext fun a => by
      have h1 := (h.drop i a).isLt
      have h2 := (j a).isLt
      have h3 : S1.size a = 1 := by fin_cases a; rfl
      exact Fin.ext (by omega)
  have e := multiReduction_maximumf_eq_fold src 0xFF800000#32 h hφ hacc j
  rw [hf] at e
  rw [e]
  show Finset.fold max (Ideal.ofBits .f32 0xFF800000#32) src Finset.univ ≤ b ↔ _
  rw [Rescale.word_bot, Finset.fold_max_le]
  exact ⟨fun h i => h.2 i (Finset.mem_univ i), fun h => ⟨bot_le, fun i _ => h i⟩⟩

/-- The one element of a reshaped one-element array. -/
theorem extract_one (v : FVec Ideal S1 .f32) :
    ∃ j : S1.Idx, extractAt ![0, 0, 0] (shapeCast S1x1x1 v shapeCasts_S1_S1x1x1) inpos_S1x1x1_p0_0_0 = v j := ⟨_, rfl⟩

/-- A bound of the magnitudes of a reshaped array is one of the array's. -/
theorem cast_le {s t : Shape} (y : FVec Ideal s .f32) (h : s.ShapeCasts t) (b : EReal)
    (hs : ∀ p : s.Idx, ∃ i : t.Idx, ∀ z : FVec Ideal s .f32, shapeCast t z h i = z p) :
    (∀ i : t.Idx, shapeCast t (absf y) h i ≤ b) ↔ ∀ p : s.Idx, max (y p) (-(y p)) ≤ b := by
  constructor
  · intro hb p
    obtain ⟨i, hi⟩ := hs p
    exact le_of_eq_of_le (hi (absf y)).symm (hb i)
  · exact fun hb i => hb _

/-- The maximum of a product of 256 rows is the least bound of its magnitudes. -/
theorem amax256_le (y : FVec Ideal S256x128 .f32) (b : EReal) :
    amax256 y ≤ b ↔ ∀ p : S256x128.Idx, max (y p) (-(y p)) ≤ b := by
  obtain ⟨j, hj⟩ := extract_one (multiReduction .maximumf [1, 2] S1
    (shapeCast S1x256x128 (absf y) shapeCasts_S256x128_S1x256x128) 0xFF800000#32 reduces_S1x256x128_S1 (.inl rfl) rfl)
  unfold amax256
  refine (iff_of_eq (congrArg (· ≤ b) hj)).trans ((reduce_le (shapeCast S1x256x128 (absf y) shapeCasts_S256x128_S1x256x128)
    reduces_S1x256x128_S1 (.inl rfl) rfl j b).trans (cast_le y _ b (fun p => ⟨ix3 (n0 := 1) (n1 := 256) (n2 := 128) 0 (p 0) (p 1), ?_⟩)))
  exact fun z => (shapeCast_ab_1ab_apply (a := 256) (b := 128) z shapeCasts_S256x128_S1x256x128 0 (p 0) (p 1)).trans (congrArg z (eq_ix2 p).symm)

/-- The maximum of a product of 128 rows is the least bound of its magnitudes. -/
theorem amax128_le (y : FVec Ideal S128x128 .f32) (b : EReal) :
    amax128 y ≤ b ↔ ∀ p : S128x128.Idx, max (y p) (-(y p)) ≤ b := by
  obtain ⟨j, hj⟩ := extract_one (multiReduction .maximumf [1, 2] S1
    (shapeCast S1x128x128 (absf y) shapeCasts_S128x128_S1x128x128) 0xFF800000#32 reduces_S1x128x128_S1 (.inl rfl) rfl)
  unfold amax128
  refine (iff_of_eq (congrArg (· ≤ b) hj)).trans ((reduce_le (shapeCast S1x128x128 (absf y) shapeCasts_S128x128_S1x128x128)
    reduces_S1x128x128_S1 (.inl rfl) rfl j b).trans (cast_le y _ b (fun p => ⟨ix3 (n0 := 1) (n1 := 128) (n2 := 128) 0 (p 0) (p 1), ?_⟩)))
  exact fun z => (shapeCast_ab_1ab_apply (a := 128) (b := 128) z shapeCasts_S128x128_S1x128x128 0 (p 0) (p 1)).trans (congrArg z (eq_ix2 p).symm)

/-- The bounds of a maximum of three. -/
theorem max2_le (x y z b : Ideal .f32) :
    Scalar.maximumf (F := Ideal) (φ := .f32) (Scalar.maximumf (F := Ideal) (φ := .f32) x y) z ≤ b ↔ (x ≤ b ∧ y ≤ b) ∧ z ≤ b := by
  show max (max x y) z ≤ b ↔ _
  rw [max_le_iff, max_le_iff]

/-- A running maximum is bounded when the own block's and each hop's is. -/
theorem accAt_le (n : ℕ) (b : EReal) :
    accAt m ρ c n ≤ b ↔ amax256 (yOwn m ρ c) ≤ b ∧ ∀ (d : Bool) (r : ℕ), r < n → amax256 (yHop m ρ c d r) ≤ b := by
  induction n with
  | zero => exact ⟨fun h => ⟨h, fun _ r hr => absurd hr (Nat.not_lt_zero r)⟩, fun h => h.1⟩
  | succ n ih =>
    rw [accAt, max2_le, ih]
    constructor
    · rintro ⟨⟨⟨h0, h⟩, hf⟩, ht⟩
      refine ⟨h0, fun d r hr => ?_⟩
      rcases Nat.lt_succ_iff_lt_or_eq.mp hr with hr | rfl
      · exact h d r hr
      · cases d
        · exact hf
        · exact ht
    · exact fun ⟨h0, h⟩ => ⟨⟨⟨h0, fun d r hr => h d r (Nat.lt_succ_of_lt hr)⟩, h false n (Nat.lt_succ_self n)⟩, h true n (Nat.lt_succ_self n)⟩

/-- A device's maximum is the least bound of the magnitudes of its unscaled result. -/
theorem amaxV_le (b : EReal) : amaxV m ρ c ≤ b ↔ ∀ i : S4096x128.Idx, max (yAt m ρ c i) (-(yAt m ρ c i)) ≤ b := by
  rw [amaxV, max2_le, accAt_le]
  constructor
  · rintro ⟨⟨⟨h0, h⟩, hf⟩, ht⟩ i
    have hfar : ∀ d, amax128 (yFar m ρ c d) ≤ b := fun d => by cases d; exacts [hf, ht]
    have hlt : rowDist c (i 0).val < 16 := Nat.mod_lt _ (by decide)
    unfold yAt
    split
    · exact (amax256_le _ _).mp h0 _
    · split
      · exact (amax256_le _ _).mp (h true _ (by omega)) _
      · split
        · exact (amax128_le _ _).mp (hfar _) _
        · exact (amax256_le _ _).mp (h false _ (by omega)) _
  · intro h
    have hfar : ∀ d, amax128 (yFar m ρ c d) ≤ b := fun d => (amax128_le _ _).mpr fun p => by rw [yAt_far]; exact h _
    refine ⟨⟨⟨(amax256_le _ _).mpr fun p => by rw [yAt_own]; exact h _, fun d r hr => (amax256_le _ _).mpr fun p => ?_⟩, hfar false⟩, hfar true⟩
    rw [yAt_hop m ρ c d ⟨r, hr⟩]; exact h _

/-- The bounds of a maximum taken over a list. -/
theorem foldl_max_le (f : Fin 16 → EReal) (l : List (Fin 16)) (a b : EReal) :
    l.foldl (fun a o => Scalar.maximumf (F := Ideal) (φ := .f32) a (f o)) a ≤ b ↔ a ≤ b ∧ ∀ o ∈ l, f o ≤ b := by
  induction l generalizing a with
  | nil => simp
  | cons o l ih =>
    rw [List.foldl_cons, ih]
    show max a (f o) ≤ b ∧ _ ↔ _
    rw [max_le_iff, List.forall_mem_cons, and_assoc]

/-- The gathered maximum is the least bound of every device's. -/
theorem gMax_le (b : EReal) : gMax m ρ c ≤ b ↔ ∀ o : Dev nD, amaxV m ρ o ≤ b := by
  unfold gMax
  rw [foldl_max_le (fun o => amaxV m ρ (sh o.val c))]
  constructor
  · rintro ⟨h0, h⟩ o
    have hc : c.val < 16 := c.isLt
    have ho : o.val < 16 := o.isLt
    have e : ∀ s : ℕ, (c.val + s) % 16 = o.val → sh s c = o := fun s hs => Fin.ext hs
    by_cases hz : (o.val + 16 - c.val) % 16 = 0
    · rw [show o = c from Fin.ext (by omega)]; exact h0
    · have := h ⟨(o.val + 16 - c.val) % 16, Nat.mod_lt _ (by decide)⟩ (by
        have hall : ∀ s : Fin 16, s.val ≠ 0 → s ∈ ([1, 2, 3, 4, 5, 6, 7, 8, 9, 10, 11, 12, 13, 14, 15] : List (Fin 16)) := by decide
        exact hall _ hz)
      rw [e _ (by show (c.val + (o.val + 16 - c.val) % 16) % 16 = o.val; omega)] at this
      exact this
  · exact fun h => ⟨h c, fun o _ => h _⟩

/-! ## The result -/

/-- One entry rescaled by the kernel is that entry rescaled by the reference. -/
theorem scaled_apply (g : EReal) (y : FVec Ideal S4096x128 .f32) (i : S4096x128.Idx) :
    scaled (F := Ideal) g y i = Rescale.quant Whole.lo g (y i) := by
  unfold scaled
  rw [shapeCast_self]
  show min (Ideal.ofBits .f32 0x42FE0000#32) (max (Ideal.ofBits .f32 0xC2FE0000#32) (Ideal.liftRound Ideal.roundHalfEven
    (y i * Ideal.div (Ideal.ofBits .f32 0x42FE0000#32) g))) * Ideal.div g (Ideal.ofBits .f32 0x42FE0000#32) = _
  rw [Rescale.word_127]
  exact Rescale.quant_eq _ g _

/-- How the whole matrices are cut: `x` by rows, `w_mat` and the result by columns. -/
theorem tiles_x : Layout.Tiles ⟨2, ![256, 4096]⟩ ⟨2, ![4096, 4096]⟩ 0 16 := by decide
theorem tiles_w : Layout.Tiles ⟨2, ![4096, 128]⟩ ⟨2, ![4096, 2048]⟩ 1 16 := by decide

section Whole

variable (X : FVec Ideal Cert.ReferenceIdeal.S4096x4096 .f32) (W : FVec Ideal Cert.ReferenceIdeal.S4096x2048 .f32)
variable (hX : ∀ c : Dev nD, m ((c : Thread nD τ).loc main_arg0) = Layout.block ⟨2, ![256, 4096]⟩ ⟨2, ![4096, 4096]⟩ 0 16 c X tiles_x)
variable (hW : ∀ c : Dev nD, m ((c : Thread nD τ).loc main_arg1) = Layout.block ⟨2, ![4096, 128]⟩ ⟨2, ![4096, 2048]⟩ 1 16 c W tiles_w)

/-- The column of the whole product that is column `l` on device `c`. -/
def col (c : Dev nD) (l : Fin 128) : Fin 2048 := ⟨c.val * 128 + l.val, by have h : c.val < 16 := c.isLt; omega⟩

include hX hW in
/-- The unscaled result on device `c` is its columns of the product of the whole matrices. -/
theorem yAt_product (i : S4096x128.Idx) :
    yAt m ρ c i = Whole.product X W (ix2 (n0 := 4096) (n1 := 2048) (i 0) (col c (i 1))) := by
  have hi : (i 0).val < 4096 := (i 0).isLt
  rw [yAt_entry]
  unfold entry dotAt Whole.product
  refine Finset.sum_congr rfl fun k _ => ?_
  rw [xstg_eq, wstg_eq, hX, hW]
  refine congrArg₂ (· * ·) (congrArg X (funext fun a => ?_)) (congrArg W (funext fun a => ?_))
  · match a with
    | ⟨0, _⟩ => exact Fin.ext (by show (i 0).val / 256 * 256 + (i 0).val % 256 = (i 0).val; omega)
    | ⟨1, _⟩ => rfl
  · match a with
    | ⟨0, _⟩ => rfl
    | ⟨1, _⟩ => rfl

include hX hW in
/-- The maximum every device gathers is the largest magnitude of the whole product. -/
theorem gMax_largest : gMax m ρ c = Whole.largest (Whole.product X W) := by
  refine eq_of_forall_ge_iff fun b => ?_
  rw [gMax_le, Whole.largest_le]
  constructor
  · intro h i
    have h1 : (i 1).val < 2048 := (i 1).isLt
    have := (amaxV_le m ρ ⟨(i 1).val / 128, by change _ < 16; omega⟩ b).mp (h _)
      (ix2 (n0 := 4096) (n1 := 128) (i 0) ⟨(i 1).val % 128, Nat.mod_lt _ (by decide)⟩)
    rw [yAt_product m ρ _ X W hX hW] at this
    have e : ix2 (n0 := 4096) (n1 := 2048) (i 0) (col ⟨(i 1).val / 128, by change _ < 16; omega⟩ ⟨(i 1).val % 128, Nat.mod_lt _ (by decide)⟩) = i :=
      funext fun a => match a with
        | ⟨0, _⟩ => rfl
        | ⟨1, _⟩ => Fin.ext (by show (i 1).val / 128 * 128 + (i 1).val % 128 = (i 1).val; omega)
    rw [show (ix2 (n0 := 4096) (n1 := 2048)
        ((ix2 (n0 := 4096) (n1 := 128) (i 0) ⟨(i 1).val % 128, Nat.mod_lt _ (by decide)⟩) 0)
        (col ⟨(i 1).val / 128, by change _ < 16; omega⟩
          ((ix2 (n0 := 4096) (n1 := 128) (i 0) ⟨(i 1).val % 128, Nat.mod_lt _ (by decide)⟩) 1))) = i from e] at this
    exact this
  · exact fun h o => (amaxV_le m ρ o b).mpr fun i => by rw [yAt_product m ρ o X W hX hW]; exact h _

include hX hW in
/-- A device's result is its columns of the reference's. -/
theorem out_block : outAt m ρ c = Layout.block ⟨2, ![4096, 128]⟩ ⟨2, ![4096, 2048]⟩ 1 16 c (Whole.result X W) tiles_w := by
  funext i
  rw [Layout.block_apply]
  unfold outAt Whole.result
  rw [gMax_largest m ρ c X W hX hW, scaled_apply, yAt_product m ρ c X W hX hW i]
  refine congrArg (Rescale.quant Whole.lo _) (congrArg (Whole.product X W) (funext fun a => ?_))
  match a with
  | ⟨0, _⟩ => rfl
  | ⟨1, _⟩ => rfl

end Whole

end Cert.KernelIdeal.Ring

end
-- ==== Proof.lean ====
module

public import proofs.«01_k».proof.Defs
public import proofs.«01_k».proof.Proof.Run
public import proofs.«01_k».proof.Proof.KRun
public import proofs.«01_k».proof.Proof.Columns
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel as printed runs on the sixteen devices, keeps its two arguments and ends with every counter at zero. -/
theorem frame_kernel : Cert.quiescent_Kernel := fun m ρ _ =>
  (θ_run Cert.Kernel.defs _ _).mono
    (fun _ h => ⟨fun c => ⟨(h.1 c (0 : Fin 3)).trans (Cert.Kernel.Ring.final_x m ρ c), (h.1 c (1 : Fin 3)).trans (Cert.Kernel.Ring.final_w m ρ c)⟩, h.2⟩)
    (Cert.Kernel.Ring.run_main (F := Bits) m ρ)

/-- The same of the kernel read over the extended reals. -/
theorem frame_ideal : Cert.quiescent_KernelIdeal := fun m ρ _ =>
  (θ_run Cert.KernelIdeal.defs _ _).mono
    (fun _ h => ⟨fun c => ⟨(h.1 c (0 : Fin 3)).trans (Cert.KernelIdeal.Ring.final_x m ρ c), (h.1 c (1 : Fin 3)).trans (Cert.KernelIdeal.Ring.final_w m ρ c)⟩, h.2⟩)
    (Cert.KernelIdeal.Ring.run_main (F := Ideal) m ρ)

/-- The reference runs on its one device and keeps its arguments; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals each device ends with its columns of the reference's result: the product of the whole
matrices, every entry rescaled by the largest magnitude. -/
theorem value : Cert.algebraic_KernelIdeal_ReferenceIdeal := by
  intro m g m' g' _ hagree
  refine ⟨Cert.Whole.result (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨((h.1 c (2 : Fin 3)).trans (Cert.KernelIdeal.Ring.final_o m g c)).trans
          (Cert.KernelIdeal.Ring.out_block m g c _ _ (fun c => (hagree c).1) (fun c => (hagree c).2)),
        (h.1 c (0 : Fin 3)).trans (Cert.KernelIdeal.Ring.final_x m g c), (h.1 c (1 : Fin 3)).trans (Cert.KernelIdeal.Ring.final_w m g c)⟩)
      (Cert.KernelIdeal.Ring.run_main (F := Ideal) m g)
  · exact (θ_run Cert.ReferenceIdeal.defs _ _).mono (fun _ h => h 0) (Cert.Whole.run_result m' g')

/-- Everything the certificate states. -/
theorem claim : Cert.Claim := ⟨Cert.Kernel.Gen.facts, Cert.KernelIdeal.Gen.facts, Cert.ReferenceIdeal.Gen.facts,
  frame_kernel, frame_ideal, frame_reference, trivial, value⟩

end Cert.Proof

end
